-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_rows [hPre_finite_rows : Cert.Pre_finite_rows.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_rows [hPre_finite_rows : Cert.Pre_finite_rows.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_rows.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_rows [hKernel5Ideal : Cert.Kernel5Ideal.Facts] [hPre_finite_rows : Cert.Pre_finite_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_rows m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_rows [hReference5Ideal : Cert.Reference5Ideal.Facts] [hPre_finite_rows : Cert.Pre_finite_rows.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_rows m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.bf16_pair.BufferStatement Cert.Kernel2Ideal.S32768x2x512 Cert.Kernel2Ideal.S32768x1x512
  ∧ IdealRules.bf16_pair.BufferStatement Cert.Kernel2Ideal.S512x2x512 Cert.Kernel2Ideal.S512x1x512
  ∧ IdealRules.bf16_pair.Statement Cert.Kernel2Ideal.S512x2x512 Cert.Kernel2Ideal.S512x1x512
  ∧ IdealRules.bf16_pack.Statement Cert.Kernel2Ideal.S512x512

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  IdealRules.bf16_pair.Statement Cert.Kernel4Ideal.S1x1024x512 Cert.Kernel4Ideal.S1x512x512
  ∧ IdealRules.bf16_pair.Statement Cert.Kernel4Ideal.S1024x512 Cert.Kernel4Ideal.S512x512

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_rows [hKernel5Ideal : Cert.Kernel5Ideal.Facts] [hReference5Ideal : Cert.Reference5Ideal.Facts] [hPre_finite_rows : Cert.Pre_finite_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_rows m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v74_0)) (v1 : (c : Dev Cert.Kernel5Ideal.nD) → Buf (Elt Ideal) ((c.tc : Thread Cert.Kernel5Ideal.nD Cert.Kernel5Ideal.τ).loc Cert.Kernel5Ideal.main_v74_1)) (v2 : (c : Dev Cert.Kernel5Ideal.nD) → Buf (Elt Ideal) ((c.tc : Thread Cert.Kernel5Ideal.nD Cert.Kernel5Ideal.τ).loc Cert.Kernel5Ideal.main_v74_2)) (v3 : (c : Dev Cert.Kernel5Ideal.nD) → Buf (Elt Ideal) ((c.tc : Thread Cert.Kernel5Ideal.nD Cert.Kernel5Ideal.τ).loc Cert.Kernel5Ideal.main_v74_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v74_0) = v0 c
          ∧ r.2.mem ((c.tc : Thread Cert.Kernel5Ideal.nD Cert.Kernel5Ideal.τ).loc Cert.Kernel5Ideal.main_v74_1) = v1 c
          ∧ r.2.mem ((c.tc : Thread Cert.Kernel5Ideal.nD Cert.Kernel5Ideal.τ).loc Cert.Kernel5Ideal.main_v74_2) = v2 c
          ∧ r.2.mem ((c.tc : Thread Cert.Kernel5Ideal.nD Cert.Kernel5Ideal.τ).loc Cert.Kernel5Ideal.main_v74_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v109) = v0 c
          ∧ r.2.mem ((c.tc : Thread Cert.Reference5Ideal.nD Cert.Reference5Ideal.τ).loc Cert.Reference5Ideal.main_v113) = v1 c
          ∧ r.2.mem ((c.tc : Thread Cert.Reference5Ideal.nD Cert.Reference5Ideal.τ).loc Cert.Reference5Ideal.main_v122) = v2 c
          ∧ r.2.mem ((c.tc : Thread Cert.Reference5Ideal.nD Cert.Reference5Ideal.τ).loc Cert.Reference5Ideal.main_v124) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_rows (hKernel5Ideal := hKernel5Ideal) (hPre_finite_rows := hPre_finite_rows)
    ∧ quiescent_Reference5Ideal (hReference5Ideal := hReference5Ideal)
    ∧ quiescent_Reference5Ideal_pre_finite_rows (hReference5Ideal := hReference5Ideal) (hPre_finite_rows := hPre_finite_rows)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_rows (hKernel5Ideal := hKernel5Ideal) (hReference5Ideal := hReference5Ideal) (hPre_finite_rows := hPre_finite_rows)
-- ==== Pre_finite.lean ====
abbrev S16x8x2048x64 : Shape := ⟨4, ![16, 8, 2048, 64]⟩
abbrev S16x8x2048x32 : Shape := ⟨4, ![16, 8, 2048, 32]⟩
abbrev S16x2048x32 : Shape := ⟨3, ![16, 2048, 32]⟩
abbrev S_ : Shape := ⟨0, ![]⟩

class Facts : Prop where
  bcast_S_S16x8x2048x64 : S_.BroadcastsInDim S16x8x2048x64 (![] : Fin 0 → Fin S16x8x2048x64.rank)
  reducesTo_S16x8x2048x64_S_d0_1_2_3 : S16x8x2048x64.ReducesTo [0, 1, 2, 3] S_
  h_S_ : 0 < S_.numel
  bcast_S_S16x8x2048x32 : S_.BroadcastsInDim S16x8x2048x32 (![] : Fin 0 → Fin S16x8x2048x32.rank)
  reducesTo_S16x8x2048x32_S_d0_1_2_3 : S16x8x2048x32.ReducesTo [0, 1, 2, 3] S_
  bcast_S_S16x2048x32 : S_.BroadcastsInDim S16x2048x32 (![] : Fin 0 → Fin S16x2048x32.rank)
  reducesTo_S16x2048x32_S_d0_1_2 : S16x2048x32.ReducesTo [0, 1, 2] S_

variable [Facts]

def fn_part1 {F : FTy → Type} [FloatOps F] (main_v13 : IVec S_ 1) (main_v16 : IVec S16x2048x32 1) : IVec S_ 1 :=
  let main_c_5 : IVec S_ 1 := constantI S_ 1 1#1
  let main_v17 : IVec S_ 1 := (fun x v => Host.reduce IntOp.andi x v reducesTo_S16x2048x32_S_d0_1_2 h_S_) main_v16 main_c_5
  let main_v18 : IVec S_ 1 := andi main_v13 main_v17
  main_v18

def fn {F : FTy → Type} [FloatOps F] (main_arg0 : FVec F S16x8x2048x64 .f32) (main_arg1 : FVec F S16x8x2048x32 .f32) (main_arg2 : FVec F S16x8x2048x64 .f32) (main_arg3 : FVec F S16x2048x32 .f32) (main_arg4 : FVec F S16x8x2048x64 .f32) : IVec S_ 1 :=
  let main_v0 : FVec F S16x8x2048x64 .f32 := Host.absf main_arg0
  let main_cst : FVec F S_ .f32 := constant S_ .f32 0x7F800000#32
  let main_v1 : FVec F S16x8x2048x64 .f32 := broadcastInDim S16x8x2048x64 ![] bcast_S_S16x8x2048x64 main_cst
  let main_v2 : IVec S16x8x2048x64 1 := cmpf .olt main_v0 main_v1
  let main_c : IVec S_ 1 := constantI S_ 1 1#1
  let main_v3 : IVec S_ 1 := (fun x v => Host.reduce IntOp.andi x v reducesTo_S16x8x2048x64_S_d0_1_2_3 h_S_) main_v2 main_c
  let main_v4 : FVec F S16x8x2048x32 .f32 := Host.absf main_arg1
  let main_cst_0 : FVec F S_ .f32 := constant S_ .f32 0x7F800000#32
  let main_v5 : FVec F S16x8x2048x32 .f32 := broadcastInDim S16x8x2048x32 ![] bcast_S_S16x8x2048x32 main_cst_0
  let main_v6 : IVec S16x8x2048x32 1 := cmpf .olt main_v4 main_v5
  let main_c_1 : IVec S_ 1 := constantI S_ 1 1#1
  let main_v7 : IVec S_ 1 := (fun x v => Host.reduce IntOp.andi x v reducesTo_S16x8x2048x32_S_d0_1_2_3 h_S_) main_v6 main_c_1
  let main_v8 : IVec S_ 1 := andi main_v3 main_v7
  let main_v9 : FVec F S16x8x2048x64 .f32 := Host.absf main_arg2
  let main_cst_2 : FVec F S_ .f32 := constant S_ .f32 0x7F800000#32
  let main_v10 : FVec F S16x8x2048x64 .f32 := broadcastInDim S16x8x2048x64 ![] bcast_S_S16x8x2048x64 main_cst_2
  let main_v11 : IVec S16x8x2048x64 1 := cmpf .olt main_v9 main_v10
  let main_c_3 : IVec S_ 1 := constantI S_ 1 1#1
  let main_v12 : IVec S_ 1 := (fun x v => Host.reduce IntOp.andi x v reducesTo_S16x8x2048x64_S_d0_1_2_3 h_S_) main_v11 main_c_3
  let main_v13 : IVec S_ 1 := andi main_v8 main_v12
  let main_v14 : FVec F S16x2048x32 .f32 := Host.absf main_arg3
  let main_cst_4 : FVec F S_ .f32 := constant S_ .f32 0x7F800000#32
  let main_v15 : FVec F S16x2048x32 .f32 := broadcastInDim S16x2048x32 ![] bcast_S_S16x2048x32 main_cst_4
  let main_v16 : IVec S16x2048x32 1 := cmpf .olt main_v14 main_v15
  fn_part1 (F := F) main_v13 main_v16
-- ==== Pre_finite_rows.lean ====
abbrev S16x2048x1024 : Shape := ⟨3, ![16, 2048, 1024]⟩
abbrev S1024x5028 : Shape := ⟨2, ![1024, 5028]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S4 : Shape := ⟨1, ![4]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x5028 : S_.BroadcastsInDim S1024x5028 (![] : Fin 0 → Fin S1024x5028.rank)
  reducesTo_S1024x5028_S_d0_1 : S1024x5028.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_

variable [Facts]

def fn_part1 {F : FTy → Type} [FloatOps F] (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  main_v18

def fn {F : FTy → Type} [FloatOps F] (main_arg0 : FVec F S16x2048x1024 .f32) (main_arg1 : FVec F S1024x5028 .f32) (main_arg2 : FVec F S256 .f32) (main_arg3 : FVec F S256x768 .f32) (main_arg4 : FVec F S128 .f32) (main_arg5 : FVec F S128x1024 .f32) (main_arg6 : FVec F S4 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x5028 .f32 := Host.absf main_arg1
  let main_cst_0 : FVec F S_ .f32 := constant S_ .f32 0x7F800000#32
  let main_v5 : FVec F S1024x5028 .f32 := broadcastInDim S1024x5028 ![] bcast_S_S1024x5028 main_cst_0
  let main_v6 : IVec S1024x5028 1 := cmpf .olt main_v4 main_v5
  let main_c_1 : IVec S_ 1 := constantI S_ 1 1#1
  let main_v7 : IVec S_ 1 := (fun x v => Host.reduce IntOp.andi x v reducesTo_S1024x5028_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x768 .f32 := Host.absf main_arg3
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_v13 main_v16
-- ==== Kernel.lean ====
abbrev S16x8x2048x64 : Shape := ⟨4, ![16, 8, 2048, 64]⟩
abbrev S16x8x2048x32 : Shape := ⟨4, ![16, 8, 2048, 32]⟩
abbrev S16x2048x32 : Shape := ⟨3, ![16, 2048, 32]⟩
abbrev S_ : Shape := ⟨0, ![]⟩
abbrev S16x8x2048x96 : Shape := ⟨4, ![16, 8, 2048, 96]⟩
abbrev S16x2048x8x96 : Shape := ⟨4, ![16, 2048, 8, 96]⟩
abbrev S16x2048x8x128 : Shape := ⟨4, ![16, 2048, 8, 128]⟩
abbrev S16x2048x1024 : Shape := ⟨3, ![16, 2048, 1024]⟩
abbrev S16x1x2048x32 : Shape := ⟨4, ![16, 1, 2048, 32]⟩
abbrev S16x2048x8x64 : Shape := ⟨4, ![16, 2048, 8, 64]⟩
abbrev S16x2048x512 : Shape := ⟨3, ![16, 2048, 512]⟩
abbrev S1x2048x256 : Shape := ⟨3, ![1, 2048, 256]⟩
abbrev S1x2048x128 : Shape := ⟨3, ![1, 2048, 128]⟩
abbrev S512x512 : Shape := ⟨2, ![512, 512]⟩
abbrev S1x2048 : Shape := ⟨2, ![1, 2048]⟩
abbrev S64x2048 : Shape := ⟨2, ![64, 2048]⟩
abbrev S1x512x128 : Shape := ⟨3, ![1, 512, 128]⟩
abbrev S512x128 : Shape := ⟨2, ![512, 128]⟩
abbrev S1x512x64 : Shape := ⟨3, ![1, 512, 64]⟩
abbrev S512x64 : Shape := ⟨2, ![512, 64]⟩
abbrev S2048x128 : Shape := ⟨2, ![2048, 128]⟩
abbrev S512x2048 : Shape := ⟨2, ![512, 2048]⟩
abbrev S512x1536 : Shape := ⟨2, ![512, 1536]⟩
abbrev S2048 : Shape := ⟨1, ![2048]⟩
abbrev S1x1536x128 : Shape := ⟨3, ![1, 1536, 128]⟩
abbrev S1536x128 : Shape := ⟨2, ![1536, 128]⟩
abbrev S512x1024 : Shape := ⟨2, ![512, 1024]⟩
abbrev S1x1536 : Shape := ⟨2, ![1, 1536]⟩
abbrev S64x1536 : Shape := ⟨2, ![64, 1536]⟩
abbrev S1536 : Shape := ⟨1, ![1536]⟩
abbrev S1x512 : Shape := ⟨2, ![1, 512]⟩
abbrev S64x512 : Shape := ⟨2, ![64, 512]⟩
abbrev S1x1024x128 : Shape := ⟨3, ![1, 1024, 128]⟩
abbrev S1024x128 : Shape := ⟨2, ![1024, 128]⟩
abbrev S1x1024 : Shape := ⟨2, ![1, 1024]⟩
abbrev S64x1024 : Shape := ⟨2, ![64, 1024]⟩
abbrev S1024 : Shape := ⟨1, ![1024]⟩
abbrev S512 : Shape := ⟨1, ![512]⟩
abbrev S128x2048 : Shape := ⟨2, ![128, 2048]⟩

abbrev nBuf : Space → Nat
  | .hbm => 34
  | .vmem => 8
  | .smem => 0
  | _ => 0

abbrev bufTy : (tb : Table) → Fin (tcTables nBuf tb) → BufTy
  | .hbm, ⟨0, _⟩ => ⟨S16x8x2048x64, .f32⟩
  | .hbm, ⟨1, _⟩ => ⟨S16x8x2048x32, .f32⟩
  | .hbm, ⟨2, _⟩ => ⟨S16x8x2048x64, .f32⟩
  | .hbm, ⟨3, _⟩ => ⟨S16x2048x32, .f32⟩
  | .hbm, ⟨4, _⟩ => ⟨S16x8x2048x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x8x2048x96, .f32⟩
  | .hbm, ⟨10, _⟩ => ⟨S16x2048x8x96, .f32⟩
  | .hbm, ⟨11, _⟩ => ⟨S_, .i32⟩
  | .hbm, ⟨12, _⟩ => ⟨S_, .f32⟩
  | .hbm, ⟨13, _⟩ => ⟨S16x2048x8x128, .f32⟩
  | .hbm, ⟨14, _⟩ => ⟨S16x2048x1024, .f32⟩
  | .hbm, ⟨15, _⟩ => ⟨S_, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S16x2048x1024, .bf16⟩
  | .hbm, ⟨21, _⟩ => ⟨S16x1x2048x32, .f32⟩
  | .hbm, ⟨22, _⟩ => ⟨S16x8x2048x32, .f32⟩
  | .hbm, ⟨23, _⟩ => ⟨S16x8x2048x96, .f32⟩
  | .hbm, ⟨24, _⟩ => ⟨S16x2048x8x96, .f32⟩
  | .hbm, ⟨25, _⟩ => ⟨S_, .i32⟩
  | .hbm, ⟨26, _⟩ => ⟨S_, .f32⟩
  | .hbm, ⟨27, _⟩ => ⟨S16x2048x8x128, .f32⟩
  | .hbm, ⟨28, _⟩ => ⟨S16x2048x1024, .f32⟩
  | .hbm, ⟨29, _⟩ => ⟨S16x2048x1024, .bf16⟩
  | .hbm, ⟨30, _⟩ => ⟨S16x2048x8x64, .f32⟩
  | .hbm, ⟨31, _⟩ => ⟨S16x2048x512, .f32⟩
  | .hbm, ⟨32, _⟩ => ⟨S16x2048x512, .bf16⟩
  | .hbm, ⟨33, _⟩ => ⟨S16x2048x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | _, _ => ⟨S16x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x8x2048x64 : Shape := ⟨4, ![16, 8, 2048, 64]⟩
abbrev S16x8x2048x32 : Shape := ⟨4, ![16, 8, 2048, 32]⟩
abbrev S16x2048x32 : Shape := ⟨3, ![16, 2048, 32]⟩
abbrev S2048 : Shape := ⟨1, ![2048]⟩
abbrev S16x8x2048x2048 : Shape := ⟨4, ![16, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x2048x8x64 : Shape := ⟨4, ![16, 2048, 8, 64]⟩
abbrev S16x2048x512 : Shape := ⟨3, ![16, 2048, 512]⟩

abbrev nBuf : Space → Nat
  | .hbm => 76
  | .vmem => 0
  | .smem => 0
  | _ => 0

abbrev bufTy : (tb : Table) → Fin (tcTables nBuf tb) → BufTy
  | .hbm, ⟨0, _⟩ => ⟨S16x8x2048x64, .f32⟩
  | .hbm, ⟨1, _⟩ => ⟨S16x8x2048x32, .f32⟩
  | .hbm, ⟨2, _⟩ => ⟨S16x8x2048x64, .f32⟩
  | .hbm, ⟨3, _⟩ => ⟨S16x2048x32, .f32⟩
  | .hbm, ⟨4, _⟩ => ⟨S16x8x2048x64, .f32⟩
  | .hbm, ⟨5, _⟩ => ⟨S2048, .i32⟩
  | .hbm, ⟨6, _⟩ => ⟨S16x8x2048x2048, .f32⟩
  | .hbm, ⟨7, _⟩ => ⟨S16x8x2048x2048, .f32⟩
  | .hbm, ⟨8, _⟩ => ⟨S16x8x2048x2048, .f32⟩
  | .hbm, ⟨9, _⟩ => ⟨S_, .f32⟩
  | .hbm, ⟨10, _⟩ => ⟨S16x8x2048x2048, .f32⟩
  | .hbm, ⟨11, _⟩ => ⟨S16x8x2048x2048, .f32⟩
  | .hbm, ⟨12, _⟩ => ⟨S1x2048, .i32⟩
  | .hbm, ⟨13, _⟩ => ⟨S_, .i32⟩
  | .hbm, ⟨14, _⟩ => ⟨S_, .i32⟩
  | .hbm, ⟨15, _⟩ => ⟨S1x2048, .i32⟩
  | .hbm, ⟨16, _⟩ => ⟨S1x2048, .i32⟩
  | .hbm, ⟨17, _⟩ => ⟨S1x2048, .i32⟩
  | .hbm, ⟨18, _⟩ => ⟨S_, .i32⟩
  | .hbm, ⟨19, _⟩ => ⟨S1x2048, .i32⟩
  | .hbm, ⟨20, _⟩ => ⟨S1x2048, .i1⟩
  | .hbm, ⟨21, _⟩ => ⟨S1x2048, .i32⟩
  | .hbm, ⟨22, _⟩ => ⟨S1x2048, .i32⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S1x2048, .i1⟩
  | .hbm, ⟨27, _⟩ => ⟨S_, .i32⟩
  | .hbm, ⟨28, _⟩ => ⟨S1x2048, .i32⟩
  | .hbm, ⟨29, _⟩ => ⟨S1x2048, .i32⟩
  | .hbm, ⟨30, _⟩ => ⟨S1x2048, .i32⟩
  | .hbm, ⟨31, _⟩ => ⟨S2048x1, .i32⟩
  | .hbm, ⟨32, _⟩ => ⟨S_, .i32⟩
  | .hbm, ⟨33, _⟩ => ⟨S_, .i32⟩
  | .hbm, ⟨34, _⟩ => ⟨S2048x1, .i32⟩
  | .hbm, ⟨35, _⟩ => ⟨S2048x1, .i32⟩
  | .hbm, ⟨36, _⟩ => ⟨S2048x1, .i32⟩
  | .hbm, ⟨37, _⟩ => ⟨S_, .i32⟩
  | .hbm, ⟨38, _⟩ => ⟨S2048x1, .i32⟩
  | .hbm, ⟨39, _⟩ => ⟨S2048x1, .i1⟩
  | .hbm, ⟨40, _⟩ => ⟨S2048x1, .i32⟩
  | .hbm, ⟨41, _⟩ => ⟨S2048x1, .i32⟩
  | .hbm, ⟨42, _⟩ => ⟨S_, .i32⟩
  | .hbm, ⟨43, _⟩ => ⟨S2048x1, .i32⟩
  | .hbm, ⟨44, _⟩ => ⟨S2048x1, .i1⟩
  | .hbm, ⟨45, _⟩ => ⟨S2048x1, .i1⟩
  | .hbm, ⟨46, _⟩ => ⟨S_, .i32⟩
  | .hbm, ⟨47, _⟩ => ⟨S2048x1, .i32⟩
  | .hbm, ⟨48, _⟩ => ⟨S2048x1, .i32⟩
  | .hbm, ⟨49, _⟩ => ⟨S2048x1, .i32⟩
  | .hbm, ⟨50, _⟩ => ⟨S2048x2048, .i32⟩
  | .hbm, ⟨51, _⟩ => ⟨S2048x2048, .i32⟩
  | .hbm, ⟨52, _⟩ => ⟨S2048x2048, .i1⟩
  | .hbm, ⟨53, _⟩ => ⟨S_, .f32⟩
  | .hbm, ⟨54, _⟩ => ⟨S_, .f32⟩
  | .hbm, ⟨55, _⟩ => ⟨S16x8x2048x2048, .i1⟩
  | .hbm, ⟨56, _⟩ => ⟨S16x8x2048x2048, .f32⟩
  | .hbm, ⟨57, _⟩ => ⟨S16x8x2048x2048, .f32⟩
  | .hbm, ⟨58, _⟩ => ⟨S_, .f32⟩
  | .hbm, ⟨59, _⟩ => ⟨S16x8x2048, .f32⟩
  | .hbm, ⟨60, _⟩ => ⟨S_, .f32⟩
  | .hbm, ⟨61, _⟩ => ⟨S16x8x2048, .f32⟩
  | .hbm, ⟨62, _⟩ => ⟨S16x8x2048, .f32⟩
  | .hbm, ⟨63, _⟩ => ⟨S16x8x2048x1, .f32⟩
  | .hbm, ⟨64, _⟩ => ⟨S16x8x2048x2048, .f32⟩
  | .hbm, ⟨65, _⟩ => ⟨S16x8x2048x2048, .f32⟩
  | .hbm, ⟨66, _⟩ => ⟨S16x8x2048x2048, .f32⟩
  | .hbm, ⟨67, _⟩ => ⟨S_, .f32⟩
  | .hbm, ⟨68, _⟩ => ⟨S16x8x2048, .f32⟩
  | .hbm, ⟨69, _⟩ => ⟨S16x8x2048x1, .f32⟩
  | .hbm, ⟨70, _⟩ => ⟨S16x8x2048x2048, .f32⟩
  | .hbm, ⟨71, _⟩ => ⟨S16x8x2048x2048, .f32⟩
  | .hbm, ⟨72, _⟩ => ⟨S16x8x2048x64, .f32⟩
  | .hbm, ⟨73, _⟩ => ⟨S16x2048x8x64, .f32⟩
  | .hbm, ⟨74, _⟩ => ⟨S16x2048x512, .f32⟩
  | .hbm, ⟨75, _⟩ => ⟨S16x2048x512, .bf16⟩
  | _, _ => ⟨S16x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_cst_1 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v13 : Ref sig .tc := ⟨.hbm, 57, rfl⟩
abbrev main_cst_2 : Ref sig .tc := ⟨.hbm, 58, rfl⟩
abbrev main_v14 : Ref sig .tc := ⟨.hbm, 59, rfl⟩
abbrev main_cst_3 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst_4 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S1024x5028 : Shape := ⟨2, ![1024, 5028]⟩
abbrev S3072 : Shape := ⟨1, ![3072]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S32768x1024 : Shape := ⟨2, ![32768, 1024]⟩
abbrev S32768x256 : Shape := ⟨2, ![32768, 256]⟩
abbrev S32768x512 : Shape := ⟨2, ![32768, 512]⟩
abbrev S1024x3072 : Shape := ⟨2, ![1024, 3072]⟩
abbrev S1x3072 : Shape := ⟨2, ![1, 3072]⟩
abbrev S1x1024 : Shape := ⟨2, ![1, 1024]⟩
abbrev S256x1 : Shape := ⟨2, ![256, 1]⟩
abbrev S8x32768 : Shape := ⟨2, ![8, 32768]⟩
abbrev S256x128 : Shape := ⟨2, ![256, 128]⟩
abbrev S512x256 : Shape := ⟨2, ![512, 256]⟩
abbrev S512x512 : Shape := ⟨2, ![512, 512]⟩
abbrev S8x512 : Shape := ⟨2, ![8, 512]⟩
abbrev S512 : Shape := ⟨1, ![512]⟩
abbrev S512x1 : Shape := ⟨2, ![512, 1]⟩
abbrev S256x512 : Shape := ⟨2, ![256, 512]⟩
abbrev S32x512 : Shape := ⟨2, ![32, 512]⟩
abbrev S1x512 : Shape := ⟨2, ![1, 512]⟩

abbrev nBuf : Space → Nat
  | .hbm => 41
  | .vmem => 34
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x2048x512, .f32⟩
  | .hbm, ⟨4, _⟩ => ⟨S1024x5028, .f32⟩
  | .hbm, ⟨5, _⟩ => ⟨S3072, .f32⟩
  | .hbm, ⟨6, _⟩ => ⟨S256x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x256, .f32⟩
  | .hbm, ⟨13, _⟩ => ⟨S256, .f32⟩
  | .hbm, ⟨14, _⟩ => ⟨S32768x1024, .f32⟩
  | .hbm, ⟨15, _⟩ => ⟨S16x2048x256, .bf16⟩
  | .hbm, ⟨16, _⟩ => ⟨S32768x256, .bf16⟩
  | .hbm, ⟨17, _⟩ => ⟨S16x2048x256, .bf16⟩
  | .hbm, ⟨18, _⟩ => ⟨S32768x256, .bf16⟩
  | .hbm, ⟨19, _⟩ => ⟨S16x2048x512, .bf16⟩
  | .hbm, ⟨20, _⟩ => ⟨S32768x512, .bf16⟩
  | .hbm, ⟨21, _⟩ => ⟨S32768x1024, .bf16⟩
  | .hbm, ⟨22, _⟩ => ⟨S1024x3072, .f32⟩
  | .hbm, ⟨23, _⟩ => ⟨S1024x3072, .bf16⟩
  | .hbm, ⟨24, _⟩ => ⟨S1x3072, .f32⟩
  | .hbm, ⟨25, _⟩ => ⟨S256x1024, .bf16⟩
  | .hbm, ⟨26, _⟩ => ⟨S256x1024, .bf16⟩
  | .hbm, ⟨27, _⟩ => ⟨S512x1024, .bf16⟩
  | .hbm, ⟨28, _⟩ => ⟨S1024x1024, .bf16⟩
  | .hbm, ⟨29, _⟩ => ⟨S1x1024, .f32⟩
  | .hbm, ⟨30, _⟩ => ⟨S1x1024, .f32⟩
  | .hbm, ⟨31, _⟩ => ⟨S256x1024, .f32⟩
  | .hbm, ⟨32, _⟩ => ⟨S256x1024, .bf16⟩
  | .hbm, ⟨33, _⟩ => ⟨S256x1, .f32⟩
  | .hbm, ⟨34, _⟩ => ⟨S32768x1024, .f32⟩
  | .hbm, ⟨35, _⟩ => ⟨S32768x1024, .bf16⟩
  | .hbm, ⟨36, _⟩ => ⟨S32768x512, .i32⟩
  | .hbm, ⟨37, _⟩ => ⟨S8x32768, .i32⟩
  | .hbm, ⟨38, _⟩ => ⟨S8x32768, .f32⟩
  | .hbm, ⟨39, _⟩ => ⟨S8x32768, .i32⟩
  | .hbm, ⟨40, _⟩ => ⟨S256x128, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x3072, .bf16⟩
  | .local _ .vmem, ⟨11, _⟩ => ⟨S1x3072, .f32⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x512, .i32⟩
  | .local _ .vmem, ⟨25, _⟩ => ⟨S512x512, .i32⟩
  | .local _ .vmem, ⟨26, _⟩ => ⟨S8x512, .i32⟩
  | .local _ .vmem, ⟨27, _⟩ => ⟨S8x512, .i32⟩
  | .local _ .vmem, ⟨28, _⟩ => ⟨S8x512, .f32⟩
  | .local _ .vmem, ⟨29, _⟩ => ⟨S8x512, .f32⟩
  | .local _ .vmem, ⟨30, _⟩ => ⟨S8x512, .i32⟩
  | .local _ .vmem, ⟨31, _⟩ => ⟨S8x512, .i32⟩
  | .local _ .vmem, ⟨32, _⟩ => ⟨S256x128, .f32⟩
  | .local _ .vmem, ⟨33, _⟩ => ⟨S256x1, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v20_3 : Ref sig .tc := ⟨.hbm, 37, rfl⟩
abbrev main_v20_4 : Ref sig .tc := ⟨.hbm, 38, rfl⟩
abbrev main_v20_5 : Ref sig .tc := ⟨.hbm, 39, rfl⟩
abbrev main_v20_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S256x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Kernel2Ideal.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S1024x5028 : Shape := ⟨2, ![1024, 5028]⟩
abbrev S3072 : Shape := ⟨1, ![3072]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S32768x1024 : Shape := ⟨2, ![32768, 1024]⟩
abbrev S32768x256 : Shape := ⟨2, ![32768, 256]⟩
abbrev S32768x512 : Shape := ⟨2, ![32768, 512]⟩
abbrev S1024x3072 : Shape := ⟨2, ![1024, 3072]⟩
abbrev S1x3072 : Shape := ⟨2, ![1, 3072]⟩
abbrev S1x1024 : Shape := ⟨2, ![1, 1024]⟩
abbrev S256x1 : Shape := ⟨2, ![256, 1]⟩
abbrev S32768x2x512 : Shape := ⟨3, ![32768, 2, 512]⟩
abbrev S8x32768 : Shape := ⟨2, ![8, 32768]⟩
abbrev S256x128 : Shape := ⟨2, ![256, 128]⟩
abbrev S32768x1x512 : Shape := ⟨3, ![32768, 1, 512]⟩
abbrev S512x256 : Shape := ⟨2, ![512, 256]⟩
abbrev S512x512 : Shape := ⟨2, ![512, 512]⟩
abbrev S512x2x512 : Shape := ⟨3, ![512, 2, 512]⟩
abbrev S512x1x512 : Shape := ⟨3, ![512, 1, 512]⟩
abbrev S8x512 : Shape := ⟨2, ![8, 512]⟩
abbrev S512 : Shape := ⟨1, ![512]⟩
abbrev S512x1 : Shape := ⟨2, ![512, 1]⟩
abbrev S256x512 : Shape := ⟨2, ![256, 512]⟩
abbrev S32x512 : Shape := ⟨2, ![32, 512]⟩
abbrev S1x512 : Shape := ⟨2, ![1, 512]⟩

abbrev nBuf : Space → Nat
  | .hbm => 41
  | .vmem => 34
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x2048x512, .f32⟩
  | .hbm, ⟨4, _⟩ => ⟨S1024x5028, .f32⟩
  | .hbm, ⟨5, _⟩ => ⟨S3072, .f32⟩
  | .hbm, ⟨6, _⟩ => ⟨S256x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x256, .f32⟩
  | .hbm, ⟨13, _⟩ => ⟨S256, .f32⟩
  | .hbm, ⟨14, _⟩ => ⟨S32768x1024, .f32⟩
  | .hbm, ⟨15, _⟩ => ⟨S16x2048x256, .bf16⟩
  | .hbm, ⟨16, _⟩ => ⟨S32768x256, .bf16⟩
  | .hbm, ⟨17, _⟩ => ⟨S16x2048x256, .bf16⟩
  | .hbm, ⟨18, _⟩ => ⟨S32768x256, .bf16⟩
  | .hbm, ⟨19, _⟩ => ⟨S16x2048x512, .bf16⟩
  | .hbm, ⟨20, _⟩ => ⟨S32768x512, .bf16⟩
  | .hbm, ⟨21, _⟩ => ⟨S32768x1024, .bf16⟩
  | .hbm, ⟨22, _⟩ => ⟨S1024x3072, .f32⟩
  | .hbm, ⟨23, _⟩ => ⟨S1024x3072, .bf16⟩
  | .hbm, ⟨24, _⟩ => ⟨S1x3072, .f32⟩
  | .hbm, ⟨25, _⟩ => ⟨S256x1024, .bf16⟩
  | .hbm, ⟨26, _⟩ => ⟨S256x1024, .bf16⟩
  | .hbm, ⟨27, _⟩ => ⟨S512x1024, .bf16⟩
  | .hbm, ⟨28, _⟩ => ⟨S1024x1024, .bf16⟩
  | .hbm, ⟨29, _⟩ => ⟨S1x1024, .f32⟩
  | .hbm, ⟨30, _⟩ => ⟨S1x1024, .f32⟩
  | .hbm, ⟨31, _⟩ => ⟨S256x1024, .f32⟩
  | .hbm, ⟨32, _⟩ => ⟨S256x1024, .bf16⟩
  | .hbm, ⟨33, _⟩ => ⟨S256x1, .f32⟩
  | .hbm, ⟨34, _⟩ => ⟨S32768x1024, .f32⟩
  | .hbm, ⟨35, _⟩ => ⟨S32768x1024, .bf16⟩
  | .hbm, ⟨36, _⟩ => ⟨S32768x2x512, .bf16⟩
  | .hbm, ⟨37, _⟩ => ⟨S8x32768, .i32⟩
  | .hbm, ⟨38, _⟩ => ⟨S8x32768, .f32⟩
  | .hbm, ⟨39, _⟩ => ⟨S8x32768, .i32⟩
  | .hbm, ⟨40, _⟩ => ⟨S256x128, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x3072, .bf16⟩
  | .local _ .vmem, ⟨11, _⟩ => ⟨S1x3072, .f32⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x2x512, .bf16⟩
  | .local _ .vmem, ⟨25, _⟩ => ⟨S512x2x512, .bf16⟩
  | .local _ .vmem, ⟨26, _⟩ => ⟨S8x512, .i32⟩
  | .local _ .vmem, ⟨27, _⟩ => ⟨S8x512, .i32⟩
  | .local _ .vmem, ⟨28, _⟩ => ⟨S8x512, .f32⟩
  | .local _ .vmem, ⟨29, _⟩ => ⟨S8x512, .f32⟩
  | .local _ .vmem, ⟨30, _⟩ => ⟨S8x512, .i32⟩
  | .local _ .vmem, ⟨31, _⟩ => ⟨S8x512, .i32⟩
  | .local _ .vmem, ⟨32, _⟩ => ⟨S256x128, .f32⟩
  | .local _ .vmem, ⟨33, _⟩ => ⟨S256x1, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v20_3 : Ref sig .tc := ⟨.hbm, 37, rfl⟩
abbrev main_v20_4 : Ref sig .tc := ⟨.hbm, 38, rfl⟩
abbrev main_v20_5 : Ref sig .tc := ⟨.hbm, 39, rfl⟩
abbrev main_v20_6 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x512 .i32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S256x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference2Ideal.lean ====
abbrev S16x2048x1024 : Shape := ⟨3, ![16, 2048, 1024]⟩
abbrev S16x2048x256 : Shape := ⟨3, ![16, 2048, 256]⟩
abbrev S16x2048x512 : Shape := ⟨3, ![16, 2048, 512]⟩
abbrev S1024x5028 : Shape := ⟨2, ![1024, 5028]⟩
abbrev S3072 : Shape := ⟨1, ![3072]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S16x2048x5028 : Shape := ⟨3, ![16, 2048, 5028]⟩
abbrev S16x2048x3072 : Shape := ⟨3, ![16, 2048, 3072]⟩
abbrev S1x1x3072 : Shape := ⟨3, ![1, 1, 3072]⟩
abbrev S_ : Shape := ⟨0, ![]⟩
abbrev S16x2048x3x1024 : Shape := ⟨4, ![16, 2048, 3, 1024]⟩
abbrev S16x2048x1x1024 : Shape := ⟨4, ![16, 2048, 1, 1024]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S16x2048x256, .f32⟩
  | .hbm, ⟨3, _⟩ => ⟨S16x2048x512, .f32⟩
  | .hbm, ⟨4, _⟩ => ⟨S1024x5028, .f32⟩
  | .hbm, ⟨5, _⟩ => ⟨S3072, .f32⟩
  | .hbm, ⟨6, _⟩ => ⟨S256x1024, .f32⟩
  | .hbm, ⟨7, _⟩ => ⟨S256x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x256, .f32⟩
  | .hbm, ⟨13, _⟩ => ⟨S256, .f32⟩
  | .hbm, ⟨14, _⟩ => ⟨S16x2048x5028, .f32⟩
  | .hbm, ⟨15, _⟩ => ⟨S16x2048x3072, .f32⟩
  | .hbm, ⟨16, _⟩ => ⟨S1x1x3072, .f32⟩
  | .hbm, ⟨17, _⟩ => ⟨S16x2048x3072, .f32⟩
  | .hbm, ⟨18, _⟩ => ⟨S16x2048x3072, .f32⟩
  | .hbm, ⟨19, _⟩ => ⟨S16x2048x3072, .f32⟩
  | .hbm, ⟨20, _⟩ => ⟨S16x2048x3072, .f32⟩
  | .hbm, ⟨21, _⟩ => ⟨S_, .f32⟩
  | .hbm, ⟨22, _⟩ => ⟨S16x2048x3072, .f32⟩
  | .hbm, ⟨23, _⟩ => ⟨S16x2048x3072, .f32⟩
  | .hbm, ⟨24, _⟩ => ⟨S_, .f32⟩
  | .hbm, ⟨25, _⟩ => ⟨S16x2048x3072, .f32⟩
  | .hbm, ⟨26, _⟩ => ⟨S16x2048x3072, .f32⟩
  | .hbm, ⟨27, _⟩ => ⟨S16x2048x3x1024, .f32⟩
  | .hbm, ⟨28, _⟩ => ⟨S16x2048x1x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x1x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S_, .f32⟩
  | .hbm, ⟨48, _⟩ => ⟨S16x2048, .f32⟩
  | .hbm, ⟨49, _⟩ => ⟨S16x2048x1, .f32⟩
  | .hbm, ⟨50, _⟩ => ⟨S_, .f32⟩
  | .hbm, ⟨51, _⟩ => ⟨S16x2048x1, .f32⟩
  | .hbm, ⟨52, _⟩ => ⟨S16x2048x1, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S_, .f32⟩
  | .hbm, ⟨57, _⟩ => ⟨S16x2048, .f32⟩
  | .hbm, ⟨58, _⟩ => ⟨S16x2048x1, .f32⟩
  | .hbm, ⟨59, _⟩ => ⟨S_, .f32⟩
  | .hbm, ⟨60, _⟩ => ⟨S16x2048x1, .f32⟩
  | .hbm, ⟨61, _⟩ => ⟨S16x2048x1, .f32⟩
  | .hbm, ⟨62, _⟩ => ⟨S_, .f32⟩
  | .hbm, ⟨63, _⟩ => ⟨S16x2048x1, .f32⟩
  | .hbm, ⟨64, _⟩ => ⟨S16x2048x1, .f32⟩
  | .hbm, ⟨65, _⟩ => ⟨S16x2048x1, .f32⟩
  | .hbm, ⟨66, _⟩ => ⟨S16x2048x1024, .f32⟩
  | .hbm, ⟨67, _⟩ => ⟨S16x2048x1024, .f32⟩
  | .hbm, ⟨68, _⟩ => ⟨S1x1x1024, .f32⟩
  | .hbm, ⟨69, _⟩ => ⟨S16x2048x1024, .f32⟩
  | .hbm, ⟨70, _⟩ => ⟨S16x2048x1024, .f32⟩
  | .hbm, ⟨71, _⟩ => ⟨S1x1x1024, .f32⟩
  | .hbm, ⟨72, _⟩ => ⟨S16x2048x1024, .f32⟩
  | .hbm, ⟨73, _⟩ => ⟨S16x2048x1024, .f32⟩
  | .hbm, ⟨74, _⟩ => ⟨S32768x1024, .f32⟩
  | .hbm, ⟨75, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024x5028 : Shape := ⟨2, ![1024, 5028]⟩
abbrev S32768x1024 : Shape := ⟨2, ![32768, 1024]⟩
abbrev S1024x1536 : Shape := ⟨2, ![1024, 1536]⟩
abbrev S32768x1536 : Shape := ⟨2, ![32768, 1536]⟩
abbrev S1024x1024 : Shape := ⟨2, ![1024, 1024]⟩
abbrev S1024x768 : Shape := ⟨2, ![1024, 768]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S1024x5028, .f32⟩
  | .hbm, ⟨2, _⟩ => ⟨S32768x1024, .f32⟩
  | .hbm, ⟨3, _⟩ => ⟨S32768x1024, .bf16⟩
  | .hbm, ⟨4, _⟩ => ⟨S1024x1536, .f32⟩
  | .hbm, ⟨5, _⟩ => ⟨S1024x1536, .bf16⟩
  | .hbm, ⟨6, _⟩ => ⟨S32768x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16x2048x1024 : Shape := ⟨3, ![16, 2048, 1024]⟩
abbrev S1024x5028 : Shape := ⟨2, ![1024, 5028]⟩
abbrev S16x2048x5028 : Shape := ⟨3, ![16, 2048, 5028]⟩
abbrev S16x2048x1536 : Shape := ⟨3, ![16, 2048, 1536]⟩
abbrev S32768x1536 : Shape := ⟨2, ![32768, 1536]⟩

abbrev nBuf : Space → Nat
  | .hbm => 6
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x5028, .f32⟩
  | .hbm, ⟨2, _⟩ => ⟨S16x2048x5028, .f32⟩
  | .hbm, ⟨3, _⟩ => ⟨S16x2048x1536, .f32⟩
  | .hbm, ⟨4, _⟩ => ⟨S32768x1536, .f32⟩
  | .hbm, ⟨5, _⟩ => ⟨S32768x1536, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S16x2048x1024 : Shape := ⟨3, ![16, 2048, 1024]⟩
abbrev S32768x8x1024 : Shape := ⟨3, ![32768, 8, 1024]⟩
abbrev S32768x8 : Shape := ⟨2, ![32768, 8]⟩
abbrev S1024 : Shape := ⟨1, ![1024]⟩
abbrev S1024x256 : Shape := ⟨2, ![1024, 256]⟩
abbrev S256x1024 : Shape := ⟨2, ![256, 1024]⟩
abbrev S32768x1024 : Shape := ⟨2, ![32768, 1024]⟩
abbrev S8x32768x1024 : Shape := ⟨3, ![8, 32768, 1024]⟩
abbrev S8x65536x512 : Shape := ⟨3, ![8, 65536, 512]⟩
abbrev S1x1024 : Shape := ⟨2, ![1, 1024]⟩
abbrev S8x1024x512 : Shape := ⟨3, ![8, 1024, 512]⟩
abbrev S512x8 : Shape := ⟨2, ![512, 8]⟩
abbrev S512x1024 : Shape := ⟨2, ![512, 1024]⟩
abbrev S512x512 : Shape := ⟨2, ![512, 512]⟩
abbrev S8x512x512 : Shape := ⟨3, ![8, 512, 512]⟩
abbrev S1x512x512 : Shape := ⟨3, ![1, 512, 512]⟩
abbrev S1x1024x512 : Shape := ⟨3, ![1, 1024, 512]⟩
abbrev S512x1 : Shape := ⟨2, ![512, 1]⟩
abbrev S512x256 : Shape := ⟨2, ![512, 256]⟩
abbrev S512 : Shape := ⟨1, ![512]⟩

abbrev nBuf : Space → Nat
  | .hbm => 20
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S32768x8x1024, .f32⟩
  | .hbm, ⟨2, _⟩ => ⟨S32768x8, .f32⟩
  | .hbm, ⟨3, _⟩ => ⟨S1024, .f32⟩
  | .hbm, ⟨4, _⟩ => ⟨S1024, .f32⟩
  | .hbm, ⟨5, _⟩ => ⟨S1024x256, .f32⟩
  | .hbm, ⟨6, _⟩ => ⟨S1024x256, .f32⟩
  | .hbm, ⟨7, _⟩ => ⟨S256x1024, .f32⟩
  | .hbm, ⟨8, _⟩ => ⟨S32768x1024, .f32⟩
  | .hbm, ⟨9, _⟩ => ⟨S32768x8x1024, .bf16⟩
  | .hbm, ⟨10, _⟩ => ⟨S8x32768x1024, .bf16⟩
  | .hbm, ⟨11, _⟩ => ⟨S8x65536x512, .bf16⟩
  | .hbm, ⟨12, _⟩ => ⟨S32768x1024, .bf16⟩
  | .hbm, ⟨13, _⟩ => ⟨S1024x256, .bf16⟩
  | .hbm, ⟨14, _⟩ => ⟨S1024x256, .bf16⟩
  | .hbm, ⟨15, _⟩ => ⟨S256x1024, .bf16⟩
  | .hbm, ⟨16, _⟩ => ⟨S1x1024, .f32⟩
  | .hbm, ⟨17, _⟩ => ⟨S1x1024, .f32⟩
  | .hbm, ⟨18, _⟩ => ⟨S32768x1024, .f32⟩
  | .hbm, ⟨19, _⟩ => ⟨S32768x1024, .bf16⟩
  | .local _ .vmem, ⟨0, _⟩ => ⟨S8x1024x512, .bf16⟩
  | .local _ .vmem, ⟨1, _⟩ => ⟨S8x1024x512, .bf16⟩
  | .local _ .vmem, ⟨2, _⟩ => ⟨S512x8, .f32⟩
  | .local _ .vmem, ⟨3, _⟩ => ⟨S512x8, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [BitOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel4Ideal.lean ====
abbrev S1024x512 : Shape := ⟨2, ![1024, 512]⟩
variable {F : FTy → Type} [FloatOps F]
-- ==== Reference4Ideal.lean ====
abbrev S16x2048x1024 : Shape := ⟨3, ![16, 2048, 1024]⟩
abbrev S32768x8x1024 : Shape := ⟨3, ![32768, 8, 1024]⟩
abbrev S32768x8 : Shape := ⟨2, ![32768, 8]⟩
abbrev S1024 : Shape := ⟨1, ![1024]⟩
abbrev S1024x256 : Shape := ⟨2, ![1024, 256]⟩
abbrev S256x1024 : Shape := ⟨2, ![256, 1024]⟩
abbrev S32768x1024 : Shape := ⟨2, ![32768, 1024]⟩
abbrev S32768x256 : Shape := ⟨2, ![32768, 256]⟩
abbrev S_ : Shape := ⟨0, ![]⟩
abbrev S32768x8x1 : Shape := ⟨3, ![32768, 8, 1]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S32768x8x1024, .f32⟩
  | .hbm, ⟨2, _⟩ => ⟨S32768x8, .f32⟩
  | .hbm, ⟨3, _⟩ => ⟨S1024, .f32⟩
  | .hbm, ⟨4, _⟩ => ⟨S1024, .f32⟩
  | .hbm, ⟨5, _⟩ => ⟨S1024x256, .f32⟩
  | .hbm, ⟨6, _⟩ => ⟨S1024x256, .f32⟩
  | .hbm, ⟨7, _⟩ => ⟨S256x1024, .f32⟩
  | .hbm, ⟨8, _⟩ => ⟨S32768x1024, .f32⟩
  | .hbm, ⟨9, _⟩ => ⟨S32768x256, .f32⟩
  | .hbm, ⟨10, _⟩ => ⟨S32768x256, .f32⟩
  | .hbm, ⟨11, _⟩ => ⟨S32768x256, .f32⟩
  | .hbm, ⟨12, _⟩ => ⟨S_, .f32⟩
  | .hbm, ⟨13, _⟩ => ⟨S32768x256, .f32⟩
  | .hbm, ⟨14, _⟩ => ⟨S32768x256, .f32⟩
  | .hbm, ⟨15, _⟩ => ⟨S_, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S32768x256, .f32⟩
  | .hbm, ⟨20, _⟩ => ⟨S32768x256, .f32⟩
  | .hbm, ⟨21, _⟩ => ⟨S32768x1024, .f32⟩
  | .hbm, ⟨22, _⟩ => ⟨S32768x8x1, .f32⟩
  | .hbm, ⟨23, _⟩ => ⟨S32768x8x1024, .f32⟩
  | .hbm, ⟨24, _⟩ => ⟨S32768x8x1024, .f32⟩
  | .hbm, ⟨25, _⟩ => ⟨S_, .f32⟩
  | .hbm, ⟨26, _⟩ => ⟨S32768x1024, .f32⟩
  | .hbm, ⟨27, _⟩ => ⟨S_, .f32⟩
  | .hbm, ⟨28, _⟩ => ⟨S16x2048x1024, .f32⟩
  | .hbm, ⟨29, _⟩ => ⟨S16x2048x1024, .f32⟩
  | .hbm, ⟨30, _⟩ => ⟨S32768x1024, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x2048, .f32⟩
  | .hbm, ⟨35, _⟩ => ⟨S16x2048x1, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S_, .f32⟩
  | .hbm, ⟨49, _⟩ => ⟨S16x2048x1, .f32⟩
  | .hbm, ⟨50, _⟩ => ⟨S16x2048x1, .f32⟩
  | .hbm, ⟨51, _⟩ => ⟨S16x2048x1, .f32⟩
  | .hbm, ⟨52, _⟩ => ⟨S16x2048x1024, .f32⟩
  | .hbm, ⟨53, _⟩ => ⟨S16x2048x1024, .f32⟩
  | .hbm, ⟨54, _⟩ => ⟨S1x1x1024, .f32⟩
  | .hbm, ⟨55, _⟩ => ⟨S16x2048x1024, .f32⟩
  | .hbm, ⟨56, _⟩ => ⟨S16x2048x1024, .f32⟩
  | .hbm, ⟨57, _⟩ => ⟨S1x1x1024, .f32⟩
  | .hbm, ⟨58, _⟩ => ⟨S16x2048x1024, .f32⟩
  | .hbm, ⟨59, _⟩ => ⟨S16x2048x1024, .f32⟩
  | .hbm, ⟨60, _⟩ => ⟨S32768x1024, .f32⟩
  | .hbm, ⟨61, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Kernel5.lean ====
abbrev S16x2048x1024 : Shape := ⟨3, ![16, 2048, 1024]⟩
abbrev S1024x5028 : Shape := ⟨2, ![1024, 5028]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S4 : Shape := ⟨1, ![4]⟩
abbrev S1024x32 : Shape := ⟨2, ![1024, 32]⟩
abbrev S1024x16 : Shape := ⟨2, ![1024, 16]⟩
abbrev S1024x256 : Shape := ⟨2, ![1024, 256]⟩
abbrev S1024x128 : Shape := ⟨2, ![1024, 128]⟩
abbrev S_ : Shape := ⟨0, ![]⟩
abbrev S1024x64 : Shape := ⟨2, ![1024, 64]⟩
abbrev S1024x4 : Shape := ⟨2, ![1024, 4]⟩
abbrev S1024x124 : Shape := ⟨2, ![1024, 124]⟩
abbrev S1024x768 : Shape := ⟨2, ![1024, 768]⟩
abbrev S256x8x96 : Shape := ⟨3, ![256, 8, 96]⟩
abbrev S256x8x64 : Shape := ⟨3, ![256, 8, 64]⟩
abbrev S256x8x32 : Shape := ⟨3, ![256, 8, 32]⟩
abbrev S256x8x16 : Shape := ⟨3, ![256, 8, 16]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S124 : Shape := ⟨1, ![124]⟩
abbrev S1x128 : Shape := ⟨2, ![1, 128]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S32768x1024 : Shape := ⟨2, ![32768, 1024]⟩
abbrev S1x256 : Shape := ⟨2, ![1, 256]⟩
abbrev S32768x512 : Shape := ⟨2, ![32768, 512]⟩
abbrev S32768x128 : Shape := ⟨2, ![32768, 128]⟩
abbrev S512x1024 : Shape := ⟨2, ![512, 1024]⟩
abbrev S512x128 : Shape := ⟨2, ![512, 128]⟩
abbrev S512x512 : Shape := ⟨2, ![512, 512]⟩
abbrev S512x768 : Shape := ⟨2, ![512, 768]⟩
abbrev S512x256 : Shape := ⟨2, ![512, 256]⟩
abbrev S512 : Shape := ⟨1, ![512]⟩
abbrev S512x1 : Shape := ⟨2, ![512, 1]⟩

abbrev nBuf : Space → Nat
  | .hbm => 101
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S1024x5028, .f32⟩
  | .hbm, ⟨2, _⟩ => ⟨S256, .f32⟩
  | .hbm, ⟨3, _⟩ => ⟨S256x768, .f32⟩
  | .hbm, ⟨4, _⟩ => ⟨S128, .f32⟩
  | .hbm, ⟨5, _⟩ => ⟨S128x1024, .f32⟩
  | .hbm, ⟨6, _⟩ => ⟨S4, .f32⟩
  | .hbm, ⟨7, _⟩ => ⟨S1024x32, .f32⟩
  | .hbm, ⟨8, _⟩ => ⟨S1024x16, .f32⟩
  | .hbm, ⟨9, _⟩ => ⟨S1024x16, .f32⟩
  | .hbm, ⟨10, _⟩ => ⟨S1024x16, .f32⟩
  | .hbm, ⟨11, _⟩ => ⟨S1024x32, .f32⟩
  | .hbm, ⟨12, _⟩ => ⟨S1024x256, .f32⟩
  | .hbm, ⟨13, _⟩ => ⟨S1024x128, .f32⟩
  | .hbm, ⟨14, _⟩ => ⟨S_, .f32⟩
  | .hbm, ⟨15, _⟩ => ⟨S1024x64, .f32⟩
  | .hbm, ⟨16, _⟩ => ⟨S_, .f32⟩
  | .hbm, ⟨17, _⟩ => ⟨S1024x32, .f32⟩
  | .hbm, ⟨18, _⟩ => ⟨S_, .f32⟩
  | .hbm, ⟨19, _⟩ => ⟨S1024x64, .f32⟩
  | .hbm, ⟨20, _⟩ => ⟨S_, .f32⟩
  | .hbm, ⟨21, _⟩ => ⟨S1024x32, .f32⟩
  | .hbm, ⟨22, _⟩ => ⟨S1024x4, .f32⟩
  | .hbm, ⟨23, _⟩ => ⟨S_, .f32⟩
  | .hbm, ⟨24, _⟩ => ⟨S1024x124, .f32⟩
  | .hbm, ⟨25, _⟩ => ⟨S1024x768, .f32⟩
  | .hbm, ⟨26, _⟩ => ⟨S256x8x96, .f32⟩
  | .hbm, ⟨27, _⟩ => ⟨S256x8x64, .f32⟩
  | .hbm, ⟨28, _⟩ => ⟨S256x8x96, .f32⟩
  | .hbm, ⟨29, _⟩ => ⟨S256x8x32, .f32⟩
  | .hbm, ⟨30, _⟩ => ⟨S256x8x16, .f32⟩
  | .hbm, ⟨31, _⟩ => ⟨S256x8x16, .f32⟩
  | .hbm, ⟨32, _⟩ => ⟨S256x8x16, .f32⟩
  | .hbm, ⟨33, _⟩ => ⟨S256x8x32, .f32⟩
  | .hbm, ⟨34, _⟩ => ⟨S_, .f32⟩
  | .hbm, ⟨35, _⟩ => ⟨S256x8x32, .f32⟩
  | .hbm, ⟨36, _⟩ => ⟨S256x8x128, .f32⟩
  | .hbm, ⟨37, _⟩ => ⟨S256x1024, .f32⟩
  | .hbm, ⟨38, _⟩ => ⟨S_, .f32⟩
  | .hbm, ⟨39, _⟩ => ⟨S256x8x64, .f32⟩
  | .hbm, ⟨40, _⟩ => ⟨S_, .f32⟩
  | .hbm, ⟨41, _⟩ => ⟨S256x8x32, .f32⟩
  | .hbm, ⟨42, _⟩ => ⟨S256x8x128, .f32⟩
  | .hbm, ⟨43, _⟩ => ⟨S256x1024, .f32⟩
  | .hbm, ⟨44, _⟩ => ⟨S128x8x128, .f32⟩
  | .hbm, ⟨45, _⟩ => ⟨S128x8x64, .f32⟩
  | .hbm, ⟨46, _⟩ => ⟨S_, .f32⟩
  | .hbm, ⟨47, _⟩ => ⟨S128x8x64, .f32⟩
  | .hbm, ⟨48, _⟩ => ⟨S128x8x128, .f32⟩
  | .hbm, ⟨49, _⟩ => ⟨S128x1024, .f32⟩
  | .hbm, ⟨50, _⟩ => ⟨S128x8x128, .f32⟩
  | .hbm, ⟨51, _⟩ => ⟨S128x8x64, .f32⟩
  | .hbm, ⟨52, _⟩ => ⟨S128x512, .f32⟩
  | .hbm, ⟨53, _⟩ => ⟨S_, .f32⟩
  | .hbm, ⟨54, _⟩ => ⟨S124, .f32⟩
  | .hbm, ⟨55, _⟩ => ⟨S128, .f32⟩
  | .hbm, ⟨56, _⟩ => ⟨S1x128, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S2048, .i32⟩
  | .hbm, ⟨66, _⟩ => ⟨S2048, .f32⟩
  | .hbm, ⟨67, _⟩ => ⟨S2048x1, .f32⟩
  | .hbm, ⟨68, _⟩ => ⟨S1x16, .f32⟩
  | .hbm, ⟨69, _⟩ => ⟨S2048x16, .f32⟩
  | .hbm, ⟨70, _⟩ => ⟨S2048x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x32, .f32⟩
  | .hbm, ⟨75, _⟩ => ⟨S2048x16, .f32⟩
  | .hbm, ⟨76, _⟩ => ⟨S2048x16, .f32⟩
  | .hbm, ⟨77, _⟩ => ⟨S2048x32, .f32⟩
  | .hbm, ⟨78, _⟩ => ⟨S_, .f32⟩
  | .hbm, ⟨79, _⟩ => ⟨S2048x64, .f32⟩
  | .hbm, ⟨80, _⟩ => ⟨S_, .f32⟩
  | .hbm, ⟨81, _⟩ => ⟨S2048x32, .f32⟩
  | .hbm, ⟨82, _⟩ => ⟨S2048x128, .f32⟩
  | .hbm, ⟨83, _⟩ => ⟨S_, .f32⟩
  | .hbm, ⟨84, _⟩ => ⟨S2048x64, .f32⟩
  | .hbm, ⟨85, _⟩ => ⟨S_, .f32⟩
  | .hbm, ⟨86, _⟩ => ⟨S2048x32, .f32⟩
  | .hbm, ⟨87, _⟩ => ⟨S2048x128, .f32⟩
  | .hbm, ⟨88, _⟩ => ⟨S32768x1024, .f32⟩
  | .hbm, ⟨89, _⟩ => ⟨S32768x1024, .bf16⟩
  | .hbm, ⟨90, _⟩ => ⟨S1024x768, .bf16⟩
  | .hbm, ⟨91, _⟩ => ⟨S1x256, .f32⟩
  | .hbm, ⟨92, _⟩ => ⟨S1x128, .f32⟩
  | .hbm, ⟨93, _⟩ => ⟨S256x1024, .bf16⟩
  | .hbm, ⟨94, _⟩ => ⟨S256x1024, .bf16⟩
  | .hbm, ⟨95, _⟩ => ⟨S128x1024, .bf16⟩
  | .hbm, ⟨96, _⟩ => ⟨S128x512, .bf16⟩
  | .hbm, ⟨97, _⟩ => ⟨S32768x1024, .bf16⟩
  | .hbm, ⟨98, _⟩ => ⟨S32768x1024, .bf16⟩
  | .hbm, ⟨99, _⟩ => ⟨S32768x512, .bf16⟩
  | .hbm, ⟨100, _⟩ => ⟨S32768x128, .f32⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1x256, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | .local _ .vmem, ⟨7, _⟩ => ⟨S128x1024, .bf16⟩
  | .local _ .vmem, ⟨8, _⟩ => ⟨S128x512, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S1x128, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x128, .f32⟩
  | .local _ .vmem, ⟨21, _⟩ => ⟨S512x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_cst_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74_0 : Ref sig .tc := ⟨.hbm, 97, rfl⟩
abbrev main_v74_1 : Ref sig .tc := ⟨.hbm, 98, rfl⟩
abbrev main_v74_2 : Ref sig .tc := ⟨.hbm, 99, rfl⟩
abbrev main_v74_3 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16x2048x1024 : Shape := ⟨3, ![16, 2048, 1024]⟩
abbrev S1024x5028 : Shape := ⟨2, ![1024, 5028]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S4 : Shape := ⟨1, ![4]⟩
abbrev S16x2048x5028 : Shape := ⟨3, ![16, 2048, 5028]⟩
abbrev S2048 : Shape := ⟨1, ![2048]⟩
abbrev S16x2048x256 : Shape := ⟨3, ![16, 2048, 256]⟩
abbrev S_ : Shape := ⟨0, ![]⟩
abbrev S16x2048 : Shape := ⟨2, ![16, 2048]⟩
abbrev S16x2048x1 : Shape := ⟨3, ![16, 2048, 1]⟩
abbrev S1x1x256 : Shape := ⟨3, ![1, 1, 256]⟩
abbrev S16x2048x768 : Shape := ⟨3, ![16, 2048, 768]⟩
abbrev S16x2048x8x96 : Shape := ⟨4, ![16, 2048, 8, 96]⟩
abbrev S16x8x2048x96 : Shape := ⟨4, ![16, 8, 2048, 96]⟩
abbrev S16x8x2048x64 : Shape := ⟨4, ![16, 8, 2048, 64]⟩
abbrev S16x8x2048x32 : Shape := ⟨4, ![16, 8, 2048, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S16x8x2048x16 : Shape := ⟨4, ![16, 8, 2048, 16]⟩
abbrev S1x1x2048x16 : Shape := ⟨4, ![1, 1, 2048, 16]⟩
abbrev S16x2048x128 : Shape := ⟨3, ![16, 2048, 128]⟩
abbrev S1x1x128 : Shape := ⟨3, ![1, 1, 128]⟩
abbrev S16x2048x8x128 : Shape := ⟨4, ![16, 2048, 8, 128]⟩
abbrev S16x8x2048x128 : Shape := ⟨4, ![16, 8, 2048, 128]⟩
abbrev S16x2048x32 : Shape := ⟨3, ![16, 2048, 32]⟩
abbrev S16x2048x16 : Shape := ⟨3, ![16, 2048, 16]⟩
abbrev S1x2048x16 : Shape := ⟨3, ![1, 2048, 16]⟩
abbrev S16x1x2048x32 : Shape := ⟨4, ![16, 1, 2048, 32]⟩
abbrev S32768x1024 : Shape := ⟨2, ![32768, 1024]⟩
abbrev S16x2048x4 : Shape := ⟨3, ![16, 2048, 4]⟩
abbrev S1x1x4 : Shape := ⟨3, ![1, 1, 4]⟩
abbrev S16x2048x124 : Shape := ⟨3, ![16, 2048, 124]⟩
abbrev S16x2048x8x64 : Shape := ⟨4, ![16, 2048, 8, 64]⟩
abbrev S32768x512 : Shape := ⟨2, ![32768, 512]⟩
abbrev S32768x128 : Shape := ⟨2, ![32768, 128]⟩

abbrev nBuf : Space → Nat
  | .hbm => 159
  | .vmem => 0
  | .smem => 0
  | _ => 0

abbrev hbmTy0_0 (i : Nat) : BufTy := match i % 128 with
  | 0 => ⟨S16x2048x1024, .f32⟩
  | 1 => ⟨S1024x5028, .f32⟩
  | 2 => ⟨S256, .f32⟩
  | 3 => ⟨S256x768, .f32⟩
  | 4 => ⟨S128, .f32⟩
  | 5 => ⟨S128x1024, .f32⟩
  | 6 => ⟨S4, .f32⟩
  | 7 => ⟨S16x2048x5028, .f32⟩
  | 8 => ⟨S2048, .i32⟩
  | 9 => ⟨S16x2048x256, .f32⟩
  | 10 => ⟨S16x2048x256, .f32⟩
  | 11 => ⟨S_, .f32⟩
  | 12 => ⟨S16x2048, .f32⟩
  | 13 => ⟨S16x2048x1, .f32⟩
  | 14 => ⟨S_, .f32⟩
  | 15 => ⟨S16x2048x1, .f32⟩
  | 16 => ⟨S16x2048x1, .f32⟩
  | 17 => ⟨S_, .f32⟩
  | 18 => ⟨S16x2048x1, .f32⟩
  | 19 => ⟨S16x2048x1, .f32⟩
  | 20 => ⟨S16x2048x1, .f32⟩
  | 21 => ⟨S16x2048x256, .f32⟩
  | 22 => ⟨S16x2048x256, .f32⟩
  | 23 => ⟨S1x1x256, .f32⟩
  | 24 => ⟨S16x2048x256, .f32⟩
  | 25 => ⟨S16x2048x256, .f32⟩
  | 26 => ⟨S16x2048x768, .f32⟩
  | 27 => ⟨S16x2048x8x96, .f32⟩
  | 28 => ⟨S16x8x2048x96, .f32⟩
  | 29 => ⟨S16x8x2048x64, .f32⟩
  | 30 => ⟨S16x8x2048x32, .f32⟩
  | 31 => ⟨S16, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S2048, .f32⟩
  | 40 => ⟨S2048x1, .f32⟩
  | 41 => ⟨S1x16, .f32⟩
  | 42 => ⟨S2048x16, .f32⟩
  | 43 => ⟨S2048x16, .f32⟩
  | 44 => ⟨S2048x16, .f32⟩
  | 45 => ⟨S2048x16, .f32⟩
  | 46 => ⟨S2048x16, .f32⟩
  | 47 => ⟨S16x8x2048x16, .f32⟩
  | 48 => ⟨S16x8x2048x16, .f32⟩
  | 49 => ⟨S1x1x2048x16, .f32⟩
  | 50 => ⟨S16x8x2048x16, .f32⟩
  | 51 => ⟨S16x8x2048x16, .f32⟩
  | 52 => ⟨S1x1x2048x16, .f32⟩
  | 53 => ⟨S16x8x2048x16, .f32⟩
  | 54 => ⟨S16x8x2048x16, .f32⟩
  | 55 => ⟨S16x8x2048x16, .f32⟩
  | 56 => ⟨S1x1x2048x16, .f32⟩
  | 57 => ⟨S16x8x2048x16, .f32⟩
  | 58 => ⟨S16x8x2048x16, .f32⟩
  | 59 => ⟨S1x1x2048x16, .f32⟩
  | 60 => ⟨S16x8x2048x16, .f32⟩
  | 61 => ⟨S16x8x2048x16, .f32⟩
  | 62 => ⟨S16x8x2048x16, .f32⟩
  | 63 => ⟨S16x8x2048x32, .f32⟩
  | 64 => ⟨S16x2048x128, .f32⟩
  | 65 => ⟨S16x2048x128, .f32⟩
  | 66 => ⟨S_, .f32⟩
  | 67 => ⟨S16x2048, .f32⟩
  | 68 => ⟨S16x2048x1, .f32⟩
  | 69 => ⟨S_, .f32⟩
  | 70 => ⟨S16x2048x1, .f32⟩
  | 71 => ⟨S16x2048x1, .f32⟩
  | 72 => ⟨S_, .f32⟩
  | 73 => ⟨S16x2048x1, .f32⟩
  | 74 => ⟨S16x2048x1, .f32⟩
  | 75 => ⟨S16x2048x1, .f32⟩
  | 76 => ⟨S16x2048x128, .f32⟩
  | 77 => ⟨S16x2048x128, .f32⟩
  | 78 => ⟨S1x1x128, .f32⟩
  | 79 => ⟨S16x2048x128, .f32⟩
  | 80 => ⟨S16x2048x128, .f32⟩
  | 81 => ⟨S16x2048x1024, .f32⟩
  | 82 => ⟨S16x2048x8x128, .f32⟩
  | 83 => ⟨S16x8x2048x128, .f32⟩
  | 84 => ⟨S16x8x2048x64, .f32⟩
  | 85 => ⟨S16x8x2048x64, .f32⟩
  | 86 => ⟨S16x2048x32, .f32⟩
  | 87 => ⟨S16, .f32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S2048, .f32⟩
  | 96 => ⟨S2048x1, .f32⟩
  | 97 => ⟨S1x16, .f32⟩
  | 98 => ⟨S2048x16, .f32⟩
  | 99 => ⟨S2048x16, .f32⟩
  | 100 => ⟨S2048x16, .f32⟩
  | 101 => ⟨S2048x16, .f32⟩
  | 102 => ⟨S2048x16, .f32⟩
  | 103 => ⟨S16x2048x16, .f32⟩
  | 104 => ⟨S16x2048x16, .f32⟩
  | 105 => ⟨S1x2048x16, .f32⟩
  | 106 => ⟨S16x2048x16, .f32⟩
  | 107 => ⟨S16x2048x16, .f32⟩
  | 108 => ⟨S1x2048x16, .f32⟩
  | 109 => ⟨S16x2048x16, .f32⟩
  | 110 => ⟨S16x2048x16, .f32⟩
  | 111 => ⟨S16x2048x16, .f32⟩
  | 112 => ⟨S1x2048x16, .f32⟩
  | 113 => ⟨S16x2048x16, .f32⟩
  | 114 => ⟨S16x2048x16, .f32⟩
  | 115 => ⟨S1x2048x16, .f32⟩
  | 116 => ⟨S16x2048x16, .f32⟩
  | 117 => ⟨S16x2048x16, .f32⟩
  | 118 => ⟨S16x2048x16, .f32⟩
  | 119 => ⟨S16x2048x32, .f32⟩
  | 120 => ⟨S16x1x2048x32, .f32⟩
  | 121 => ⟨S16x8x2048x32, .f32⟩
  | 122 => ⟨S_, .f32⟩
  | 123 => ⟨S16x8x2048x32, .f32⟩
  | 124 => ⟨S16x8x2048x128, .f32⟩
  | 125 => ⟨S16x2048x8x128, .f32⟩
  | 126 => ⟨S32768x1024, .f32⟩
  | 127 => ⟨S32768x1024, .bf16⟩
  | _ => ⟨S16x2048x1024, .f32⟩

abbrev hbmTy0_1 (i : Nat) : BufTy := match i % 128 with
  | 0 => ⟨S16x8x2048x128, .f32⟩
  | 1 => ⟨S16x2048x8x128, .f32⟩
  | 2 => ⟨S32768x1024, .f32⟩
  | 3 => ⟨S32768x1024, .bf16⟩
  | 4 => ⟨S16x2048x4, .f32⟩
  | 5 => ⟨S1x1x4, .f32⟩
  | 6 => ⟨S16x2048x4, .f32⟩
  | 7 => ⟨S16x2048x4, .f32⟩
  | 8 => ⟨S_, .f32⟩
  | 9 => ⟨S16x2048x124, .f32⟩
  | 10 => ⟨S16x2048x128, .f32⟩
  | 11 => ⟨S16x2048x8x64, .f32⟩
  | 12 => ⟨S32768x512, .f32⟩
  | 13 => ⟨S32768x512, .bf16⟩
  | 14 => ⟨S16x2048x128, .f32⟩
  | 15 => ⟨S_, .f32⟩
  | 16 => ⟨S16x2048x128, .f32⟩
  | 17 => ⟨S16x2048x128, .f32⟩
  | 18 => ⟨S16x2048x128, .f32⟩
  | 19 => ⟨S16x2048x128, .f32⟩
  | 20 => ⟨S16x2048x128, .i1⟩
  | 21 => ⟨S16x2048x128, .f32⟩
  | 22 => ⟨S16x2048x128, .f32⟩
  | 23 => ⟨S16x2048x128, .f32⟩
  | 24 => ⟨S16x2048x128, .f32⟩
  | 25 => ⟨S16x2048x128, .f32⟩
  | 26 => ⟨S16x2048x128, .f32⟩
  | 27 => ⟨S16x2048x128, .f32⟩
  | 28 => ⟨S16x2048x128, .f32⟩
  | 29 => ⟨S16x2048x128, .f32⟩
  | 30 => ⟨S32768x128, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_4 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_7 : Ref sig .tc := ⟨.hbm, 89, rfl⟩
abbrev main_v74 : Ref sig .tc := ⟨.hbm, 90, rfl⟩
abbrev main_v75 : Ref sig .tc := ⟨.hbm, 91, rfl⟩
abbrev main_cst_8 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_cst_9 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_10 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_call0_v0 : Ref sig .tc := ⟨.hbm, 142, rfl⟩
abbrev main_call0_call0_cst : Ref sig .tc := ⟨.hbm, 143, rfl⟩
abbrev main_call0_call0_v0 : Ref sig .tc := ⟨.hbm, 144, rfl⟩
abbrev main_call0_call0_v1 : Ref sig .tc := ⟨.hbm, 145, rfl⟩
abbrev main_call0_call0_v2 : Ref sig .tc := ⟨.hbm, 146, rfl⟩
abbrev main_call0_call0_v3 : Ref sig .tc := ⟨.hbm, 147, rfl⟩
abbrev main_call0_call0_v4 : Ref sig .tc := ⟨.hbm, 148, rfl⟩
abbrev main_call0_call0_v5 : Ref sig .tc := ⟨.hbm, 149, rfl⟩
abbrev main_call0_call0_v6 : Ref sig .tc := ⟨.hbm, 150, rfl⟩
abbrev main_call0_call0_v7 : Ref sig .tc := ⟨.hbm, 151, rfl⟩
abbrev main_call0_call0_v8 : Ref sig .tc := ⟨.hbm, 152, rfl⟩
abbrev main_call0_call0_v9 : Ref sig .tc := ⟨.hbm, 153, rfl⟩
abbrev main_call0_call0_v10 : Ref sig .tc := ⟨.hbm, 154, rfl⟩
abbrev main_call0_call0_v11 : Ref sig .tc := ⟨.hbm, 155, rfl⟩
abbrev main_call0_v1 : Ref sig .tc := ⟨.hbm, 156, rfl⟩
abbrev main_v123 : Ref sig .tc := ⟨.hbm, 157, rfl⟩
abbrev main_v124 : Ref sig .tc := ⟨.hbm, 158, rfl⟩

abbrev nD : Nat := 1
abbrev τ : Topo := Topo.v7x

variable {F : FTy → Type} [FloatOps F]
-- ==== Proof.Softmax.lean ====
/-
  The arithmetic of a softmax that is taken block by block, over the extended reals.

  One query row meets its keys in blocks of `w`. It carries three numbers: `mx`, the largest score so far (never below a
  real starting value `c`), `sm`, the sum of `2 ^ (score - mx)`, and `ac`, the sum of `value * 2 ^ (score - mx)`. When a
  block raises `mx`, the two sums are scaled by `2 ^ (old - new)`. `sm_closed` and `ac_closed` say that after `n` blocks
  the sums are what they would be had the last `mx` been known from the start. `quotient` says that the quotient of the
  two is the row of the ordinary softmax, taken with base `e` and shifted by any real number.

  The scores are real or `⊥` (a masked key); the values may be any extended reals.
-/
module

public import Idealize.ShloMosaic.PureOps.Ideal

@[expose] public section

noncomputable section

namespace Cert.Softmax

open Idealize.ShloMosaic
open scoped BigOperators

/-! ## Scaling a sum, and the powers -/

/-- A real factor that is not negative goes into a sum of extended reals. -/
theorem mul_sum_of_nonneg {ι : Type} (t : Finset ι) (r : ℝ) (hr : 0 ≤ r) (f : ι → EReal) :
    (r : EReal) * ∑ i ∈ t, f i = ∑ i ∈ t, (r : EReal) * f i := by
  classical
  induction t using Finset.induction_on with
  | empty => simp
  | insert a t ha ih =>
    rw [Finset.sum_insert ha, Finset.sum_insert ha,
      EReal.left_distrib_of_nonneg_of_ne_top (EReal.coe_nonneg.mpr hr) (EReal.coe_ne_top r), ih]

theorem sum_coe {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

theorem exp2_real (r : ℝ) : Ideal.exp2 (r : EReal) = (((2 : ℝ) ^ r : ℝ) : EReal) := rfl

/-- `2 ^ (score - m)` as a real number: zero at a masked key. -/
def pw (x : EReal) (m : ℝ) : ℝ := if x = ⊥ then 0 else (2 : ℝ) ^ (x.toReal - m)

theorem pw_nonneg (x : EReal) (m : ℝ) : 0 ≤ pw x m := by
  unfold pw; split
  · exact le_refl _
  · positivity

theorem exp2_sub (x : EReal) (hx : x ≠ ⊤) (m : ℝ) : Ideal.exp2 (x - (m : EReal)) = (pw x m : EReal) := by
  induction x using EReal.rec with
  | bot => simp [pw]
  | top => exact absurd rfl hx
  | coe r => rw [← EReal.coe_sub, Ideal.exp2_coe]; simp [pw]

/-- Moving the shift: `2 ^ (m - m') * 2 ^ (x - m) = 2 ^ (x - m')`. -/
theorem pw_shift (x : EReal) (m m' : ℝ) : (2 : ℝ) ^ (m - m') * pw x m = pw x m' := by
  unfold pw; split
  · simp
  · rw [← Real.rpow_add (by norm_num)]; congr 1; ring

/-! ## The block recursion -/

section Blocks

variable (w : ℕ) (c : EReal) (S V : ℕ → EReal)

/-- The running largest score. -/
def mx : ℕ → EReal
  | 0 => c
  | n + 1 => max (mx n) (Finset.univ.fold max ⊥ fun k : Fin w => S (w * n + k))

/-- The running sum of the weights. -/
def sm : ℕ → EReal
  | 0 => 0
  | n + 1 => Ideal.exp2 (mx w c S n - mx w c S (n + 1)) * sm n
      + ∑ k : Fin w, Ideal.exp2 (S (w * n + k) - mx w c S (n + 1))

/-- The running weighted sum of the values. -/
def ac : ℕ → EReal
  | 0 => 0
  | n + 1 => Ideal.exp2 (mx w c S n - mx w c S (n + 1)) * ac n
      + ∑ k : Fin w, V (w * n + k) * Ideal.exp2 (S (w * n + k) - mx w c S (n + 1))

variable {w c S V}

theorem fold_max_ne_top {ι : Type} (t : Finset ι) (f : ι → EReal) (hf : ∀ i, f i ≠ ⊤) : t.fold max ⊥ f ≠ ⊤ := by
  classical
  induction t using Finset.induction_on with
  | empty => simp
  | insert a t ha ih =>
    rw [Finset.fold_insert ha]
    rcases max_choice (f a) (t.fold max ⊥ f) with h | h <;> rw [h]
    · exact hf a
    · exact ih

theorem mx_real (hc : ∃ r : ℝ, c = r) (hS : ∀ s, S s ≠ ⊤) (n : ℕ) : ∃ r : ℝ, mx w c S n = r := by
  induction n with
  | zero => exact hc
  | succ n ih =>
    obtain ⟨r, hr⟩ := ih
    have h1 : mx w c S (n + 1) ≠ ⊤ := by
      show max (mx w c S n) _ ≠ ⊤
      rcases max_choice (mx w c S n) (Finset.univ.fold max ⊥ fun k : Fin w => S (w * n + k)) with h | h <;> rw [h]
      · rw [hr]; exact EReal.coe_ne_top r
      · exact fold_max_ne_top _ _ fun k => hS _
    have h2 : mx w c S (n + 1) ≠ ⊥ := by
      intro h
      have : mx w c S n ≤ mx w c S (n + 1) := le_max_left _ _
      rw [h, le_bot_iff, hr] at this
      exact EReal.coe_ne_bot r this
    exact ⟨_, (EReal.coe_toReal h1 h2).symm⟩

theorem sum_blocks (n : ℕ) (f : ℕ → EReal) :
    ∑ s ∈ Finset.range (w * (n + 1)), f s = ∑ s ∈ Finset.range (w * n), f s + ∑ k : Fin w, f (w * n + k) := by
  rw [Nat.mul_succ, Finset.sum_range_add, ← Fin.sum_univ_eq_sum_range (fun k => f (w * n + k)) w]

/-- After `n` blocks the sum of the weights, at the last shift. -/
theorem sm_closed (hc : ∃ r : ℝ, c = r) (hS : ∀ s, S s ≠ ⊤) (n : ℕ) :
    sm w c S n = ∑ s ∈ Finset.range (w * n), Ideal.exp2 (S s - mx w c S n) := by
  induction n with
  | zero => simp [sm]
  | succ n ih =>
    obtain ⟨r, hr⟩ := mx_real (w := w) hc hS n
    obtain ⟨r', hr'⟩ := mx_real (w := w) hc hS (n + 1)
    rw [sum_blocks]
    show Ideal.exp2 _ * sm w c S n + _ = _
    congr 1
    rw [ih, hr, hr', ← EReal.coe_sub, exp2_real,
      mul_sum_of_nonneg _ _ (Real.rpow_nonneg (by norm_num) _)]
    refine Finset.sum_congr rfl fun s _ => ?_
    rw [exp2_sub _ (hS s), exp2_sub _ (hS s), ← EReal.coe_mul]
    exact congrArg _ (pw_shift (S s) r r')

/-- After `n` blocks the weighted sum of the values, at the last shift. -/
theorem ac_closed (hc : ∃ r : ℝ, c = r) (hS : ∀ s, S s ≠ ⊤) (n : ℕ) :
    ac w c S V n = ∑ s ∈ Finset.range (w * n), V s * Ideal.exp2 (S s - mx w c S n) := by
  induction n with
  | zero => simp [ac]
  | succ n ih =>
    obtain ⟨r, hr⟩ := mx_real (w := w) hc hS n
    obtain ⟨r', hr'⟩ := mx_real (w := w) hc hS (n + 1)
    rw [sum_blocks]
    show Ideal.exp2 _ * ac w c S V n + _ = _
    congr 1
    rw [ih, hr, hr', ← EReal.coe_sub, exp2_real,
      mul_sum_of_nonneg _ _ (Real.rpow_nonneg (by norm_num) _)]
    refine Finset.sum_congr rfl fun s _ => ?_
    rw [exp2_sub _ (hS s), exp2_sub _ (hS s), ← mul_assoc, mul_comm _ (V s), mul_assoc, ← EReal.coe_mul]
    exact congrArg (V s * ·) (congrArg _ (pw_shift (S s) r r'))

end Blocks

/-! ## Against the softmax with base `e` -/

/-- `e ^ (score - M)` as a real number: zero at a masked key. -/
def pe (x : EReal) (M : ℝ) : ℝ := if x = ⊥ then 0 else Real.exp (x.toReal - M)

theorem pe_nonneg (x : EReal) (m : ℝ) : 0 ≤ pe x m := by
  unfold pe; split
  · exact le_refl _
  · positivity

theorem exp_sub (x : EReal) (hx : x ≠ ⊤) (m : ℝ) : Ideal.exp (x - (m : EReal)) = (pe x m : EReal) := by
  induction x using EReal.rec with
  | bot => simp [pe]
  | top => exact absurd rfl hx
  | coe r => rw [← EReal.coe_sub, Ideal.exp_coe]; simp [pe]

/-- `S` is `R` with the base changed from `e` to `2`: a masked key stays masked, a real score is divided by `log 2`. -/
def Rebased (R S : EReal) : Prop := (R = ⊥ ∧ S = ⊥) ∨ ∃ r : ℝ, R = r ∧ S = ((r / Real.log 2 : ℝ) : EReal)

theorem Rebased.ne_top {R S : EReal} (h : Rebased R S) : R ≠ ⊤ ∧ S ≠ ⊤ := by
  rcases h with ⟨h1, h2⟩ | ⟨r, h1, h2⟩ <;> rw [h1, h2] <;> simp

theorem Rebased.pw_eq {R S : EReal} (h : Rebased R S) (m M : ℝ) :
    pw S m = Real.exp (M - m * Real.log 2) * pe R M := by
  have hl : Real.log 2 ≠ 0 := (Real.log_pos (by norm_num)).ne'
  rcases h with ⟨h1, h2⟩ | ⟨r, h1, h2⟩
  · rw [h1, h2]; simp [pw, pe]
  · rw [h1, h2]
    simp only [pw, pe, EReal.coe_ne_bot, if_false, EReal.toReal_coe]
    rw [Real.rpow_def_of_pos (by norm_num), ← Real.exp_add]
    congr 1
    field_simp
    ring

theorem div_coe {x : EReal} {r : ℝ} (hr : 0 < r) : Ideal.div x (r : EReal) = x * ((r⁻¹ : ℝ) : EReal) := by
  unfold Ideal.div
  rw [if_neg (by exact_mod_cast hr.ne'), EReal.coe_inv]

/-- The quotient of the two running sums is the softmax's row: over a set `A` of keys outside which every score is
    masked, with any real shifts `m` and `M`, given one key that is not masked. -/
theorem quotient {ι : Type} (A B : Finset ι) (hAB : A ⊆ B) (R S V : ι → EReal)
    (hRS : ∀ i ∈ B, Rebased (R i) (S i)) (hB : ∀ i ∈ B, i ∉ A → R i = ⊥) (i₀ : ι) (hi₀ : i₀ ∈ A) (hr : R i₀ ≠ ⊥)
    (m M : ℝ) :
    Ideal.div (∑ i ∈ A, V i * Ideal.exp2 (S i - (m : EReal))) (∑ i ∈ A, Ideal.exp2 (S i - (m : EReal)))
      = ∑ i ∈ B, Ideal.div (Ideal.exp (R i - (M : EReal))) (∑ j ∈ B, Ideal.exp (R j - (M : EReal))) * V i := by
  set β : ℝ := Real.exp (M - m * Real.log 2) with hβ
  have hβ0 : 0 < β := Real.exp_pos _
  have hden : ∑ j ∈ B, Ideal.exp (R j - (M : EReal)) = ((∑ j ∈ A, pe (R j) M : ℝ) : EReal) := by
    rw [← sum_coe, ← Finset.sum_subset hAB]
    · exact Finset.sum_congr rfl fun i hi => exp_sub _ (hRS i (hAB hi)).ne_top.1 M
    · intro i hi hn; rw [exp_sub _ (hRS i hi).ne_top.1 M, hB i hi hn]; simp [pe]
  have hE : ∀ i ∈ A, Ideal.exp2 (S i - (m : EReal)) = ((β * pe (R i) M : ℝ) : EReal) := fun i hi => by
    rw [exp2_sub _ (hRS i (hAB hi)).ne_top.2, (hRS i (hAB hi)).pw_eq m M]
  have hL : 0 < ∑ j ∈ A, pe (R j) M := by
    refine Finset.sum_pos' (fun i _ => pe_nonneg _ _) ⟨i₀, hi₀, ?_⟩
    unfold pe; rw [if_neg hr]; positivity
  set L : ℝ := ∑ j ∈ A, pe (R j) M with hLdef
  rw [hden, Finset.sum_congr rfl hE, sum_coe, ← Finset.mul_sum, ← hLdef, div_coe (mul_pos hβ0 hL), mul_comm,
    mul_sum_of_nonneg _ _ (inv_nonneg.mpr (mul_pos hβ0 hL).le)]
  rw [← Finset.sum_subset hAB]
  · refine Finset.sum_congr rfl fun i hi => ?_
    rw [hE i hi, exp_sub _ (hRS i (hAB hi)).ne_top.1 M, div_coe hL, mul_comm, mul_assoc, ← EReal.coe_mul, ← EReal.coe_mul,
      mul_comm]
    congr 2
    field_simp
  · intro i hi hn
    rw [hB i hi hn, div_coe hL]
    simp

/-- A largest score is real when no score is `⊤` and one is not `⊥`. -/
theorem fold_max_real {ι : Type} (t : Finset ι) (f : ι → EReal) (hf : ∀ i, f i ≠ ⊤) (i₀ : ι) (h₀ : i₀ ∈ t)
    (hb : f i₀ ≠ ⊥) : ∃ r : ℝ, t.fold max ⊥ f = r := by
  have h1 := fold_max_ne_top t f hf
  have h2 : t.fold max ⊥ f ≠ ⊥ := by
    intro h
    have : f i₀ ≤ t.fold max ⊥ f := Finset.le_fold_max _ |>.mpr (Or.inr ⟨i₀, h₀, le_refl _⟩)
    rw [h, le_bot_iff] at this
    exact hb this
  exact ⟨_, (EReal.coe_toReal h1 h2).symm⟩

end Cert.Softmax

end
-- ==== Proof.Rows.lean ====
/-
  The rows of a causal attention that a kernel takes in key blocks of 512: row `t` meets the blocks `0 … t / 512` only,
  so after the kernel's block `j` it has met `min j (t / 512) + 1` of them.
-/
module

public import proofs.«01_k».proof.Proof.Softmax

@[expose] public section

noncomputable section

namespace Cert.Softmax

open Idealize.ShloMosaic

variable (c : EReal) (S : ℕ → ℕ → EReal) (V : ℕ → EReal)

/-- Row `t`'s largest score after the kernel's key block `j`. -/
def rowM (j t : ℕ) : EReal := mx 512 c (S t) (min j (t / 512) + 1)
/-- Row `t`'s sum of weights after the kernel's key block `j`. -/
def rowL (j t : ℕ) : EReal := sm 512 c (S t) (min j (t / 512) + 1)
/-- Row `t`'s weighted sum of the values after the kernel's key block `j`. -/
def rowA (j t : ℕ) : EReal := ac 512 c (S t) V (min j (t / 512) + 1)

variable {c S V}

theorem rowM_zero (t : ℕ) : rowM c S 0 t = max c (Finset.univ.fold max ⊥ fun k : Fin 512 => S t k) := by
  simp [rowM, mx]

theorem rowL_zero (t : ℕ) : rowL c S 0 t = ∑ k : Fin 512, Ideal.exp2 (S t k - rowM c S 0 t) := by
  simp [rowL, rowM, sm]

theorem rowA_zero (t : ℕ) : rowA c S V 0 t = ∑ k : Fin 512, V k * Ideal.exp2 (S t k - rowM c S 0 t) := by
  simp [rowA, rowM, ac]

theorem rowM_lt {j t : ℕ} (h : t < 512 * (j + 1)) : rowM c S (j + 1) t = rowM c S j t := by
  unfold rowM; congr 2; omega

theorem rowL_lt {j t : ℕ} (h : t < 512 * (j + 1)) : rowL c S (j + 1) t = rowL c S j t := by
  unfold rowL; congr 2; omega

theorem rowA_lt {j t : ℕ} (h : t < 512 * (j + 1)) : rowA c S V (j + 1) t = rowA c S V j t := by
  unfold rowA; congr 2; omega

theorem min_ge {j t : ℕ} (h : 512 * (j + 1) ≤ t) : min (j + 1) (t / 512) = min j (t / 512) + 1 ∧ min j (t / 512) + 1 = j + 1 := by
  omega

theorem rowM_ge {j t : ℕ} (h : 512 * (j + 1) ≤ t) :
    rowM c S (j + 1) t = max (rowM c S j t) (Finset.univ.fold max ⊥ fun k : Fin 512 => S t (512 * (j + 1) + k)) := by
  unfold rowM; rw [(min_ge h).1, (min_ge h).2]; rfl

theorem rowL_ge {j t : ℕ} (h : 512 * (j + 1) ≤ t) :
    rowL c S (j + 1) t = Ideal.exp2 (rowM c S j t - rowM c S (j + 1) t) * rowL c S j t
      + ∑ k : Fin 512, Ideal.exp2 (S t (512 * (j + 1) + k) - rowM c S (j + 1) t) := by
  unfold rowL rowM; rw [(min_ge h).1, (min_ge h).2]; rfl

theorem rowA_ge {j t : ℕ} (h : 512 * (j + 1) ≤ t) :
    rowA c S V (j + 1) t = Ideal.exp2 (rowM c S j t - rowM c S (j + 1) t) * rowA c S V j t
      + ∑ k : Fin 512, V (512 * (j + 1) + k) * Ideal.exp2 (S t (512 * (j + 1) + k) - rowM c S (j + 1) t) := by
  unfold rowA rowM; rw [(min_ge h).1, (min_ge h).2]; rfl

end Cert.Softmax

end
-- ==== Proof.Scores.lean ====
/-
  The scores that one grid point of the attention computes, index by index, one lemma for each key block and each of its
  two heads.
-/
module

public import proofs.«01_k».proof.Proof.Gen.KernelIdeal.Value
public import proofs.«01_k».proof.Proof.Rows
public import Idealize.ShloMosaic.Lib.Pointwise
public import Idealize.ShloMosaic.Lib.Pipeline.ValueKit

@[expose] public section

set_option maxRecDepth 16384

noncomputable section

namespace Cert.Mla

open Cert.KernelIdeal Cert.KernelIdeal.Gen Cert.Softmax Idealize.ShloMosaic Idealize.SL.Sem

abbrev QB := Vec Ideal S1x2048x256 .bf16
abbrev VB := Vec Ideal S1x2048x128 .bf16

/-- The value every row's largest score starts from. -/
abbrev c0 : EReal := Ideal.ofBits FTy.f32 0xF149F2CA#32

theorem ninf : Ideal.ofBits FTy.f32 0xFF800000#32 = ⊥ := by simp [Ideal.ofBits, Ideal.ieee]

theorem c0_real : ∃ r : ℝ, c0 = r := by
  simp only [c0, Ideal.ofBits, Ideal.ieee]
  split_ifs <;> first | exact ⟨_, rfl⟩ | simp_all

/-- Score of key `s` for query `t` in the block, over the columns from `o`: masked when the key's chunk of 64 is after
    the query's. -/
def SC (x0 x1 : QB) (o : ℕ) (ho : o + 128 ≤ 256) (t s : ℕ) : EReal :=
  if h : s < 2048 ∧ t < 2048 then
    if s / 64 ≤ t / 64 then
      ∑ d : Fin 128, x1 (ix3 0 ⟨s, h.1⟩ ⟨o + d, by omega⟩) * x0 (ix3 0 ⟨t, h.2⟩ ⟨o + d, by omega⟩)
    else ⊥
  else ⊥

/-- Value column `o + d` of key `s` in the block. -/
def VL (x2 : VB) (o : ℕ) (ho : o + 64 ≤ 128) (d : Fin 64) (s : ℕ) : EReal :=
  if h : s < 2048 then x2 (ix3 0 ⟨s, h⟩ ⟨o + d, by omega⟩) else 0

theorem shr6 : ∀ k : Fin 512, IntOp.shrsi ArithUnit.vector (BitVec.ofNat 32 k) 6#32 = BitVec.ofNat 32 (k / 64) := by
  decide +kernel

theorem sle8 : ∀ a b : Fin 8, IntOp.cmpi .sle (BitVec.ofNat 32 a) (BitVec.ofNat 32 b) = BitVec.ofBool (decide ((a : ℕ) ≤ b)) := by
  decide +kernel

theorem mask (k t : Fin 512) : k0_pay2 (ix2 k t) = BitVec.ofBool (decide ((k : ℕ) / 64 ≤ t / 64)) := by
  pointwise [k0_pay2]
  rw [shr6, shr6]
  exact sle8 ⟨k / 64, by omega⟩ ⟨t / 64, by omega⟩

theorem e2 {φ : FTy} (x : Ideal φ) : FloatOps.exp2 (F := Ideal) (φ := φ) x = Ideal.exp2 x := rfl

theorem back {a t : ℕ} (h : ¬ t < a) : a + (t - a) = t := by omega

theorem redM (u : FVec Ideal S1x2048 .f32) (w : FVec Ideal S512x2048 .f32) (t : Fin 2048) :
    maximumf u (shapeCast S1x2048 (multiReduction .maximumf [0] S2048 w 0xFF800000#32 reduces_S512x2048_S2048 (.inl rfl) rfl)
      shapeCasts_S2048_S1x2048) (ix2 0 t) = max (u (ix2 0 t)) (Finset.univ.fold max ⊥ fun k : Fin 512 => w (ix2 k t)) := by
  have h : (shapeCast S1x2048 (multiReduction .maximumf [0] S2048 w 0xFF800000#32 reduces_S512x2048_S2048 (.inl rfl) rfl)
      shapeCasts_S2048_S1x2048) (ix2 0 t) = Finset.univ.fold max ⊥ fun k : Fin 512 => w (ix2 k t) := by
    pointwise [ninf]
  rw [maximumf_apply, Ideal.maximumf_def, h]

theorem redA (u : FVec Ideal S1x2048 .f32) (w : FVec Ideal S512x2048 .f32) (t : Fin 2048) :
    addf u (shapeCast S1x2048 (multiReduction .add [0] S2048 w 0x00000000#32 reduces_S512x2048_S2048 (.inl rfl) rfl)
      shapeCasts_S2048_S1x2048) (ix2 0 t) = u (ix2 0 t) + ∑ k : Fin 512, w (ix2 k t) := by
  have h : (shapeCast S1x2048 (multiReduction .add [0] S2048 w 0x00000000#32 reduces_S512x2048_S2048 (.inl rfl) rfl)
      shapeCasts_S2048_S1x2048) (ix2 0 t) = ∑ k : Fin 512, w (ix2 k t) := by
    pointwise []
  rw [addf_apply, Ideal.addf_def, h]

theorem expB (u : FVec Ideal S1x2048 .f32) (w : FVec Ideal S512x2048 .f32) (k : Fin 512) (t : Fin 2048) :
    exp2 (subf w (broadcastTo S512x2048 u broadcasts_S1x2048_S512x2048)) (ix2 k t)
      = Ideal.exp2 (w (ix2 k t) - u (ix2 0 t)) := by
  pointwise [e2]

theorem zeroL (u : FVec Ideal S1x2048 .f32) (t : Fin 2048) :
    mulf u (broadcast S1x2048 (Scalar.ofBits .f32 0x00000000#32 : Ideal .f32)) (ix2 0 t) = 0 := by
  pointwise []
  exact mul_zero _

theorem zeroA (v : FVec Ideal S512x64 .bf16) (u : FVec Ideal S1x2048 .f32) (w : FVec Ideal S512x2048 .f32) (d : Fin 64)
    (t : Fin 2048) : k0_pay14 (F := Ideal) k0_pay4 v u w (ix2 d t) = ∑ k : Fin 512, v (ix2 k d) * w (ix2 k t) := by
  pointwise [k0_pay14, k0_pay4]
  rw [mul_zero, zero_add]

/-- A row of running numbers holds the largest scores after key block `j`; -/
def IsM (S : ℕ → ℕ → EReal) (j : ℕ) (v : FVec Ideal S1x2048 .f32) : Prop := ∀ t : Fin 2048, v (ix2 0 t) = rowM c0 S j t
/-- the sums of weights; -/
def IsL (S : ℕ → ℕ → EReal) (j : ℕ) (v : FVec Ideal S1x2048 .f32) : Prop := ∀ t : Fin 2048, v (ix2 0 t) = rowL c0 S j t
/-- the weighted sums of the values. -/
def IsA (S : ℕ → ℕ → EReal) (W : Fin 64 → ℕ → EReal) (j : ℕ) (v : FVec Ideal S64x2048 .f32) : Prop :=
  ∀ (d : Fin 64) (t : Fin 2048), v (ix2 d t) = rowA c0 S (W d) j t

/-! ### Scores, one lemma per key block and head of the pair -/

theorem sc00 (x0 x1 : QB) (k : Fin 512) (t : Fin 2048) :
    k0_pay9 (F := Ideal) (View.ld x1 r0_0) (View.ld x0 r0_2) (ix2 k t) = SC x0 x1 0 (by omega) t k := by
  have hk : (k : ℕ) < 2048 := by omega
  pointwise [k0_pay9, mask, ninf, SC]
  rw [dif_pos hk]
  split_ifs with h1 h2 h2 <;> first | rfl | omega | skip
  simp only [back h1]
  exact (if_pos (by omega)).symm

theorem sc10 (x0 x1 : QB) (k : Fin 512) (t : Fin 2048) :
    k0_pay15 (F := Ideal) k0_pay2 (View.ld x1 r0_3) (View.ld x0 r0_5) (ix2 k t) = SC x0 x1 128 (by omega) t k := by
  have hk : (k : ℕ) < 2048 := by omega
  pointwise [k0_pay15, mask, ninf, SC]
  rw [dif_pos hk]
  split_ifs with h1 h2 h2 <;> first | rfl | omega | skip
  simp only [back h1]
  exact (if_pos (by omega)).symm

theorem sc01 (x0 x1 : QB) (k : Fin 512) (t : Fin 1536) :
    k0_pay23 (F := Ideal) k0_pay2 (k0_pay21 (View.ld x1 r0_6)) (View.ld x0 r0_8) (ix2 k t) = SC x0 x1 0 (by omega) (512 + t) (512 + k) := by
  have hk : 512 + (k : ℕ) < 2048 ∧ 512 + (t : ℕ) < 2048 := by omega
  pointwise [k0_pay23, k0_pay21, mask, ninf, SC]
  rw [dif_pos hk]
  split_ifs with h1 h2 h2 <;> first | rfl | omega | skip
  simp only [back h1]
  exact (if_pos (by omega)).symm

theorem sc11 (x0 x1 : QB) (k : Fin 512) (t : Fin 1536) :
    k0_pay34 (F := Ideal) k0_pay2 (k0_pay32 (View.ld x1 r0_9) (View.ld x0 r0_11)) (k0_pay33 (View.ld x1 r0_9) (View.ld x0 r0_11)) (Scalar.ofBits .f32 0xFF800000#32) (ix2 k t) = SC x0 x1 128 (by omega) (512 + t) (512 + k) := by
  have hk : 512 + (k : ℕ) < 2048 ∧ 512 + (t : ℕ) < 2048 := by omega
  pointwise [k0_pay34, k0_pay32, k0_pay33, mask, ninf, SC]
  rw [dif_pos hk]
  split_ifs with h1 h2 h2 <;> first | rfl | omega | skip
  simp only [back h1]
  exact (if_pos (by omega)).symm

theorem sc02 (x0 x1 : QB) (k : Fin 512) (t : Fin 1024) :
    k0_pay43 (F := Ideal) k0_pay2 (View.ld x1 r0_12) (View.ld x0 r0_14) (ix2 k t) = SC x0 x1 0 (by omega) (1024 + t) (1024 + k) := by
  have hk : 1024 + (k : ℕ) < 2048 ∧ 1024 + (t : ℕ) < 2048 := by omega
  pointwise [k0_pay43, mask, ninf, SC]
  rw [dif_pos hk]
  split_ifs with h1 h2 h2 <;> first | rfl | omega | skip
  simp only [back h1]
  exact (if_pos (by omega)).symm

theorem sc12 (x0 x1 : QB) (k : Fin 512) (t : Fin 1024) :
    k0_pay54 (F := Ideal) k0_pay2 (View.ld x1 r0_15) (View.ld x0 r0_17) (ix2 k t) = SC x0 x1 128 (by omega) (1024 + t) (1024 + k) := by
  have hk : 1024 + (k : ℕ) < 2048 ∧ 1024 + (t : ℕ) < 2048 := by omega
  pointwise [k0_pay54, mask, ninf, SC]
  rw [dif_pos hk]
  split_ifs with h1 h2 h2 <;> first | rfl | omega | skip
  simp only [back h1]
  exact (if_pos (by omega)).symm

theorem sc03 (x0 x1 : QB) (k : Fin 512) (t : Fin 512) :
    k0_pay64 (F := Ideal) k0_pay2 (View.ld x1 r0_18) (View.ld x0 r0_18) (ix2 k t) = SC x0 x1 0 (by omega) (1536 + t) (1536 + k) := by
  have hk : 1536 + (k : ℕ) < 2048 ∧ 1536 + (t : ℕ) < 2048 := by omega
  pointwise [k0_pay64, mask, ninf, SC]
  rw [dif_pos hk]
  split_ifs with h1 h2 <;> first | rfl | omega

end Cert.Mla

end
-- ==== Proof.Head0.lean ====
/-
  The three running numbers of every row after each key block of the grid point's first head.
-/
module

public import proofs.«01_k».proof.Proof.Scores
public import Idealize.ShloMosaic.Lib.Pointwise
public import Idealize.ShloMosaic.Lib.Pipeline.ValueKit

@[expose] public section

set_option maxRecDepth 16384

noncomputable section

namespace Cert.Mla

open Cert.KernelIdeal Cert.KernelIdeal.Gen Cert.Softmax Idealize.ShloMosaic Idealize.SL.Sem

section Steps

variable {S : ℕ → ℕ → EReal} {W : Fin 64 → ℕ → EReal}

theorem m00 {v13 v17} (hS : ∀ (k : Fin 512) (t : Fin 2048), k0_pay9 (F := Ideal) v13 v17 (ix2 k t) = S t k) :
    IsM S 0 (k0_pay10 v13 v17) := fun t => by
  unfold k0_pay10
  rw [redM, rowM_zero]
  simp only [hS]
  rfl

theorem p00 {v13 v17} (hS : ∀ (k : Fin 512) (t : Fin 2048), k0_pay9 (F := Ideal) v13 v17 (ix2 k t) = S t k) (k : Fin 512) (t : Fin 2048) :
    k0_pay12 (F := Ideal) v13 v17 (ix2 k t) = Ideal.exp2 (S t k - rowM c0 S 0 t) := by
  unfold k0_pay12
  rw [expB, hS, m00 hS t]

theorem l00 {v13 v17} (hS : ∀ (k : Fin 512) (t : Fin 2048), k0_pay9 (F := Ideal) v13 v17 (ix2 k t) = S t k) :
    IsL S 0 (k0_pay13 v13 v17) := fun t => by
  unfold k0_pay13
  rw [redA, rowL_zero]
  rw [zeroL, zero_add]
  simp only [p00 hS]

theorem a00 {v13 v17 v16} (hS : ∀ (k : Fin 512) (t : Fin 2048), k0_pay9 (F := Ideal) v13 v17 (ix2 k t) = S t k)
    (hv : ∀ (k : Fin 512) (d : Fin 64), v16 (ix2 k d) = W d k) :
    IsA S W 0 (k0_pay14 (F := Ideal) k0_pay4 v16 (k0_pay11 v13 v17) (k0_pay12 v13 v17)) := fun d t => by
  rw [zeroA, rowA_zero]
  simp only [p00 hS, hv]

theorem n01 {v72 v75} {v27} (hS : ∀ (k : Fin 512) (t : Fin 1536), k0_pay23 (F := Ideal) k0_pay2 v72 v75 (ix2 k t) = S (512 + t) (512 + k))
    (hm : IsM S 0 v27) (t : Fin 1536) : k0_pay25 k0_pay2 v27 v72 v75 (ix2 0 t) = rowM c0 S 1 (512 + t) := by
  unfold IsM at hm
  pointwise [k0_pay25, k0_pay24, hS, hm, ninf]
  rw [rowM_ge (j := 0) (by omega)]

theorem m01 {v72 v75} {v27} (hS : ∀ (k : Fin 512) (t : Fin 1536), k0_pay23 (F := Ideal) k0_pay2 v72 v75 (ix2 k t) = S (512 + t) (512 + k))
    (hm : IsM S 0 v27) : IsM S 1 (k0_pay28 k0_pay2 v27 v72 v75) := fun t => by
  have hn := n01 hS hm
  unfold IsM at hm
  pointwise [k0_pay28, hm, hn]
  split_ifs with h
  · rw [rowM_lt (j := 0) (by omega)]
  · simp only [back h]

theorem l01 {v72 v75} {v27 v36} (hS : ∀ (k : Fin 512) (t : Fin 1536), k0_pay23 (F := Ideal) k0_pay2 v72 v75 (ix2 k t) = S (512 + t) (512 + k))
    (hm : IsM S 0 v27) (hl : IsL S 0 v36) : IsL S 1 (k0_pay29 k0_pay2 v27 v36 v72 v75) := fun t => by
  have hn := n01 hS hm
  unfold IsM at hm
  unfold IsL at hl
  pointwise [k0_pay29, k0_pay26, k0_pay27, k0_pay24, hS, hm, hl, hn, e2]
  split_ifs with h
  · rw [rowL_lt (j := 0) (by omega)]
  · rw [rowL_ge (j := 0) (by omega)]; simp only [back h]

theorem a01 {v72 v75} {v27 v41 v74} (hS : ∀ (k : Fin 512) (t : Fin 1536), k0_pay23 (F := Ideal) k0_pay2 v72 v75 (ix2 k t) = S (512 + t) (512 + k))
    (hm : IsM S 0 v27) (ha : IsA S W 0 v41) (hv : ∀ (k : Fin 512) (d : Fin 64), v74 (ix2 k d) = W d (512 + k)) :
    IsA S W 1 (k0_pay30 k0_pay2 v27 v41 v72 v74 v75) := fun d t => by
  have hn := n01 hS hm
  unfold IsM at hm
  unfold IsA at ha
  pointwise [k0_pay30, k0_pay26, k0_pay27, k0_pay24, hS, hm, ha, hn, e2, hv]
  split_ifs with h
  · rw [rowA_lt (j := 0) (by omega)]
  · rw [rowA_ge (j := 0) (by omega)]; simp only [back h]

theorem n02 {v158 : FVec Ideal S512x1024 .f32} {v159 : FVec Ideal S1x1024 .f32} (hS : ∀ (k : Fin 512) (t : Fin 1024), v158 (ix2 k t) = S (1024 + t) (1024 + k))
    (hx : ∀ t : Fin 1024, v159 (ix2 0 t) = rowM c0 S 1 (1024 + t)) (t : Fin 1024) : k0_pay47 v158 v159 (ix2 0 t) = rowM c0 S 2 (1024 + t) := by
  pointwise [k0_pay47, hS, hx, ninf]
  rw [rowM_ge (j := 1) (by omega)]

theorem m02 {v158 : FVec Ideal S512x1024 .f32} {v159 : FVec Ideal S1x1024 .f32} {v104} (hS : ∀ (k : Fin 512) (t : Fin 1024), v158 (ix2 k t) = S (1024 + t) (1024 + k))
    (hx : ∀ t : Fin 1024, v159 (ix2 0 t) = rowM c0 S 1 (1024 + t)) (hm : IsM S 1 v104) : IsM S 2 (k0_pay50 v104 v158 v159) := fun t => by
  have hn := n02 hS hx
  unfold IsM at hm
  pointwise [k0_pay50, hm, hn]
  split_ifs with h
  · rw [rowM_lt (j := 1) (by omega)]
  · simp only [back h]

theorem l02 {v158 : FVec Ideal S512x1024 .f32} {v159 : FVec Ideal S1x1024 .f32} {v104 v106} (hS : ∀ (k : Fin 512) (t : Fin 1024), v158 (ix2 k t) = S (1024 + t) (1024 + k))
    (hx : ∀ t : Fin 1024, v159 (ix2 0 t) = rowM c0 S 1 (1024 + t)) (hm : IsM S 1 v104) (hl : IsL S 1 v106) : IsL S 2 (k0_pay51 v106 v158 v159 (k0_pay45 v106)) := fun t => by
  have hn := n02 hS hx
  unfold IsM at hm
  unfold IsL at hl
  pointwise [k0_pay51, k0_pay48, k0_pay49, k0_pay45, hS, hx, hl, hn, e2]
  split_ifs with h
  · rw [rowL_lt (j := 1) (by omega)]
  · rw [rowL_ge (j := 1) (by omega)]; simp only [back h]

theorem a02 {v158 : FVec Ideal S512x1024 .f32} {v159 : FVec Ideal S1x1024 .f32} {v104 v108 v150} (hS : ∀ (k : Fin 512) (t : Fin 1024), v158 (ix2 k t) = S (1024 + t) (1024 + k))
    (hx : ∀ t : Fin 1024, v159 (ix2 0 t) = rowM c0 S 1 (1024 + t)) (hm : IsM S 1 v104) (ha : IsA S W 1 v108) (hv : ∀ (k : Fin 512) (d : Fin 64), v150 (ix2 k d) = W d (1024 + k)) :
    IsA S W 2 (k0_pay52 v108 v150 v158 v159 (k0_pay46 v108)) := fun d t => by
  have hn := n02 hS hx
  unfold IsM at hm
  unfold IsA at ha
  pointwise [k0_pay52, k0_pay48, k0_pay49, k0_pay46, hS, hx, ha, hn, e2, hv]
  split_ifs with h
  · rw [rowA_lt (j := 1) (by omega)]
  · rw [rowA_ge (j := 1) (by omega)]; simp only [back h]

theorem n03 {v223 v227 v180} (hS : ∀ (k : Fin 512) (t : Fin 512), k0_pay64 (F := Ideal) k0_pay2 v223 v227 (ix2 k t) = S (1536 + t) (1536 + k))
    (hm : IsM S 2 v180) (t : Fin 512) : k0_pay66 k0_pay2 v180 v223 v227 (ix2 0 t) = rowM c0 S 3 (1536 + t) := by
  unfold IsM at hm
  pointwise [k0_pay66, k0_pay65, hS, hm, ninf]
  rw [rowM_ge (j := 2) (by omega)]

theorem l03 {v223 v227 v180 v182} (hS : ∀ (k : Fin 512) (t : Fin 512), k0_pay64 (F := Ideal) k0_pay2 v223 v227 (ix2 k t) = S (1536 + t) (1536 + k))
    (hm : IsM S 2 v180) (hl : IsL S 2 v182) (t : Fin 512) :
    k0_pay69 k0_pay2 v180 v182 v223 v227 (ix2 0 t) = rowL c0 S 3 (1536 + t) := by
  have hn := n03 hS hm
  unfold IsM at hm
  unfold IsL at hl
  pointwise [k0_pay69, k0_pay67, k0_pay68, k0_pay65, hS, hm, hl, hn, e2]
  rw [rowL_ge (j := 2) (by omega)]

theorem a03 {v223 v227 v180 v184 v225} (hS : ∀ (k : Fin 512) (t : Fin 512), k0_pay64 (F := Ideal) k0_pay2 v223 v227 (ix2 k t) = S (1536 + t) (1536 + k))
    (hm : IsM S 2 v180) (ha : IsA S W 2 v184) (hv : ∀ (k : Fin 512) (d : Fin 64), v225 (ix3 0 k d) = W d (1536 + k))
    (d : Fin 64) (t : Fin 512) :
    k0_pay70 k0_pay2 v180 v184 v223 v225 v227 (ix2 d t) = rowA c0 S (W d) 3 (1536 + t) := by
  have hn := n03 hS hm
  unfold IsM at hm
  unfold IsA at ha
  pointwise [k0_pay70, k0_pay67, k0_pay68, k0_pay65, hS, hm, ha, hn, e2, hv]
  rw [rowA_ge (j := 2) (by omega)]

end Steps

end Cert.Mla

end
-- ==== Proof.Head1.lean ====
/-
  The three running numbers of every row after each key block of the grid point's second head.
-/
module

public import proofs.«01_k».proof.Proof.Scores
public import Idealize.ShloMosaic.Lib.Pointwise
public import Idealize.ShloMosaic.Lib.Pipeline.ValueKit

@[expose] public section

set_option maxRecDepth 16384

noncomputable section

namespace Cert.Mla

open Cert.KernelIdeal Cert.KernelIdeal.Gen Cert.Softmax Idealize.ShloMosaic Idealize.SL.Sem

section Steps

variable {S : ℕ → ℕ → EReal} {W : Fin 64 → ℕ → EReal}

theorem m10 {v42 v46} (hS : ∀ (k : Fin 512) (t : Fin 2048), k0_pay15 (F := Ideal) k0_pay2 v42 v46 (ix2 k t) = S t k) :
    IsM S 0 (k0_pay16 k0_pay2 k0_pay5 v42 v46) := fun t => by
  unfold k0_pay16
  rw [redM, rowM_zero]
  simp only [hS]
  rfl

theorem p10 {v42 v46} (hS : ∀ (k : Fin 512) (t : Fin 2048), k0_pay15 (F := Ideal) k0_pay2 v42 v46 (ix2 k t) = S t k) (k : Fin 512) (t : Fin 2048) :
    k0_pay18 (F := Ideal) k0_pay2 k0_pay5 v42 v46 (ix2 k t) = Ideal.exp2 (S t k - rowM c0 S 0 t) := by
  unfold k0_pay18
  rw [expB, hS, m10 hS t]

theorem l10 {v42 v46} (hS : ∀ (k : Fin 512) (t : Fin 2048), k0_pay15 (F := Ideal) k0_pay2 v42 v46 (ix2 k t) = S t k) :
    IsL S 0 (k0_pay19 k0_pay2 k0_pay5 k0_pay6 v42 v46) := fun t => by
  unfold k0_pay19
  rw [redA, rowL_zero]
  unfold k0_pay6
  rw [zeroL, zero_add]
  simp only [p10 hS]

theorem a10 {v42 v46 v44} (hS : ∀ (k : Fin 512) (t : Fin 2048), k0_pay15 (F := Ideal) k0_pay2 v42 v46 (ix2 k t) = S t k)
    (hv : ∀ (k : Fin 512) (d : Fin 64), v44 (ix3 0 k d) = W d k) :
    IsA S W 0 (k0_pay20 (F := Ideal) k0_pay2 k0_pay5 k0_pay7 v42 v44 v46) := fun d t => by
  have hv' : ∀ k : Fin 512, shapeCast S512x64 v44 shapeCasts_S1x512x64_S512x64 (ix2 k d) = W d k := fun k => by
    pointwise [hv]
  refine (zeroA (shapeCast S512x64 v44 shapeCasts_S1x512x64_S512x64) (k0_pay17 k0_pay2 k0_pay5 v42 v46)
    (k0_pay18 k0_pay2 k0_pay5 v42 v46) d t).trans ?_
  rw [rowA_zero]
  simp only [p10 hS, hv']

theorem n11 {v115 v116} {cf : Ideal .f32} {v56} (hS : ∀ (k : Fin 512) (t : Fin 1536), k0_pay34 (F := Ideal) k0_pay2 v115 v116 cf (ix2 k t) = S (512 + t) (512 + k))
    (hm : IsM S 0 v56) (t : Fin 1536) : k0_pay36 k0_pay2 v56 v115 v116 cf (ix2 0 t) = rowM c0 S 1 (512 + t) := by
  unfold IsM at hm
  pointwise [k0_pay36, k0_pay35, hS, hm, ninf]
  rw [rowM_ge (j := 0) (by omega)]

theorem m11 {v115 v116} {cf : Ideal .f32} {v56} (hS : ∀ (k : Fin 512) (t : Fin 1536), k0_pay34 (F := Ideal) k0_pay2 v115 v116 cf (ix2 k t) = S (512 + t) (512 + k))
    (hm : IsM S 0 v56) : IsM S 1 (k0_pay39 k0_pay2 v56 v115 v116 cf) := fun t => by
  have hn := n11 hS hm
  unfold IsM at hm
  pointwise [k0_pay39, hm, hn]
  split_ifs with h
  · rw [rowM_lt (j := 0) (by omega)]
  · simp only [back h]

theorem l11 {v115 v116} {cf : Ideal .f32} {v56 v65} (hS : ∀ (k : Fin 512) (t : Fin 1536), k0_pay34 (F := Ideal) k0_pay2 v115 v116 cf (ix2 k t) = S (512 + t) (512 + k))
    (hm : IsM S 0 v56) (hl : IsL S 0 v65) : IsL S 1 (k0_pay40 k0_pay2 v56 v65 v115 v116 cf) := fun t => by
  have hn := n11 hS hm
  unfold IsM at hm
  unfold IsL at hl
  pointwise [k0_pay40, k0_pay37, k0_pay38, k0_pay35, hS, hm, hl, hn, e2]
  split_ifs with h
  · rw [rowL_lt (j := 0) (by omega)]
  · rw [rowL_ge (j := 0) (by omega)]; simp only [back h]

theorem a11 {v115 v116} {cf : Ideal .f32} {v56 v70 v112} (hS : ∀ (k : Fin 512) (t : Fin 1536), k0_pay34 (F := Ideal) k0_pay2 v115 v116 cf (ix2 k t) = S (512 + t) (512 + k))
    (hm : IsM S 0 v56) (ha : IsA S W 0 v70) (hv : ∀ (k : Fin 512) (d : Fin 64), v112 (ix2 k d) = W d (512 + k)) :
    IsA S W 1 (k0_pay41 k0_pay2 v56 v70 v112 v115 v116 cf) := fun d t => by
  have hn := n11 hS hm
  unfold IsM at hm
  unfold IsA at ha
  pointwise [k0_pay41, k0_pay37, k0_pay38, k0_pay35, hS, hm, ha, hn, e2, hv]
  split_ifs with h
  · rw [rowA_lt (j := 0) (by omega)]
  · rw [rowA_ge (j := 0) (by omega)]; simp only [back h]

theorem n12 {v185 v189} {v142} (hS : ∀ (k : Fin 512) (t : Fin 1024), k0_pay54 (F := Ideal) k0_pay2 v185 v189 (ix2 k t) = S (1024 + t) (1024 + k))
    (hm : IsM S 1 v142) (t : Fin 1024) : k0_pay58 k0_pay2 v142 v185 v189 (ix2 0 t) = rowM c0 S 2 (1024 + t) := by
  unfold IsM at hm
  pointwise [k0_pay58, k0_pay55, hS, hm, ninf]
  rw [rowM_ge (j := 1) (by omega)]

theorem m12 {v185 v189} {v142} (hS : ∀ (k : Fin 512) (t : Fin 1024), k0_pay54 (F := Ideal) k0_pay2 v185 v189 (ix2 k t) = S (1024 + t) (1024 + k))
    (hm : IsM S 1 v142) : IsM S 2 (k0_pay61 v142 (k0_pay58 k0_pay2 v142 v185 v189)) := fun t => by
  have hn := n12 hS hm
  unfold IsM at hm
  pointwise [k0_pay61, hm, hn]
  split_ifs with h
  · rw [rowM_lt (j := 1) (by omega)]
  · simp only [back h]

theorem l12 {v185 v189} {v142 v144} (hS : ∀ (k : Fin 512) (t : Fin 1024), k0_pay54 (F := Ideal) k0_pay2 v185 v189 (ix2 k t) = S (1024 + t) (1024 + k))
    (hm : IsM S 1 v142) (hl : IsL S 1 v144) : IsL S 2 (k0_pay62 v144 (k0_pay56 v144) (k0_pay59 k0_pay2 v142 v185 v189) (k0_pay60 k0_pay2 v142 v185 v189)) := fun t => by
  have hn := n12 hS hm
  unfold IsM at hm
  unfold IsL at hl
  pointwise [k0_pay62, k0_pay59, k0_pay60, k0_pay55, k0_pay56, hS, hm, hl, hn, e2]
  split_ifs with h
  · rw [rowL_lt (j := 1) (by omega)]
  · rw [rowL_ge (j := 1) (by omega)]; simp only [back h]

theorem a12 {v185 v189} {v142 v146 v188} (hS : ∀ (k : Fin 512) (t : Fin 1024), k0_pay54 (F := Ideal) k0_pay2 v185 v189 (ix2 k t) = S (1024 + t) (1024 + k))
    (hm : IsM S 1 v142) (ha : IsA S W 1 v146) (hv : ∀ (k : Fin 512) (d : Fin 64), v188 (ix2 k d) = W d (1024 + k)) :
    IsA S W 2 (k0_pay63 v146 v188 (k0_pay57 v146) (k0_pay59 k0_pay2 v142 v185 v189) (k0_pay60 k0_pay2 v142 v185 v189)) := fun d t => by
  have hn := n12 hS hm
  unfold IsM at hm
  unfold IsA at ha
  pointwise [k0_pay63, k0_pay59, k0_pay60, k0_pay55, k0_pay57, hS, hm, ha, hn, e2, hv]
  split_ifs with h
  · rw [rowA_lt (j := 1) (by omega)]
  · rw [rowA_ge (j := 1) (by omega)]; simp only [back h]

end Steps

end Cert.Mla

end
-- ==== Proof.BlockOut.lean ====
/-
  What one grid point of the attention leaves in its result block, index by index: column `64 * h + d` of row `t` is the
  quotient of the two running sums of head `h` of the pair.
-/
module

public import proofs.«01_k».proof.Proof.Head0
public import proofs.«01_k».proof.Proof.Head1
public import Idealize.ShloMosaic.Lib.Pointwise
public import Idealize.ShloMosaic.Lib.Pipeline.ValueKit

@[expose] public section

set_option maxRecDepth 16384

noncomputable section

namespace Cert.Mla

open Cert.KernelIdeal Cert.KernelIdeal.Gen Cert.Softmax Idealize.ShloMosaic Idealize.SL.Sem

/-! ### The running numbers of the two heads, named as the block's value names them -/

section

variable (x0 x1 : QB) (x2 : VB)

theorem M00 : IsM (SC x0 x1 0 (by omega)) 0 (k0_pay74 x0 x1 x2) := m00 (sc00 x0 x1)
theorem M01 : IsM (SC x0 x1 0 (by omega)) 1 (k0_pay77 x0 x1 x2) := m01 (sc01 x0 x1) (M00 x0 x1 x2)
theorem L01 : IsL (SC x0 x1 0 (by omega)) 1 (k0_pay78 x0 x1 x2) :=
  l01 (sc01 x0 x1) (M00 x0 x1 x2) (l00 (sc00 x0 x1))
theorem A01 : IsA (SC x0 x1 0 (by omega)) (VL x2 0 (by omega)) 1 (k0_pay79 x0 x1 x2) :=
  a01 (sc01 x0 x1) (M00 x0 x1 x2) (a00 (sc00 x0 x1) (fun k d => by pointwise [k0_pay8, VL]; split <;> first | rfl | omega))
    (fun k d => by pointwise [k0_pay22, VL]; split <;> first | rfl | omega)
theorem E02 (t : Fin 1024) : k0_pay86 x0 x1 x2 (ix2 0 t) = rowM c0 (SC x0 x1 0 (by omega)) 1 (1024 + t) := by
  have h := M01 x0 x1 x2
  unfold IsM at h
  unfold k0_pay86
  pointwise [k0_pay44, h]
theorem M02 : IsM (SC x0 x1 0 (by omega)) 2 (k0_pay87 x0 x1 x2) := m02 (sc02 x0 x1) (E02 x0 x1 x2) (M01 x0 x1 x2)
theorem L02 : IsL (SC x0 x1 0 (by omega)) 2 (k0_pay88 x0 x1 x2) :=
  l02 (sc02 x0 x1) (E02 x0 x1 x2) (M01 x0 x1 x2) (L01 x0 x1 x2)
theorem A02 : IsA (SC x0 x1 0 (by omega)) (VL x2 0 (by omega)) 2 (k0_pay89 x0 x1 x2) :=
  a02 (sc02 x0 x1) (E02 x0 x1 x2) (M01 x0 x1 x2) (A01 x0 x1 x2) (fun k d => by pointwise [k0_pay42, VL]; split <;> first | rfl | omega)
theorem L03 (t : Fin 512) : k0_pay69 (k0_pay72 x0 x1 x2) (k0_pay87 x0 x1 x2) (k0_pay88 x0 x1 x2) (View.ld x1 r0_18) (View.ld x0 r0_18) (ix2 0 t)
    = rowL c0 (SC x0 x1 0 (by omega)) 3 (1536 + t) := l03 (sc03 x0 x1) (M02 x0 x1 x2) (L02 x0 x1 x2) t
theorem A03 (d : Fin 64) (t : Fin 512) : k0_pay70 (k0_pay72 x0 x1 x2) (k0_pay87 x0 x1 x2) (k0_pay89 x0 x1 x2) (View.ld x1 r0_18) (View.ld x2 r0_19) (View.ld x0 r0_18) (ix2 d t)
    = rowA c0 (SC x0 x1 0 (by omega)) (VL x2 0 (by omega) d) 3 (1536 + t) :=
  a03 (sc03 x0 x1) (M02 x0 x1 x2) (A02 x0 x1 x2) (fun k d => by pointwise [VL]; split <;> first | rfl | omega) d t

theorem M10 : IsM (SC x0 x1 128 (by omega)) 0 (k0_pay75 x0 x1 x2) := m10 (sc10 x0 x1)
theorem M11 : IsM (SC x0 x1 128 (by omega)) 1 (k0_pay82 x0 x1 x2) := m11 (sc11 x0 x1) (M10 x0 x1 x2)
theorem L11 : IsL (SC x0 x1 128 (by omega)) 1 (k0_pay83 x0 x1 x2) :=
  l11 (sc11 x0 x1) (M10 x0 x1 x2) (l10 (sc10 x0 x1))
theorem A11 : IsA (SC x0 x1 128 (by omega)) (VL x2 64 (by omega)) 1 (k0_pay84 x0 x1 x2) :=
  a11 (sc11 x0 x1) (M10 x0 x1 x2) (a10 (sc10 x0 x1) (fun k d => by pointwise [VL]; split <;> first | rfl | omega))
    (fun k d => by pointwise [k0_pay31, VL]; split <;> first | rfl | omega)
theorem M12 : IsM (SC x0 x1 128 (by omega)) 2 (k0_pay61 (k0_pay82 x0 x1 x2) (k0_pay58 (k0_pay72 x0 x1 x2) (k0_pay82 x0 x1 x2) (View.ld x1 r0_15) (View.ld x0 r0_17))) :=
  m12 (sc12 x0 x1) (M11 x0 x1 x2)
theorem L12 : IsL (SC x0 x1 128 (by omega)) 2 (k0_pay62 (k0_pay83 x0 x1 x2) (k0_pay56 (k0_pay83 x0 x1 x2)) (k0_pay90 x0 x1 x2) (k0_pay91 x0 x1 x2)) :=
  l12 (sc12 x0 x1) (M11 x0 x1 x2) (L11 x0 x1 x2)
theorem A12 : IsA (SC x0 x1 128 (by omega)) (VL x2 64 (by omega)) 2 (k0_pay63 (k0_pay84 x0 x1 x2) (k0_pay53 (View.ld x2 r0_16)) (k0_pay57 (k0_pay84 x0 x1 x2)) (k0_pay90 x0 x1 x2) (k0_pay91 x0 x1 x2)) :=
  a12 (sc12 x0 x1) (M11 x0 x1 x2) (A11 x0 x1 x2) (fun k d => by pointwise [k0_pay53, VL]; split <;> first | rfl | omega)

theorem last_block (S : ℕ → ℕ → EReal) (V : ℕ → EReal) (t : ℕ) (h : 1536 ≤ t) :
    rowL c0 S 3 t = Ideal.exp2 (rowM c0 S 2 t - max (rowM c0 S 2 t) (Finset.univ.fold max ⊥ fun k : Fin 512 => S t (1536 + k)))
        * rowL c0 S 2 t + ∑ k : Fin 512, Ideal.exp2 (S t (1536 + k)
          - max (rowM c0 S 2 t) (Finset.univ.fold max ⊥ fun k : Fin 512 => S t (1536 + k)))
    ∧ rowA c0 S V 3 t = Ideal.exp2 (rowM c0 S 2 t - max (rowM c0 S 2 t) (Finset.univ.fold max ⊥ fun k : Fin 512 => S t (1536 + k)))
        * rowA c0 S V 2 t + ∑ k : Fin 512, V (1536 + k) * Ideal.exp2 (S t (1536 + k)
          - max (rowM c0 S 2 t) (Finset.univ.fold max ⊥ fun k : Fin 512 => S t (1536 + k))) := by
  have h7 : rowM c0 S 3 t = max (rowM c0 S 2 t) (Finset.univ.fold max ⊥ fun k : Fin 512 => S t (1536 + k)) :=
    rowM_ge (j := 2) (by omega)
  rw [← h7]
  exact ⟨rowL_ge (j := 2) (by omega), rowA_ge (j := 2) (by omega)⟩

set_option maxHeartbeats 2000000 in
/-- The block after the body at one of its indices. -/
theorem out_apply (t : Fin 2048) (d : Fin 128) : out0_3 x0 x1 x2 (ix3 0 t d)
    = if h : (d : ℕ) < 64 then
        Ideal.div (rowA c0 (SC x0 x1 0 (by omega)) (VL x2 0 (by omega) ⟨d, h⟩) 3 t) (rowL c0 (SC x0 x1 0 (by omega)) 3 t)
      else
        Ideal.div (rowA c0 (SC x0 x1 128 (by omega)) (VL x2 64 (by omega) ⟨d - 64, by omega⟩) 3 t)
          (rowL c0 (SC x0 x1 128 (by omega)) 3 t) := by
  have hM := M12 x0 x1 x2
  have hL := L12 x0 x1 x2
  have hA := A12 x0 x1 x2
  have hL0 := L02 x0 x1 x2
  have hA0 := A02 x0 x1 x2
  have h3 := L03 x0 x1 x2
  have h4 := A03 x0 x1 x2
  unfold IsM at hM
  unfold IsL at hL hL0
  unfold IsA at hA hA0
  unfold out0_3
  frame_out
  have hmask : ∀ k t : Fin 512, k0_pay72 x0 x1 x2 (ix2 k t) = BitVec.ofBool (decide ((k : ℕ) / 64 ≤ t / 64)) := mask
  pointwise [k0_pay71, k0_pay1, hM, hL, hA, hL0, hA0, h3, h4, hmask, ninf]
  by_cases hd : (d : ℕ) < 64
  · simp only [hd, dite_true]
    by_cases ht : (t : ℕ) < 1536
    · have h5 := rowL_lt (c := c0) (S := SC x0 x1 0 (by omega)) (j := 2) (t := t) (by omega)
      have h6 := rowA_lt (c := c0) (S := SC x0 x1 0 (by omega)) (V := VL x2 0 (by omega) ⟨d, hd⟩) (j := 2) (t := t) (by omega)
      simp only [ht, dite_true]
      exact congrArg₂ Ideal.div h6.symm h5.symm
    · simp only [ht, dite_false, back ht]
  · simp only [hd, dite_false]
    by_cases ht : (t : ℕ) < 1536
    · have h5 := rowL_lt (c := c0) (S := SC x0 x1 128 (by omega)) (j := 2) (t := t) (by omega)
      have h6 := rowA_lt (c := c0) (S := SC x0 x1 128 (by omega)) (V := VL x2 64 (by omega) ⟨d - 64, by omega⟩) (j := 2) (t := t) (by omega)
      simp only [ht, dite_true]
      exact congrArg₂ Ideal.div h6.symm h5.symm
    · obtain ⟨h5, h6⟩ := last_block (SC x0 x1 128 (by omega)) (VL x2 64 (by omega) ⟨d - 64, by omega⟩) t (by omega)
      have hsc : ∀ k : Fin 512, (if (k : ℕ) / 64 ≤ ((t : ℕ) - 1536) / 64 then
          ∑ y : Fin 128, x1 (ix3 0 ⟨1536 + (k : ℕ), by omega⟩ ⟨128 + (y : ℕ), by omega⟩)
            * x0 (ix3 0 ⟨1536 + ((t : ℕ) - 1536), by omega⟩ ⟨128 + (y : ℕ), by omega⟩) else ⊥)
          = SC x0 x1 128 (by omega) t (1536 + k) := fun k => by
        have hk : 1536 + (k : ℕ) < 2048 ∧ (t : ℕ) < 2048 := by omega
        unfold SC
        rw [dif_pos hk]
        simp only [back ht]
        split_ifs with h1 h2 h2 <;> first | rfl | omega
      have hvl : ∀ k : Fin 512, x2 (ix3 0 ⟨1536 + (k : ℕ), by omega⟩ ⟨64 + ((d : ℕ) - 64), by omega⟩)
          = VL x2 64 (by omega) ⟨d - 64, by omega⟩ (1536 + k) := fun k => by
        have hk : 1536 + (k : ℕ) < 2048 := by omega
        unfold VL
        rw [dif_pos hk]
      simp only [ht, dite_false, hsc, hvl, e2]
      simp only [back ht]
      exact congrArg₂ Ideal.div h6.symm h5.symm

end

end Cert.Mla

end
-- ==== Proof.Host.lean ====
/-
  The three arrays that the attention is called on, index by index: each head's 64 plain and 32 rotary columns side by
  side, padded with zeros to 128, the queries scaled.
-/
module

public import proofs.«01_k».proof.Proof.Gen.KernelIdeal.Value
public import Idealize.ShloMosaic.Lib.Pointwise
public import Idealize.ShloMosaic.Lib.Pipeline.ValueKit
public import Idealize.ShloMosaic.Lib.Claim

@[expose] public section

set_option maxRecDepth 16384

noncomputable section

namespace Cert.Mla

open Cert.KernelIdeal Cert.KernelIdeal.Gen Idealize.ShloMosaic Idealize.ShloMosaic.TcCoe Idealize.SL.Sem

variable (m : (ℓ : Loc nD τ sig) → Buf (Elt Ideal) ℓ) (c : Dev nD)

/-- The scaled queries, the keys and the values as the attention finds them. -/
def qa : FVec Ideal S16x2048x1024 .bf16 := V m c main_v10
def ka : FVec Ideal S16x2048x1024 .bf16 := V m c main_v17
def va : FVec Ideal S16x2048x512 .bf16 := V m c main_v20

/-- The arguments: plain and rotary queries, plain and rotary keys, values. -/
def qPlain : FVec Ideal S16x8x2048x64 .f32 := m ((c : Thread nD τ).loc main_arg0)
def qRot : FVec Ideal S16x8x2048x32 .f32 := m ((c : Thread nD τ).loc main_arg1)
def kPlain : FVec Ideal S16x8x2048x64 .f32 := m ((c : Thread nD τ).loc main_arg2)
def kRot : FVec Ideal S16x2048x32 .f32 := m ((c : Thread nD τ).loc main_arg3)
def vals : FVec Ideal S16x8x2048x64 .f32 := m ((c : Thread nD τ).loc main_arg4)

theorem zero_word : (FloatOps.sitofp FTy.f32 0#32 : Ideal .f32) = (0 : EReal) := by
  show (((BitVec.toInt 0#32 : ℤ) : ℝ) : EReal) = 0
  norm_num

/-- The factor on the queries: the scale, and 1 / log 2, for the kernel's exponentials are to the base 2. -/
def factor : EReal :=
  Ideal.div 1 (Ideal.log (Ideal.ofBits FTy.f32 1073741824#32))

theorem q_apply (b : Fin 16) (t : Fin 2048) (h : Fin 8) (d : Fin 128) :
    qa m c (ix3 b t ⟨128 * h + d, by omega⟩)
      = (if h1 : (d : ℕ) < 64 then qPlain m c (ix4 b h t ⟨d, h1⟩)
          else if h2 : (d : ℕ) < 96 then qRot m c (ix4 b h t ⟨d - 64, by omega⟩) else (0 : EReal))
        * Ideal.ofBits FTy.f32 1037108716#32 * factor := by
  unfold qa V
  simp only [hostOps0, hostOps0_1, hostOps0_2, hostOps0_3, hostOps0_4, List.flatten_cons, List.flatten_nil,
    List.cons_append, List.nil_append, List.append_nil]
  entry_read
  simp only [StableHlo.TRef.toBuf, StableHlo.TRef.ofBuf, cast_eq]
  pointwise []
  have e1 : (128 * (h : ℕ) + d) / 128 = h := by omega
  have e2 : (128 * (h : ℕ) + d) % 128 = d := by omega
  simp only [e1, e2, zero_word]
  unfold factor qPlain qRot
  congr 2
  by_cases h1 : (d : ℕ) < 64
  · have h2 : (d : ℕ) < 96 := by omega
    simp only [h1, h2, h.2, and_self, dite_true]
  · by_cases h2 : (d : ℕ) < 96
    · simp only [h1, h2, h.2, and_self, dite_true, dite_false]
    · simp only [h1, h2, and_false, dite_false]

theorem k_apply (b : Fin 16) (t : Fin 2048) (h : Fin 8) (d : Fin 128) :
    ka m c (ix3 b t ⟨128 * h + d, by omega⟩)
      = if h1 : (d : ℕ) < 64 then kPlain m c (ix4 b h t ⟨d, h1⟩)
          else if h2 : (d : ℕ) < 96 then kRot m c (ix3 b t ⟨d - 64, by omega⟩) else (0 : EReal) := by
  unfold ka V
  simp only [hostOps0, hostOps0_1, hostOps0_2, hostOps0_3, hostOps0_4, List.flatten_cons, List.flatten_nil,
    List.cons_append, List.nil_append, List.append_nil]
  entry_read
  simp only [StableHlo.TRef.toBuf, StableHlo.TRef.ofBuf, cast_eq]
  pointwise []
  have e1 : (128 * (h : ℕ) + d) / 128 = h := by omega
  have e2 : (128 * (h : ℕ) + d) % 128 = d := by omega
  simp only [e1, e2, zero_word]
  unfold kPlain kRot
  by_cases h1 : (d : ℕ) < 64
  · have h2 : (d : ℕ) < 96 := by omega
    simp only [h1, h2, h.2, and_self, dite_true]
  · by_cases h2 : (d : ℕ) < 96
    · simp only [h1, h2, h.2, and_self, dite_true, dite_false]
    · simp only [h1, h2, and_false, dite_false]

theorem v_apply (b : Fin 16) (t : Fin 2048) (h : Fin 8) (d : Fin 64) :
    va m c (ix3 b t ⟨64 * h + d, by omega⟩) = vals m c (ix4 b h t d) := by
  unfold va V
  simp only [hostOps0, hostOps0_1, hostOps0_2, hostOps0_3, hostOps0_4, List.flatten_cons, List.flatten_nil,
    List.cons_append, List.nil_append, List.append_nil]
  entry_read
  pointwise []
  have e1 : (64 * (h : ℕ) + d) / 64 = h := by omega
  have e2 : (64 * (h : ℕ) + d) % 64 = d := by omega
  simp only [e1, e2]
  rfl

end Cert.Mla

end
-- ==== Proof.Final.lean ====
/-
  The array that the attention leaves, index by index: each grid point writes two heads of one sequence, and together the
  points write everything.
-/
module

public import proofs.«01_k».proof.Proof.BlockOut
public import proofs.«01_k».proof.Proof.Host

@[expose] public section

set_option maxRecDepth 16384

noncomputable section

namespace Cert.Mla

open Cert.KernelIdeal Cert.KernelIdeal.Gen Cert.KernelIdeal.Value Cert.Softmax
open Idealize.ShloMosaic Idealize.ShloMosaic.TcCoe Idealize.SL.Sem

variable (m : (ℓ : Loc nD τ sig) → Buf (Elt Ideal) ℓ) (c : Dev nD)

/-- Score of key `s` for query `t` in head `h` of sequence `b`. -/
def score (b : Fin 16) (h : Fin 8) (t s : ℕ) : EReal :=
  if hh : s < 2048 ∧ t < 2048 then
    if s / 64 ≤ t / 64 then
      ∑ d : Fin 128, ka m c (ix3 b ⟨s, hh.1⟩ ⟨128 * h + d, by omega⟩) * qa m c (ix3 b ⟨t, hh.2⟩ ⟨128 * h + d, by omega⟩)
    else ⊥
  else ⊥

/-- Value column `d` of key `s` in head `h` of sequence `b`. -/
def value (b : Fin 16) (h : Fin 8) (d : Fin 64) (s : ℕ) : EReal :=
  if hs : s < 2048 then va m c (ix3 b ⟨s, hs⟩ ⟨64 * h + d, by omega⟩) else 0

/-- Column `d` of query `t` in head `h` of sequence `b`, after the kernel's last step. -/
def attn (b : Fin 16) (h : Fin 8) (d : Fin 64) (t : ℕ) : EReal :=
  Ideal.div (rowA c0 (score m c b h) (value m c b h d) 3 t) (rowL c0 (score m c b h) 3 t)

/-- The array that the attention leaves. -/
def final : FVec Ideal S16x2048x512 .bf16 := fun i =>
  attn m c (i 0) ⟨(i 2 : Fin 512) / 64, by have : ((i 2 : Fin 512) : ℕ) < 512 := (i 2 : Fin 512).2; omega⟩ ⟨(i 2 : Fin 512) % 64, by omega⟩ (i 1 : Fin 2048)

theorem idx (t : Fin cfg0.N) : win0_0.index t = ![(t : ℕ) / 4, 0, (t : ℕ) % 4] ∧ win0_1.index t = ![(t : ℕ) / 4, 0, (t : ℕ) % 4]
    ∧ win0_2.index t = ![(t : ℕ) / 4, 0, (t : ℕ) % 4] ∧ win0_3.index t = ![(t : ℕ) / 4, 0, (t : ℕ) % 4] :=
  (by decide +kernel : ∀ t : Fin grid0.N, win0_0.index t = ![(t : ℕ) / 4, 0, (t : ℕ) % 4]
    ∧ win0_1.index t = ![(t : ℕ) / 4, 0, (t : ℕ) % 4]
    ∧ win0_2.index t = ![(t : ℕ) / 4, 0, (t : ℕ) % 4] ∧ win0_3.index t = ![(t : ℕ) / 4, 0, (t : ℕ) % 4]) t

theorem pos (t : Fin cfg0.N) : (t : ℕ) < 64 := t.2

theorem q_read (A : FVec Ideal S16x2048x1024 .bf16) (t : Fin cfg0.N) (s : Fin 2048) (e : Fin 256) :
    View.read (Elt Ideal) ((cfg0.win 0).blk t).view A (ix3 0 s e)
      = A (ix3 ⟨(t : ℕ) / 4, by have := pos t; omega⟩ s ⟨256 * ((t : ℕ) % 4) + e, by omega⟩) := by
  blk_ext [idx t]

theorem k_read (A : FVec Ideal S16x2048x1024 .bf16) (t : Fin cfg0.N) (s : Fin 2048) (e : Fin 256) :
    View.read (Elt Ideal) ((cfg0.win 1).blk t).view A (ix3 0 s e)
      = A (ix3 ⟨(t : ℕ) / 4, by have := pos t; omega⟩ s ⟨256 * ((t : ℕ) % 4) + e, by omega⟩) := by
  blk_ext [idx t]

theorem v_read (A : FVec Ideal S16x2048x512 .bf16) (t : Fin cfg0.N) (s : Fin 2048) (e : Fin 128) :
    View.read (Elt Ideal) ((cfg0.win 2).blk t).view A (ix3 0 s e)
      = A (ix3 ⟨(t : ℕ) / 4, by have := pos t; omega⟩ s ⟨128 * ((t : ℕ) % 4) + e, by omega⟩) := by
  blk_ext [idx t]

theorem q_block (t : Fin cfg0.N) (s : Fin 2048) (e : Fin 256) : iblk m c 0 t (ix3 0 s e)
    = qa m c (ix3 ⟨(t : ℕ) / 4, by have := pos t; omega⟩ s ⟨256 * ((t : ℕ) % 4) + e, by omega⟩) :=
  q_read (V m c main_v10) t s e

theorem k_block (t : Fin cfg0.N) (s : Fin 2048) (e : Fin 256) : iblk m c 1 t (ix3 0 s e)
    = ka m c (ix3 ⟨(t : ℕ) / 4, by have := pos t; omega⟩ s ⟨256 * ((t : ℕ) % 4) + e, by omega⟩) :=
  k_read (V m c main_v17) t s e

theorem v_block (t : Fin cfg0.N) (s : Fin 2048) (e : Fin 128) : iblk m c 2 t (ix3 0 s e)
    = va m c (ix3 ⟨(t : ℕ) / 4, by have := pos t; omega⟩ s ⟨128 * ((t : ℕ) % 4) + e, by omega⟩) :=
  v_read (V m c main_v20) t s e

/-- Scores of head `j` of grid point `t`, which is head `2 * (t % 4) + j` of sequence `t / 4`. -/
theorem block_score (t : Fin cfg0.N) (j : Fin 2) (o : ℕ) (ho : o + 128 ≤ 256) (hj : o = 128 * j) :
    SC (iblk m c 0 t) (iblk m c 1 t) o ho
      = score m c ⟨(t : ℕ) / 4, by have := pos t; omega⟩ ⟨2 * ((t : ℕ) % 4) + j, by omega⟩ := by
  subst hj
  funext r s
  unfold SC score
  by_cases hh : s < 2048 ∧ r < 2048
  · rw [dif_pos hh, dif_pos hh]
    by_cases hc : s / 64 ≤ r / 64
    · rw [if_pos hc, if_pos hc]
      refine Finset.sum_congr rfl fun d _ => ?_
      rw [q_block, k_block]
      have e1 : 256 * ((t : ℕ) % 4) + (128 * (j : ℕ) + d) = 128 * (2 * ((t : ℕ) % 4) + j) + d := by ring
      simp only [e1]
    · rw [if_neg hc, if_neg hc]
  · rw [dif_neg hh, dif_neg hh]

/-- Values of head `j` of grid point `t`. -/
theorem block_value (t : Fin cfg0.N) (j : Fin 2) (o : ℕ) (ho : o + 64 ≤ 128) (hj : o = 64 * j) (d : Fin 64) :
    VL (iblk m c 2 t) o ho d
      = value m c ⟨(t : ℕ) / 4, by have := pos t; omega⟩ ⟨2 * ((t : ℕ) % 4) + j, by omega⟩ d := by
  subst hj
  funext s
  unfold VL value
  by_cases hs : s < 2048
  · rw [dif_pos hs, dif_pos hs, v_block]
    have e1 : 128 * ((t : ℕ) % 4) + (64 * (j : ℕ) + d) = 64 * (2 * ((t : ℕ) % 4) + j) + d := by ring
    simp only [e1]
  · rw [dif_neg hs, dif_neg hs]

/-- What grid point `t` writes. -/
theorem block_out (t : Fin cfg0.N) (r : Fin 2048) (e : Fin 128) :
    out0_3 (iblk m c 0 t) (iblk m c 1 t) (iblk m c 2 t) (ix3 0 r e)
      = final m c (ix3 ⟨(t : ℕ) / 4, by have := pos t; omega⟩ r ⟨128 * ((t : ℕ) % 4) + e, by omega⟩) := by
  rw [out_apply]
  show _ = attn m c ⟨(t : ℕ) / 4, _⟩ ⟨(128 * ((t : ℕ) % 4) + e) / 64, _⟩ ⟨(128 * ((t : ℕ) % 4) + e) % 64, _⟩ r
  unfold attn
  by_cases he : (e : ℕ) < 64
  · have e1 : (128 * ((t : ℕ) % 4) + (e : ℕ)) / 64 = 2 * ((t : ℕ) % 4) + (0 : Fin 2) := by
      show _ = 2 * ((t : ℕ) % 4) + 0
      omega
    have e2 : (128 * ((t : ℕ) % 4) + (e : ℕ)) % 64 = e := by omega
    simp only [e1, e2, he, dite_true]
    rw [block_score m c t 0 0 _ rfl, block_value m c t 0 0 _ rfl]
  · have e1 : (128 * ((t : ℕ) % 4) + (e : ℕ)) / 64 = 2 * ((t : ℕ) % 4) + (1 : Fin 2) := by
      show _ = 2 * ((t : ℕ) % 4) + 1
      omega
    have e2 : (128 * ((t : ℕ) % 4) + (e : ℕ)) % 64 = e - 64 := by omega
    simp only [e1, e2, he, dite_false]
    rw [block_score m c t 1 128 _ rfl, block_value m c t 1 64 _ rfl]

theorem emb_eq (t : Fin cfg0.N) (r : Fin 2048) (e : Fin 128) :
    (win0_3.blk t).view.emb (ix3 0 r e)
      = (ix3 ⟨(t : ℕ) / 4, by have := pos t; omega⟩ r ⟨128 * ((t : ℕ) % 4) + e, by omega⟩ : S16x2048x512.Idx) := by
  blk_ext [idx t]

theorem array : (dats m 0 c).arrAt 3 cfg0.N = final m c := by
  refine (dats m 0 c).arrAt_eq_of_covers 3 _ (by decide +kernel) fun t hf y => ?_
  blk_simp
  rw [after0_3]
  obtain ⟨a, r, e, rfl⟩ : ∃ (a : Fin 1) (r : Fin 2048) (e : Fin 128), y = ix3 a r e :=
    ⟨y 0, y 1, y 2, by funext k; fin_cases k <;> rfl⟩
  obtain rfl : a = 0 := Subsingleton.elim _ _
  rw [emb_eq]
  exact block_out m c t r e

end Cert.Mla

end
-- ==== Proof.Row.lean ====
/-
  A row of the block recursion is a row of the softmax, and a score of the kernel is a score of the reference with the
  base changed.
-/
module

public import proofs.«01_k».proof.Proof.Rows

@[expose] public section

noncomputable section

namespace Cert.Softmax

open Idealize.ShloMosaic

/-- After `n` blocks that hold every key that is not masked, the quotient of the running sums is the softmax's row. -/
theorem row_closed {N w n : ℕ} {c : EReal} (hc : ∃ r : ℝ, c = r) (S V : ℕ → EReal) (R : Fin N → EReal) (hK : w * n ≤ N)
    (hS : ∀ s, S s ≠ ⊤) (hRS : ∀ i : Fin N, Rebased (R i) (S i)) (hB : ∀ i : Fin N, w * n ≤ i → R i = ⊥)
    (i₀ : Fin N) (hi₀ : (i₀ : ℕ) < w * n) (hr : R i₀ ≠ ⊥) :
    Ideal.div (ac w c S V n) (sm w c S n)
      = ∑ s : Fin N, Ideal.div (Ideal.exp (R s - Finset.univ.fold max ⊥ R))
          (∑ x : Fin N, Ideal.exp (R x - Finset.univ.fold max ⊥ R)) * V s := by
  obtain ⟨M, hM⟩ := fold_max_real Finset.univ R (fun i => (hRS i).ne_top.1) i₀ (Finset.mem_univ _) hr
  obtain ⟨m, hm⟩ := mx_real (w := w) hc hS n
  rw [sm_closed hc hS, ac_closed hc hS, hM, hm]
  let R' : ℕ → EReal := fun i => if h : i < N then R ⟨i, h⟩ else ⊥
  have hR' : ∀ i : Fin N, R' i = R i := fun i => dif_pos i.2
  have h := quotient (Finset.range (w * n)) (Finset.range N) (Finset.range_subset_range.mpr hK) R' S V
    (fun i hi => by
      have hi' := Finset.mem_range.mp hi
      have := hRS ⟨i, hi'⟩
      rwa [← hR'] at this)
    (fun i hi hn => by
      have hi' := Finset.mem_range.mp hi
      have hn' : w * n ≤ i := by simpa using hn
      have := hB ⟨i, hi'⟩ hn'
      rwa [← hR'] at this)
    i₀ (Finset.mem_range.mpr hi₀) (by rwa [hR']) m M
  rw [h, Finset.sum_range, Finset.sum_range]
  refine Finset.sum_congr rfl fun s _ => ?_
  rw [hR']
  congr 2
  exact Finset.sum_congr rfl fun x _ => by rw [hR']

theorem sum_parts (f : Fin 128 → EReal) : ∑ d, f d
    = ∑ d : Fin 64, f ⟨d, by omega⟩ + (∑ r : Fin 32, f ⟨64 + r, by omega⟩ + ∑ r : Fin 32, f ⟨96 + r, by omega⟩) := by
  have h1 := Fin.sum_univ_add (a := 64) (b := 64) f
  have h2 := Fin.sum_univ_add (a := 32) (b := 32) (fun i : Fin 64 => f (Fin.natAdd 64 i))
  refine h1.trans (congrArg₂ (· + ·) rfl (h2.trans (congrArg₂ (· + ·) rfl ?_)))
  refine Finset.sum_congr rfl fun r _ => ?_
  congr 1
  ext
  show 64 + (32 + (r : ℕ)) = 96 + r
  omega

/-- A score over the padded columns, whose queries carry the scale and `1 / log 2`, is the scaled score with its base
    changed. -/
theorem rebased_score (q k : Fin 128 → EReal) (a0 b0 : Fin 64 → ℝ) (a1 b1 : Fin 32 → ℝ) (z : ℝ)
    (hq0 : ∀ d : Fin 64, q ⟨d, by omega⟩ = (a0 d : EReal) * (z : EReal) * (((Real.log 2)⁻¹ : ℝ) : EReal))
    (hq1 : ∀ d : Fin 32, q ⟨64 + d, by omega⟩ = (a1 d : EReal) * (z : EReal) * (((Real.log 2)⁻¹ : ℝ) : EReal))
    (hk0 : ∀ d : Fin 64, k ⟨d, by omega⟩ = (b0 d : EReal)) (hk1 : ∀ d : Fin 32, k ⟨64 + d, by omega⟩ = (b1 d : EReal))
    (hk2 : ∀ d : Fin 32, k ⟨96 + d, by omega⟩ = 0) :
    Rebased ((∑ d, (a0 d : EReal) * (b0 d : EReal) + ∑ r, (a1 r : EReal) * (b1 r : EReal)) * (z : EReal)) (∑ d, k d * q d) := by
  right
  refine ⟨(∑ d, a0 d * b0 d + ∑ r, a1 r * b1 r) * z, ?_, ?_⟩
  · simp only [← EReal.coe_mul, sum_coe, ← EReal.coe_add]
  · rw [sum_parts]
    simp only [hq0, hq1, hk0, hk1, hk2, zero_mul, Finset.sum_const_zero, add_zero, ← EReal.coe_mul, sum_coe, ← EReal.coe_add]
    congr 1
    rw [add_mul, add_div, Finset.sum_mul, Finset.sum_mul, Finset.sum_div, Finset.sum_div]
    congr 1 <;> refine Finset.sum_congr rfl fun d _ => ?_ <;> ring

end Cert.Softmax

end
-- ==== Proof.Reference.lean ====
/-
  The reference's result, index by index: the softmax of each query's masked scores, and the values weighted by it.
-/
module

public import proofs.«01_k».proof.Proof.Gen.ReferenceIdeal.Run
public import Idealize.ShloMosaic.Lib.Pointwise

@[expose] public section

set_option maxRecDepth 16384

noncomputable section

namespace Cert.MlaRef

open Cert.ReferenceIdeal Cert.ReferenceIdeal.Gen Idealize.ShloMosaic Idealize.ShloMosaic.TcCoe Idealize.SL.Sem Idealize.ShloMosaic.StableHlo

/-- Chunk of each key. -/
def keyChunk : IVec S1x2048 32 :=
  select (andi (cmpi .ne (signi (broadcastInDim S1x2048 ![1] bcast_S2048_S1x2048_1 (iotaInDim S2048 32 0))) (broadcastInDim S1x2048 ![] bcast_S_S1x2048 (signi (id (constantI S_ 32 64#32))))) (cmpi .ne (Host.remsi (broadcastInDim S1x2048 ![1] bcast_S2048_S1x2048_1 (iotaInDim S2048 32 0)) (broadcastInDim S1x2048 ![] bcast_S_S1x2048 (id (constantI S_ 32 64#32)))) (broadcastInDim S1x2048 ![] bcast_S_S1x2048 (constantI S_ 32 0#32)))) (subi (Host.divsi (broadcastInDim S1x2048 ![1] bcast_S2048_S1x2048_1 (iotaInDim S2048 32 0)) (broadcastInDim S1x2048 ![] bcast_S_S1x2048 (id (constantI S_ 32 64#32)))) (broadcastInDim S1x2048 ![] bcast_S_S1x2048 (constantI S_ 32 1#32))) (Host.divsi (broadcastInDim S1x2048 ![1] bcast_S2048_S1x2048_1 (iotaInDim S2048 32 0)) (broadcastInDim S1x2048 ![] bcast_S_S1x2048 (id (constantI S_ 32 64#32))))

/-- Chunk of each query. -/
def queryChunk : IVec S2048x1 32 :=
  select (andi (cmpi .ne (signi (broadcastInDim S2048x1 ![0] bcast_S2048_S2048x1_0 (iotaInDim S2048 32 0))) (broadcastInDim S2048x1 ![] bcast_S_S2048x1 (signi (id (constantI S_ 32 64#32))))) (cmpi .ne (Host.remsi (broadcastInDim S2048x1 ![0] bcast_S2048_S2048x1_0 (iotaInDim S2048 32 0)) (broadcastInDim S2048x1 ![] bcast_S_S2048x1 (id (constantI S_ 32 64#32)))) (broadcastInDim S2048x1 ![] bcast_S_S2048x1 (constantI S_ 32 0#32)))) (subi (Host.divsi (broadcastInDim S2048x1 ![0] bcast_S2048_S2048x1_0 (iotaInDim S2048 32 0)) (broadcastInDim S2048x1 ![] bcast_S_S2048x1 (id (constantI S_ 32 64#32)))) (broadcastInDim S2048x1 ![] bcast_S_S2048x1 (constantI S_ 32 1#32))) (Host.divsi (broadcastInDim S2048x1 ![0] bcast_S2048_S2048x1_0 (iotaInDim S2048 32 0)) (broadcastInDim S2048x1 ![] bcast_S_S2048x1 (id (constantI S_ 32 64#32))))

/-- The scores, with `-∞` where the key's chunk is after the query's. -/
def masked (q0 : FVec Ideal S16x8x2048x64 .f32) (q1 : FVec Ideal S16x8x2048x32 .f32) (k0 : FVec Ideal S16x8x2048x64 .f32) (k1 : FVec Ideal S16x2048x32 .f32) : FVec Ideal S16x8x2048x2048 .f32 :=
  select (broadcastInDim S16x8x2048x2048 ![2, 3] bcast_S2048x2048_S16x8x2048x2048_2_3 (cmpi .sle (broadcastInDim S2048x2048 ![0, 1] bcast_S1x2048_S2048x2048_0_1 keyChunk) (broadcastInDim S2048x2048 ![0, 1] bcast_S2048x1_S2048x2048_0_1 queryChunk))) (mulf (addf (Host.dotGeneral dot_S16x8x2048x64_S16x8x2048x64_S16x8x2048x2048_3_3_2_2_01_01 none q0 k0) (Host.dotGeneral dot_S16x8x2048x32_S16x2048x32_S16x8x2048x2048_3_2_12_1_0_0 none q1 k1)) (broadcastInDim S16x8x2048x2048 ![] bcast_S_S16x8x2048x2048 (constant S_ .f32 0x3DD105EC#32))) (broadcastInDim S16x8x2048x2048 ![] bcast_S_S16x8x2048x2048 (id (constant S_ .f32 0xFF800000#32)))

/-- The largest score of each row. -/
def rowMax (W : FVec Ideal S16x8x2048x2048 .f32) : FVec Ideal S16x8x2048 .f32 :=
  Host.reduce FloatOps.maximumf W (constant S_ .f32 0xFF800000#32) reducesTo_S16x8x2048x2048_S16x8x2048_d3 h_S_

/-- The exponentials of scores over their row's largest. -/
def weightOf (W : FVec Ideal S16x8x2048x2048 .f32) (M : FVec Ideal S16x8x2048 .f32) : FVec Ideal S16x8x2048x2048 .f32 :=
  Host.exp (subf W (broadcastInDim S16x8x2048x2048 ![0, 1, 2, 3] bcast_S16x8x2048x1_S16x8x2048x2048_0_1_2_3 (broadcastInDim S16x8x2048x1 ![0, 1, 2] bcast_S16x8x2048_S16x8x2048x1_0_1_2 (maximumf (broadcastInDim S16x8x2048 ![] bcast_S_S16x8x2048 (constant S_ .f32 0xFF800000#32)) M))))

/-- The same, over the row's own largest score. -/
def weight (W : FVec Ideal S16x8x2048x2048 .f32) : FVec Ideal S16x8x2048x2048 .f32 := weightOf W (rowMax W)

/-- The softmax of scores. -/
def prob (W : FVec Ideal S16x8x2048x2048 .f32) : FVec Ideal S16x8x2048x2048 .f32 :=
  Host.divf (weight W) (broadcastInDim S16x8x2048x2048 ![0, 1, 2, 3] bcast_S16x8x2048x1_S16x8x2048x2048_0_1_2_3 (broadcastInDim S16x8x2048x1 ![0, 1, 2] bcast_S16x8x2048_S16x8x2048x1_0_1_2 (Host.reduceAdd (weight W) (constant S_ .f32 0x00000000#32) reducesTo_S16x8x2048x2048_S16x8x2048_d3 h_S_)))

/-- The values weighted by the softmax of scores. -/
def result (W : FVec Ideal S16x8x2048x2048 .f32) (v : FVec Ideal S16x8x2048x64 .f32) : FVec Ideal S16x2048x512 .bf16 :=
  truncf .bf16 (shapeCast S16x2048x512 (transpose S16x2048x8x64 [0, 2, 1, 3] (Host.dotGeneral dot_S16x8x2048x2048_S16x8x2048x64_S16x8x2048x64_3_2_2_3_01_01 none (prob W) v) transposes_S16x8x2048x64_S16x2048x8x64_0_2_1_3) shapeCasts_S16x2048x8x64_S16x2048x512) bitsLt_bf16_f32

set_option maxHeartbeats 4000000 in
theorem res_eq (m : (ℓ : Loc nD τ sig) → Buf (Elt Ideal) ℓ) (c : Dev nD) :
    Value.res_main_v28 m c = result (masked (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) := rfl

theorem chunk32 : ∀ s : Fin 2048, Scalar.select (IntOp.andi (IntOp.cmpi .ne
        (if BitVec.ofNat 32 s = 0 then 0 else if (BitVec.ofNat 32 s).msb = true then -1 else 1)
        (if 64#32 = 0 then 0 else if (64#32).msb = true then -1 else (1 : BitVec 32)))
      (IntOp.cmpi .ne (IntOp.remsi ArithUnit.host (BitVec.ofNat 32 s) 64#32) 0#32))
    (IntOp.subi (IntOp.divsi ArithUnit.host (BitVec.ofNat 32 s) 64#32) 1#32) (IntOp.divsi ArithUnit.host (BitVec.ofNat 32 s) 64#32)
      = BitVec.ofNat 32 (s / 64) := by
  decide +kernel

theorem sle32 : ∀ a b : Fin 32, IntOp.cmpi .sle (BitVec.ofNat 32 a) (BitVec.ofNat 32 b) = BitVec.ofBool (decide ((a : ℕ) ≤ b)) := by
  decide +kernel

theorem ninf : Ideal.ofBits FTy.f32 0xFF800000#32 = ⊥ := by simp [Ideal.ofBits, Ideal.ieee]

theorem keyChunk_apply (s : Fin 2048) : keyChunk (ix2 0 s) = BitVec.ofNat 32 (s / 64) := by
  pointwise [keyChunk]
  exact chunk32 s

theorem queryChunk_apply (t : Fin 2048) : queryChunk (ix2 t 0) = BitVec.ofNat 32 (t / 64) := by
  pointwise [queryChunk]
  exact chunk32 t

theorem masked_apply (q0 : FVec Ideal S16x8x2048x64 .f32) (q1 : FVec Ideal S16x8x2048x32 .f32) (k0 : FVec Ideal S16x8x2048x64 .f32) (k1 : FVec Ideal S16x2048x32 .f32) (b : Fin 16) (h : Fin 8) (t s : Fin 2048) :
    masked q0 q1 k0 k1 (ix4 b h t s) = if (s : ℕ) / 64 ≤ t / 64 then
      (∑ d : Fin 64, q0 (ix4 b h t d) * k0 (ix4 b h s d) + ∑ r : Fin 32, q1 (ix4 b h t r) * k1 (ix3 b s r))
        * Ideal.ofBits FTy.f32 0x3DD105EC#32 else ⊥ := by
  pointwise [masked, keyChunk_apply, queryChunk_apply, ninf]
  have hn : id (constant (F := Ideal) S_ FTy.f32 4286578688#32) ix0 = ⊥ := ninf
  rw [hn, sle32 ⟨s / 64, by omega⟩ ⟨t / 64, by omega⟩]
  by_cases hc : (s : ℕ) / 64 ≤ t / 64 <;> simp [hc, Scalar.select]

theorem rowMax_apply (W : FVec Ideal S16x8x2048x2048 .f32) (b : Fin 16) (h : Fin 8) (t : Fin 2048) :
    rowMax W (ix3 b h t) = Finset.univ.fold max ⊥ fun x : Fin 2048 => W (ix4 b h t x) := by
  pointwise [rowMax, ninf]

theorem weightOf_apply (W : FVec Ideal S16x8x2048x2048 .f32) (M : FVec Ideal S16x8x2048 .f32) (b : Fin 16) (h : Fin 8) (t s : Fin 2048) :
    weightOf W M (ix4 b h t s) = Ideal.exp (W (ix4 b h t s) - M (ix3 b h t)) := by
  pointwise [weightOf, ninf]
  rw [max_bot_left]

theorem weight_apply (W : FVec Ideal S16x8x2048x2048 .f32) (b : Fin 16) (h : Fin 8) (t s : Fin 2048) :
    weight W (ix4 b h t s) = Ideal.exp (W (ix4 b h t s) - Finset.univ.fold max ⊥ fun x : Fin 2048 => W (ix4 b h t x)) := by
  rw [weight, weightOf_apply, rowMax_apply]

theorem prob_apply (W : FVec Ideal S16x8x2048x2048 .f32) (b : Fin 16) (h : Fin 8) (t s : Fin 2048) :
    prob W (ix4 b h t s) = Ideal.div (weight W (ix4 b h t s)) (∑ x : Fin 2048, weight W (ix4 b h t x)) := by
  pointwise [prob]

theorem result_apply (W : FVec Ideal S16x8x2048x2048 .f32) (v : FVec Ideal S16x8x2048x64 .f32) (b : Fin 16) (t : Fin 2048) (e : Fin 512) :
    result W v (ix3 b t e) = ∑ s : Fin 2048, prob W (ix4 b ⟨e / 64, by omega⟩ t s)
      * v (ix4 b ⟨e / 64, by omega⟩ s ⟨e % 64, by omega⟩) := by
  pointwise [result]

end Cert.MlaRef

end
-- ==== Proof.Equal.lean ====
/-
  The array that the attention leaves is the reference's result, when the queries and the keys are real numbers.
-/
module

public import proofs.«01_k».proof.Proof.Final
public import proofs.«01_k».proof.Proof.Row
public import proofs.«01_k».proof.Proof.Reference

@[expose] public section

set_option maxRecDepth 16384

noncomputable section

namespace Cert.Mla

open Cert.KernelIdeal Cert.KernelIdeal.Gen Cert.KernelIdeal.Value Cert.Softmax
open Idealize.ShloMosaic Idealize.ShloMosaic.TcCoe Idealize.SL.Sem

variable (m : (ℓ : Loc nD τ sig) → Buf (Elt Ideal) ℓ) (c : Dev nD)

theorem scale_real : ∃ z : ℝ, Ideal.ofBits FTy.f32 1037108716#32 = z := by
  simp only [Ideal.ofBits, Ideal.ieee]
  split_ifs <;> first | exact ⟨_, rfl⟩ | simp_all

theorem two : Ideal.ofBits FTy.f32 1073741824#32 = ((2 : ℝ) : EReal) := by
  simp [Ideal.ofBits, Ideal.ieee]
  rw [← EReal.coe_mul]
  norm_num

theorem factor_real : factor = (((Real.log 2)⁻¹ : ℝ) : EReal) := by
  unfold factor
  rw [two]
  have h : Ideal.log ((2 : ℝ) : EReal) = ((Real.log 2 : ℝ) : EReal) := by
    show (if (2 : ℝ) ≤ 0 then ⊥ else ((Real.log 2 : ℝ) : EReal)) = _
    rw [if_neg (by norm_num)]
  rw [h, div_coe (Real.log_pos (by norm_num)), one_mul]

variable (hq0 : ∀ i, ∃ r : ℝ, qPlain m c i = r) (hq1 : ∀ i, ∃ r : ℝ, qRot m c i = r)
  (hk0 : ∀ i, ∃ r : ℝ, kPlain m c i = r) (hk1 : ∀ i, ∃ r : ℝ, kRot m c i = r)

/-- The reference's scores of the kernel's arguments. -/
def refScore : FVec Ideal Cert.ReferenceIdeal.S16x8x2048x2048 .f32 := MlaRef.masked (qPlain m c) (qRot m c) (kPlain m c) (kRot m c)

include hq0 hq1 hk0 hk1

theorem score_rebased (b : Fin 16) (h : Fin 8) (t s : Fin 2048) :
    Rebased (refScore m c (ix4 b h t s)) (score m c b h t s) ∧ ((s : ℕ) / 64 ≤ t / 64 → refScore m c (ix4 b h t s) ≠ ⊥) := by
  unfold refScore score
  rw [MlaRef.masked_apply, dif_pos ⟨s.2, t.2⟩]
  by_cases hc : (s : ℕ) / 64 ≤ t / 64
  · rw [if_pos hc, if_pos hc]
    choose a0 ha0 using hq0
    choose a1 ha1 using hq1
    choose b0 hb0 using hk0
    choose b1 hb1 using hk1
    obtain ⟨z, hz⟩ := scale_real
    have key := rebased_score (fun d => qa m c (ix3 b ⟨t, t.2⟩ ⟨128 * h + d, by omega⟩))
      (fun d => ka m c (ix3 b ⟨s, s.2⟩ ⟨128 * h + d, by omega⟩))
      (fun d => a0 (ix4 b h t d)) (fun d => b0 (ix4 b h s d)) (fun d => a1 (ix4 b h t d)) (fun d => b1 (ix3 b s d)) z
      (fun d => by
        have hd : (d : ℕ) < 64 := d.2
        have e := q_apply m c b t h ⟨d, by omega⟩
        rw [dif_pos hd, ha0, hz, factor_real] at e
        exact e)
      (fun d => by
        have hd : ¬ (64 + (d : ℕ)) < 64 := by omega
        have hd' : 64 + (d : ℕ) < 96 := by omega
        have e := q_apply m c b t h ⟨64 + d, by omega⟩
        rw [dif_neg hd, dif_pos hd', ha1, hz, factor_real] at e
        simp only [Nat.add_sub_cancel_left] at e
        exact e)
      (fun d => by
        have hd : (d : ℕ) < 64 := d.2
        have e := k_apply m c b s h ⟨d, by omega⟩
        rw [dif_pos hd, hb0] at e
        exact e)
      (fun d => by
        have hd : ¬ (64 + (d : ℕ)) < 64 := by omega
        have hd' : 64 + (d : ℕ) < 96 := by omega
        have e := k_apply m c b s h ⟨64 + d, by omega⟩
        rw [dif_neg hd, dif_pos hd', hb1] at e
        simp only [Nat.add_sub_cancel_left] at e
        exact e)
      (fun d => by
        have hd : ¬ (96 + (d : ℕ)) < 64 := by omega
        have hd' : ¬ 96 + (d : ℕ) < 96 := by omega
        have e := k_apply m c b s h ⟨96 + d, by omega⟩
        rw [dif_neg hd, dif_neg hd'] at e
        exact e)
    simp only [ha0, ha1, hb0, hb1, hz]
    refine ⟨key, fun _ => ?_⟩
    simp only [← EReal.coe_mul, sum_coe, ← EReal.coe_add]
    exact EReal.coe_ne_bot _
  · rw [if_neg hc, if_neg hc]
    exact ⟨Or.inl ⟨rfl, rfl⟩, fun h => absurd h hc⟩

theorem score_ne_top (b : Fin 16) (h : Fin 8) (t : Fin 2048) (s : ℕ) : score m c b h t s ≠ ⊤ := by
  by_cases hs : s < 2048
  · exact ((score_rebased m c hq0 hq1 hk0 hk1 b h t ⟨s, hs⟩).1.ne_top).2
  · unfold score
    rw [dif_neg (fun hh => hs hh.1)]
    exact bot_ne_top

theorem attn_eq (b : Fin 16) (h : Fin 8) (d : Fin 64) (t : Fin 2048) :
    attn m c b h d t = ∑ s : Fin 2048, MlaRef.prob (refScore m c) (ix4 b h t s) * vals m c (ix4 b h s d) := by
  have hm : min 3 ((t : ℕ) / 512) + 1 = t / 512 + 1 := by omega
  unfold attn rowA rowL
  rw [hm]
  have key := row_closed (w := 512) (n := t / 512 + 1) c0_real (score m c b h t) (value m c b h d)
    (fun s : Fin 2048 => refScore m c (ix4 b h t s)) (by omega) (score_ne_top m c hq0 hq1 hk0 hk1 b h t)
    (fun s => (score_rebased m c hq0 hq1 hk0 hk1 b h t s).1)
    (fun s hs => by
      unfold refScore
      rw [MlaRef.masked_apply, if_neg (by omega)]) t (by omega)
    ((score_rebased m c hq0 hq1 hk0 hk1 b h t t).2 (le_refl _))
  rw [key]
  refine Finset.sum_congr rfl fun s _ => ?_
  rw [MlaRef.prob_apply]
  simp only [MlaRef.weight_apply]
  unfold value
  rw [dif_pos s.2, v_apply]

theorem final_eq : final m c = MlaRef.result (refScore m c) (vals m c) := by
  funext i
  obtain ⟨b, t, e, rfl⟩ : ∃ (b : Fin 16) (t : Fin 2048) (e : Fin 512), i = ix3 b t e :=
    ⟨i 0, i 1, i 2, by funext k; fin_cases k <;> rfl⟩
  rw [MlaRef.result_apply]
  exact attn_eq m c hq0 hq1 hk0 hk1 b ⟨e / 64, by omega⟩ ⟨e % 64, by omega⟩ t

end Cert.Mla

end
-- ==== Proof.Pre.lean ====
/-
  The precondition read back: every query and every key is a real number.
-/
module

public import proofs.«01_k».proof.Pre_finite
public import Idealize.ShloMosaic.Lib.Pointwise
public import Idealize.ShloMosaic.Lib.ReduceAll

@[expose] public section

noncomputable section

namespace Cert.MlaPre

open Cert.Pre_finite Idealize.ShloMosaic

theorem facts : Cert.Pre_finite.Facts where
  bcast_S_S16x8x2048x64 := by decide
  reducesTo_S16x8x2048x64_S_d0_1_2_3 := by decide
  h_S_ := by decide
  bcast_S_S16x8x2048x32 := by decide
  reducesTo_S16x8x2048x32_S_d0_1_2_3 := by decide
  bcast_S_S16x2048x32 := by decide
  reducesTo_S16x2048x32_S_d0_1_2 := by decide

theorem real_of_abs_lt {x : EReal} (h : BitVec.ofBool (decide (max x (-x) < (⊤ : EReal))) = 1#1) : ∃ r : ℝ, x = r := by
  have h' : max x (-x) < ⊤ := by
    by_contra hc
    simp [hc] at h
  induction x with
  | bot => simp at h'
  | top => simp at h'
  | coe r => exact ⟨r, rfl⟩

theorem inf : Ideal.ofBits FTy.f32 0x7F800000#32 = ⊤ := by simp [Ideal.ofBits, Ideal.ieee]

/-- `|x| < ∞` everywhere, as the precondition prints it. -/
theorem finite_all [Facts] {s : Shape} (x : FVec Ideal s .f32) (hb : S_.BroadcastsInDim s (![] : Fin 0 → Fin s.rank)) {axes : List (Fin s.rank)}
    (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : ∃ r : ℝ, x i = r := by
  haveI : Subsingleton S_.Idx := ⟨fun a b => funext fun d => d.elim0⟩
  have e := Host.reduce_andi_all _ _ _ _ j h i
  refine real_of_abs_lt ?_
  rw [← e, ← inf]
  rfl

theorem real [Facts] (q0 : FVec Ideal S16x8x2048x64 .f32) (q1 : FVec Ideal S16x8x2048x32 .f32) (k0 : FVec Ideal S16x8x2048x64 .f32)
    (k1 : FVec Ideal S16x2048x32 .f32) (v : FVec Ideal S16x8x2048x64 .f32) (h : fn q0 q1 k0 k1 v = fun _ => 1#1) :
    (∀ i, ∃ r : ℝ, q0 i = r) ∧ (∀ i, ∃ r : ℝ, q1 i = r) ∧ (∀ i, ∃ r : ℝ, k0 i = r) ∧ (∀ i, ∃ r : ℝ, k1 i = r) := by
  have e := congrFun h ix0
  unfold fn fn_part1 at e
  obtain ⟨e, e3⟩ := IntOp.andi_eq_one.1 e
  obtain ⟨e, e2⟩ := IntOp.andi_eq_one.1 e
  obtain ⟨e0, e1⟩ := IntOp.andi_eq_one.1 e
  exact ⟨finite_all _ _ _ _ _ e0, finite_all _ _ _ _ _ e1, finite_all _ _ _ _ _ e2, finite_all _ _ _ _ _ e3⟩

end Cert.MlaPre

end
-- ==== Proof.MergeRow.lean ====
/-
  One row of the merge: the three branches weighted by their gates, projected, added to the scaled residual and normed.
-/
module

public import Idealize.ShloMosaic.Lib.Pointwise

@[expose] public section

noncomputable section

namespace Cert.MergeRow

open Idealize.ShloMosaic

/-- The residual's factor, the number of columns, and the number added to the variance. -/
def alpha : EReal := Ideal.ofBits FTy.f32 0x3FB504F3#32
def width : EReal := Ideal.ofBits FTy.f32 0x44800000#32
def eps : EReal := Ideal.ofBits FTy.f32 0x3727C5AC#32

/-- A branch's gate times its projection, at one column. -/
def branch {k : ℕ} (x w : Fin 1024 → EReal) (b : EReal) (o p : Fin k → EReal) : EReal :=
  Ideal.logistic ((∑ d, x d * w d) + b) * ∑ j, o j * p j

/-- The mean of a row. -/
def mean (z : Fin 1024 → EReal) : EReal := Ideal.div (∑ d, z d) width

/-- The row less its mean, over its standard deviation, scaled and shifted. -/
def normRow (z : Fin 1024 → EReal) (g b : EReal) (e : Fin 1024) : EReal :=
  (z e - mean z) * Ideal.rsqrt (Ideal.div (∑ d, (z d - mean z) * (z d - mean z)) width + eps) * g + b

/-- The row before the norm, at one column: the scaled residual, and the mixed branches projected. -/
def pre (x : EReal) (mixed w : Fin 1024 → EReal) : EReal := alpha * x + ∑ j, mixed j * w j

end Cert.MergeRow

end
-- ==== Proof.MergeBlock.lean ====
/-
  What one grid point of the merge computes for its block of 512 rows, index by index.
-/
module

public import proofs.«01_k».proof.Proof.Gen.Kernel2Ideal.Skeleton
public import proofs.«01_k».proof.Proof.MergeRow
public import Idealize.ShloMosaic.Lib.Pointwise
public import Idealize.ShloMosaic.Lib.Pipeline.ValueKit
public import Idealize.ShloMosaic.Lib.Pipeline.FrameBody

@[expose] public section

set_option maxRecDepth 16384

noncomputable section

namespace Cert.Merge

open Cert.Kernel2Ideal Cert.Kernel2Ideal.Gen Cert.MergeRow Idealize.ShloMosaic Idealize.SL.Sem

/-- The first two branches. -/
theorem two_apply (v0 : FVec Ideal S512x1024 .bf16) (v2 : FVec Ideal S1024x1024 .bf16) (v5 : FVec Ideal S1x1024 .f32)
    (v10 : FVec Ideal S512x256 .bf16) (v12 : FVec Ideal S256x1024 .bf16) (v16 : FVec Ideal S1024x1024 .bf16)
    (v19 : FVec Ideal S1x1024 .f32) (v24 : FVec Ideal S512x256 .bf16) (v26 : FVec Ideal S256x1024 .bf16)
    (r : Fin 512) (e : Fin 1024) :
    k0_pay6 (F := Ideal) v0 v2 v5 v10 v12 v16 v19 v24 v26 (ix2 r e)
      = branch (fun d => v0 (ix2 r d)) (fun d => v2 (ix2 d e)) (v5 (ix2 0 e)) (fun j => v10 (ix2 r j)) (fun j => v12 (ix2 j e))
        + branch (fun d => v0 (ix2 r d)) (fun d => v16 (ix2 d e)) (v19 (ix2 0 e)) (fun j => v24 (ix2 r j)) (fun j => v26 (ix2 j e)) := by
  unfold branch
  pointwise [k0_pay6, k0_pay5]

/-- The third branch's gate before the sigmoid and its bias. -/
theorem third_apply (v0 : FVec Ideal S512x1024 .bf16) (v31 : FVec Ideal S1024x1024 .bf16) (r : Fin 512) (e : Fin 1024) :
    k0_pay7 (F := Ideal) v0 v31 (ix2 r e) = ∑ d : Fin 1024, v0 (ix2 r d) * v31 (ix2 d e) := by
  pointwise [k0_pay7, k0_pay5]

section

variable (v30 v33 : FVec Ideal S512x1024 .f32) (v34 : FVec Ideal S1x1024 .f32) (v39 : FVec Ideal S512x512 .bf16)
  (v41 : FVec Ideal S512x1024 .bf16) (v47 : FVec Ideal S1024x1024 .bf16) (v50 : FVec Ideal S512x1024 .f32)

/-- The row before the norm. -/
def z (r : Fin 512) (e : Fin 1024) : EReal :=
  pre (v50 (ix2 r e)) (fun j => v30 (ix2 r j) + Ideal.logistic (v33 (ix2 r j) + v34 (ix2 0 j))
    * ∑ k : Fin 512, v39 (ix2 r k) * v41 (ix2 k j)) (fun j => v47 (ix2 j e))

theorem centred_apply (r : Fin 512) (e : Fin 1024) : k0_pay10 v30 v33 v34 v39 v41 v47 v50 (ix2 r e)
    = z v30 v33 v34 v39 v41 v47 v50 r e - mean (z v30 v33 v34 v39 v41 v47 v50 r) := by
  unfold mean z pre alpha width
  pointwise [k0_pay10]

theorem variance_apply (r : Fin 512) : k0_pay11 v30 v33 v34 v39 v41 v47 v50 (ix2 r 0)
    = Ideal.div (∑ d : Fin 1024, k0_pay10 v30 v33 v34 v39 v41 v47 v50 (ix2 r d) * k0_pay10 v30 v33 v34 v39 v41 v47 v50 (ix2 r d)) width
      + eps := by
  unfold width eps
  pointwise [k0_pay11]

end

theorem scaled_apply (v56 v58 : FVec Ideal S1x1024 .f32) (v64 : FVec Ideal S512x1024 .f32) (v71 : FVec Ideal S512x1 .f32)
    (r : Fin 512) (e : Fin 1024) : k0_pay12 v56 v58 v64 v71 (ix2 r e)
      = v64 (ix2 r e) * Ideal.rsqrt (v71 (ix2 r 0)) * v56 (ix2 0 e) + v58 (ix2 0 e) := by
  pointwise [k0_pay12]

theorem gain_apply (v : FVec Ideal S1x1024 .f32) (e : Fin 1024) : k0_pay8 v (ix2 0 e) = v (ix2 0 e) := by
  pointwise [k0_pay8]

theorem shift_apply (v : FVec Ideal S1x1024 .f32) (e : Fin 1024) : k0_pay9 v (ix2 0 e) = v (ix2 0 e) := by
  pointwise [k0_pay9]

section

variable (x0 x1 : FVec Ideal S512x256 .bf16) (x2 : FVec Ideal S512x512 .bf16) (x3 : FVec Ideal S512x1024 .bf16)
  (x4 : FVec Ideal S512x1024 .f32) (x5 : FVec Ideal S1024x3072 .bf16) (x6 : FVec Ideal S1x3072 .f32)
  (x7 x8 : FVec Ideal S256x1024 .bf16) (x9 : FVec Ideal S512x1024 .bf16) (x10 : FVec Ideal S1024x1024 .bf16)
  (x11 x12 : FVec Ideal S1x1024 .f32)

/-- The gates' columns of branch 0, 1 and 2, and their bias. -/
def gate0 : FVec Ideal S1024x1024 .bf16 := View.ld (Val := Elt Ideal) (e' := .bf16) x5 (Rect.unit (s := S1024x3072) ![0, 0] S1024x1024.size inb_S1024x3072_S1024x1024_0_0)
def gate1 : FVec Ideal S1024x1024 .bf16 := View.ld (Val := Elt Ideal) (e' := .bf16) x5 (Rect.unit (s := S1024x3072) ![0, 1024] S1024x1024.size inb_S1024x3072_S1024x1024_0_1024)
def gate2 : FVec Ideal S1024x1024 .bf16 := View.ld (Val := Elt Ideal) (e' := .bf16) x5 (Rect.unit (s := S1024x3072) ![0, 2048] S1024x1024.size inb_S1024x3072_S1024x1024_0_2048)
def bias0 : FVec Ideal S1x1024 .f32 := View.ld (Val := Elt Ideal) (e' := .f32) x6 (Rect.unit (s := S1x3072) ![0, 0] S1x1024.size inb_S1x3072_S1x1024_0_0)
def bias1 : FVec Ideal S1x1024 .f32 := View.ld (Val := Elt Ideal) (e' := .f32) x6 (Rect.unit (s := S1x3072) ![0, 1024] S1x1024.size inb_S1x3072_S1x1024_0_1024)
def bias2 : FVec Ideal S1x1024 .f32 := View.ld (Val := Elt Ideal) (e' := .f32) x6 (Rect.unit (s := S1x3072) ![0, 2048] S1x1024.size inb_S1x3072_S1x1024_0_2048)

/-- The block that is stored, of the blocks that are read. -/
def blockVal : FVec Ideal S512x1024 .f32 :=
  k0_pay12 (k0_pay8 x11) (k0_pay9 x12)
    (k0_pay10 (k0_pay6 x3 (gate0 x5) (bias0 x6) x0 x7 (gate1 x5) (bias1 x6) x1 x8) (k0_pay7 x3 (gate2 x5)) (bias2 x6) x2 x9 x10 x4)
    (k0_pay11 (k0_pay6 x3 (gate0 x5) (bias0 x6) x0 x7 (gate1 x5) (bias1 x6) x1 x8) (k0_pay7 x3 (gate2 x5)) (bias2 x6) x2 x9 x10 x4)

/-- The same, as the second result's narrower floats. -/
def blockValB : FVec Ideal S512x1024 .bf16 :=
  k0_pay13 (k0_pay8 x11) (k0_pay9 x12)
    (k0_pay10 (k0_pay6 x3 (gate0 x5) (bias0 x6) x0 x7 (gate1 x5) (bias1 x6) x1 x8) (k0_pay7 x3 (gate2 x5)) (bias2 x6) x2 x9 x10 x4)
    (k0_pay11 (k0_pay6 x3 (gate0 x5) (bias0 x6) x0 x7 (gate1 x5) (bias1 x6) x1 x8) (k0_pay7 x3 (gate2 x5)) (bias2 x6) x2 x9 x10 x4)

/-- The row before the norm, of the blocks that are read. -/
def zBlock (r : Fin 512) (e : Fin 1024) : EReal :=
  pre (x4 (ix2 r e)) (fun i => branch (fun d => x3 (ix2 r d)) (fun d => x5 (ix2 d ⟨i, by omega⟩)) (x6 (ix2 0 ⟨i, by omega⟩))
      (fun j => x0 (ix2 r j)) (fun j => x7 (ix2 j i))
    + branch (fun d => x3 (ix2 r d)) (fun d => x5 (ix2 d ⟨1024 + i, by omega⟩)) (x6 (ix2 0 ⟨1024 + i, by omega⟩))
      (fun j => x1 (ix2 r j)) (fun j => x8 (ix2 j i))
    + branch (fun d => x3 (ix2 r d)) (fun d => x5 (ix2 d ⟨2048 + i, by omega⟩)) (x6 (ix2 0 ⟨2048 + i, by omega⟩))
      (fun j => x2 (ix2 r j)) (fun j => x9 (ix2 j i))) (fun i => x10 (ix2 i e))

theorem gate0_apply (d e : Fin 1024) : gate0 x5 (ix2 d e) = x5 (ix2 d ⟨e, by omega⟩) := by pointwise [gate0]
theorem gate1_apply (d e : Fin 1024) : gate1 x5 (ix2 d e) = x5 (ix2 d ⟨1024 + e, by omega⟩) := by pointwise [gate1]
theorem gate2_apply (d e : Fin 1024) : gate2 x5 (ix2 d e) = x5 (ix2 d ⟨2048 + e, by omega⟩) := by pointwise [gate2]
theorem bias0_apply (e : Fin 1024) : bias0 x6 (ix2 0 e) = x6 (ix2 0 ⟨e, by omega⟩) := by pointwise [bias0]
theorem bias1_apply (e : Fin 1024) : bias1 x6 (ix2 0 e) = x6 (ix2 0 ⟨1024 + e, by omega⟩) := by pointwise [bias1]
theorem bias2_apply (e : Fin 1024) : bias2 x6 (ix2 0 e) = x6 (ix2 0 ⟨2048 + e, by omega⟩) := by pointwise [bias2]

theorem z_eq (r : Fin 512) : z (k0_pay6 x3 (gate0 x5) (bias0 x6) x0 x7 (gate1 x5) (bias1 x6) x1 x8) (k0_pay7 x3 (gate2 x5)) (bias2 x6) x2 x9 x10 x4 r
    = zBlock x0 x1 x2 x3 x4 x5 x6 x7 x8 x9 x10 r := by
  funext e
  unfold z zBlock
  simp only [two_apply, third_apply, gate0_apply, gate1_apply, gate2_apply, bias0_apply, bias1_apply, bias2_apply]
  rfl

theorem blockVal_apply (r : Fin 512) (e : Fin 1024) : blockVal x0 x1 x2 x3 x4 x5 x6 x7 x8 x9 x10 x11 x12 (ix2 r e)
    = normRow (zBlock x0 x1 x2 x3 x4 x5 x6 x7 x8 x9 x10 r) (x11 (ix2 0 e)) (x12 (ix2 0 e)) e := by
  unfold blockVal normRow
  rw [scaled_apply, variance_apply, gain_apply, shift_apply]
  simp only [centred_apply, z_eq]

theorem blockValB_eq : blockValB x0 x1 x2 x3 x4 x5 x6 x7 x8 x9 x10 x11 x12
    = (blockVal x0 x1 x2 x3 x4 x5 x6 x7 x8 x9 x10 x11 x12 : S512x1024.Idx → EReal) := rfl

end

theorem hz : (![0, 0] : Fin 2 → Nat) = fun _ => 0 := funext fun a => by fin_cases a <;> rfl

end Cert.Merge

end
-- ==== Proof.MergeCaseA.lean ====
/-
  What each case of the merge's body leaves in the block of its first two results.
-/
module

public import proofs.«01_k».proof.Proof.Gen.Kernel2Ideal.Frame.RunA
public import proofs.«01_k».proof.Proof.MergeBlock
public import Idealize.ShloMosaic.Lib.Pointwise
public import Idealize.ShloMosaic.Lib.Pipeline.ValueKit

@[expose] public section

set_option maxRecDepth 65536

noncomputable section

namespace Cert.Merge

open Cert.Kernel2Ideal Cert.Kernel2Ideal.Gen Idealize.ShloMosaic Idealize.ShloMosaic.TcCoe Idealize.SL.Sem

set_option maxHeartbeats 4000000 in
theorem canon_A_15 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x2x512 .bf16) (harg18 : arg18.IsWhole) (arg19 : Memref sig .tc .vmem S8x512 .i32) (harg19 : arg19.IsWhole) (arg20 : Memref sig .tc .vmem S8x512 .f32) (harg20 : arg20.IsWhole) (arg21 : Memref sig .tc .vmem S8x512 .i32) (harg21 : arg21.IsWhole) (arg22 : Memref sig .tc .vmem S256x128 .f32) (harg22 : arg22.IsWhole) (arg23 : Memref sig .tc .vmem S256x1 .f32) (harg23 : arg23.IsWhole) (hc0 : cond0_0 i)
    (x0 : Vec Ideal S512x256 .bf16) (x1 : Vec Ideal S512x256 .bf16) (x2 : Vec Ideal S512x512 .bf16) (x3 : Vec Ideal S512x1024 .bf16) (x4 : Vec Ideal S512x1024 .f32) (x5 : Vec Ideal S1024x3072 .bf16) (x6 : Vec Ideal S1x3072 .f32) (x7 : Vec Ideal S256x1024 .bf16) (x8 : Vec Ideal S256x1024 .bf16) (x9 : Vec Ideal S512x1024 .bf16) (x10 : Vec Ideal S1024x1024 .bf16) (x11 : Vec Ideal S1x1024 .f32) (x12 : Vec Ideal S1x1024 .f32) (x13 : Vec Ideal S256x1024 .bf16) (x14 : Vec Ideal S256x1 .f32) :
    View.canon ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14).1) = blockVal x0 x1 x2 x3 x4 x5 x6 x7 x8 x9 x10 x11 x12 := by
  unfold kernelRun0_A blockVal
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S512x256) hz,
    View.ld_unit_zero (S := S256x1024) hz, View.ld_unit_zero (S := S512x512) hz, View.ld_unit_zero (S := S1024x1024) hz,
    View.ld_unit_zero (S := S1x1024) hz]
  rfl

set_option maxHeartbeats 4000000 in
theorem canon_A_16 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x2x512 .bf16) (harg18 : arg18.IsWhole) (arg19 : Memref sig .tc .vmem S8x512 .i32) (harg19 : arg19.IsWhole) (arg20 : Memref sig .tc .vmem S8x512 .f32) (harg20 : arg20.IsWhole) (arg21 : Memref sig .tc .vmem S8x512 .i32) (harg21 : arg21.IsWhole) (arg22 : Memref sig .tc .vmem S256x128 .f32) (harg22 : arg22.IsWhole) (arg23 : Memref sig .tc .vmem S256x1 .f32) (harg23 : arg23.IsWhole) (hc0 : cond0_0 i)
    (x0 : Vec Ideal S512x256 .bf16) (x1 : Vec Ideal S512x256 .bf16) (x2 : Vec Ideal S512x512 .bf16) (x3 : Vec Ideal S512x1024 .bf16) (x4 : Vec Ideal S512x1024 .f32) (x5 : Vec Ideal S1024x3072 .bf16) (x6 : Vec Ideal S1x3072 .f32) (x7 : Vec Ideal S256x1024 .bf16) (x8 : Vec Ideal S256x1024 .bf16) (x9 : Vec Ideal S512x1024 .bf16) (x10 : Vec Ideal S1024x1024 .bf16) (x11 : Vec Ideal S1x1024 .f32) (x12 : Vec Ideal S1x1024 .f32) (x13 : Vec Ideal S256x1024 .bf16) (x14 : Vec Ideal S256x1 .f32) :
    View.canon ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14).2.1) = blockValB x0 x1 x2 x3 x4 x5 x6 x7 x8 x9 x10 x11 x12 := by
  unfold kernelRun0_A blockValB
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S512x256) hz,
    View.ld_unit_zero (S := S256x1024) hz, View.ld_unit_zero (S := S512x512) hz, View.ld_unit_zero (S := S1024x1024) hz,
    View.ld_unit_zero (S := S1x1024) hz]
  rfl

end Cert.Merge

end
-- ==== Proof.MergeCaseB.lean ====
/-
  What each case of the merge's body leaves in the block of its first two results.
-/
module

public import proofs.«01_k».proof.Proof.Gen.Kernel2Ideal.Frame.RunB
public import proofs.«01_k».proof.Proof.MergeBlock
public import Idealize.ShloMosaic.Lib.Pointwise
public import Idealize.ShloMosaic.Lib.Pipeline.ValueKit

@[expose] public section

set_option maxRecDepth 65536

noncomputable section

namespace Cert.Merge

open Cert.Kernel2Ideal Cert.Kernel2Ideal.Gen Idealize.ShloMosaic Idealize.ShloMosaic.TcCoe Idealize.SL.Sem

set_option maxHeartbeats 4000000 in
theorem canon_B_15 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x2x512 .bf16) (harg18 : arg18.IsWhole) (arg19 : Memref sig .tc .vmem S8x512 .i32) (harg19 : arg19.IsWhole) (arg20 : Memref sig .tc .vmem S8x512 .f32) (harg20 : arg20.IsWhole) (arg21 : Memref sig .tc .vmem S8x512 .i32) (harg21 : arg21.IsWhole) (arg22 : Memref sig .tc .vmem S256x128 .f32) (harg22 : arg22.IsWhole) (arg23 : Memref sig .tc .vmem S256x1 .f32) (harg23 : arg23.IsWhole) (hc0 : ¬cond0_0 i)
    (x0 : Vec Ideal S512x256 .bf16) (x1 : Vec Ideal S512x256 .bf16) (x2 : Vec Ideal S512x512 .bf16) (x3 : Vec Ideal S512x1024 .bf16) (x4 : Vec Ideal S512x1024 .f32) (x5 : Vec Ideal S1024x3072 .bf16) (x6 : Vec Ideal S1x3072 .f32) (x7 : Vec Ideal S256x1024 .bf16) (x8 : Vec Ideal S256x1024 .bf16) (x9 : Vec Ideal S512x1024 .bf16) (x10 : Vec Ideal S1024x1024 .bf16) (x11 : Vec Ideal S1x1024 .f32) (x12 : Vec Ideal S1x1024 .f32) (x13 : Vec Ideal S256x1024 .bf16) (x14 : Vec Ideal S256x1 .f32) (xs0 : Vec Ideal S256x1 .f32) :
    View.canon ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 xs0).1) = blockVal x0 x1 x2 x3 x4 x5 x6 x7 x8 x9 x10 x11 x12 := by
  unfold kernelRun0_B blockVal
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S512x256) hz,
    View.ld_unit_zero (S := S256x1024) hz, View.ld_unit_zero (S := S512x512) hz, View.ld_unit_zero (S := S1024x1024) hz,
    View.ld_unit_zero (S := S1x1024) hz]
  rfl

set_option maxHeartbeats 4000000 in
theorem canon_B_16 (c : Dev nD) (i : grid0.Coords) (arg1 : Memref sig .tc .vmem S512x256 .bf16) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .bf16) (harg14 : arg14.IsWhole) (arg15 : Memref sig .tc .vmem S256x1 .f32) (harg15 : arg15.IsWhole) (arg16 : Memref sig .tc .vmem S512x1024 .f32) (harg16 : arg16.IsWhole) (arg17 : Memref sig .tc .vmem S512x1024 .bf16) (harg17 : arg17.IsWhole) (arg18 : Memref sig .tc .vmem S512x2x512 .bf16) (harg18 : arg18.IsWhole) (arg19 : Memref sig .tc .vmem S8x512 .i32) (harg19 : arg19.IsWhole) (arg20 : Memref sig .tc .vmem S8x512 .f32) (harg20 : arg20.IsWhole) (arg21 : Memref sig .tc .vmem S8x512 .i32) (harg21 : arg21.IsWhole) (arg22 : Memref sig .tc .vmem S256x128 .f32) (harg22 : arg22.IsWhole) (arg23 : Memref sig .tc .vmem S256x1 .f32) (harg23 : arg23.IsWhole) (hc0 : ¬cond0_0 i)
    (x0 : Vec Ideal S512x256 .bf16) (x1 : Vec Ideal S512x256 .bf16) (x2 : Vec Ideal S512x512 .bf16) (x3 : Vec Ideal S512x1024 .bf16) (x4 : Vec Ideal S512x1024 .f32) (x5 : Vec Ideal S1024x3072 .bf16) (x6 : Vec Ideal S1x3072 .f32) (x7 : Vec Ideal S256x1024 .bf16) (x8 : Vec Ideal S256x1024 .bf16) (x9 : Vec Ideal S512x1024 .bf16) (x10 : Vec Ideal S1024x1024 .bf16) (x11 : Vec Ideal S1x1024 .f32) (x12 : Vec Ideal S1x1024 .f32) (x13 : Vec Ideal S256x1024 .bf16) (x14 : Vec Ideal S256x1 .f32) (xs0 : Vec Ideal S256x1 .f32) :
    View.canon ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 x14 xs0).2.1) = blockValB x0 x1 x2 x3 x4 x5 x6 x7 x8 x9 x10 x11 x12 := by
  unfold kernelRun0_B blockValB
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x1024) hz, View.ld_unit_zero (S := S512x256) hz,
    View.ld_unit_zero (S := S256x1024) hz, View.ld_unit_zero (S := S512x512) hz, View.ld_unit_zero (S := S1024x1024) hz,
    View.ld_unit_zero (S := S1x1024) hz]
  rfl

end Cert.Merge

end
-- ==== Proof.MergeHost.lean ====
/-
  The arrays that the merge is called on, index by index: casts and reshapes of the arguments, and the gates' columns of
  the input projection.
-/
module

public import proofs.«01_k».proof.Proof.Gen.Kernel2Ideal.Frame.Runs
public import Idealize.ShloMosaic.Lib.Pointwise
public import Idealize.ShloMosaic.Lib.Pipeline.ValueKit
public import Idealize.ShloMosaic.Lib.Claim

@[expose] public section

set_option maxRecDepth 16384

noncomputable section

namespace Cert.Merge

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The arguments: the layer's input, the three branches' outputs, the input projection, the gates' bias, the branches' and
    the output projection, the norm's gain and shift. -/
def argX : FVec Ideal S16x2048x1024 .f32 := m ((c : Thread nD τ).loc main_arg0)
def argO1 : FVec Ideal S16x2048x256 .f32 := m ((c : Thread nD τ).loc main_arg1)
def argO2 : FVec Ideal S16x2048x256 .f32 := m ((c : Thread nD τ).loc main_arg2)
def argO3 : FVec Ideal S16x2048x512 .f32 := m ((c : Thread nD τ).loc main_arg3)
def argIn : FVec Ideal S1024x5028 .f32 := m ((c : Thread nD τ).loc main_arg4)
def argBias : FVec Ideal S3072 .f32 := m ((c : Thread nD τ).loc main_arg5)
def argW1 : FVec Ideal S256x1024 .f32 := m ((c : Thread nD τ).loc main_arg6)
def argW2 : FVec Ideal S256x1024 .f32 := m ((c : Thread nD τ).loc main_arg7)
def argW3 : FVec Ideal S512x1024 .f32 := m ((c : Thread nD τ).loc main_arg8)
def argOut : FVec Ideal S1024x1024 .f32 := m ((c : Thread nD τ).loc main_arg9)
def argGain : FVec Ideal S1024 .f32 := m ((c : Thread nD τ).loc main_arg10)
def argShift : FVec Ideal S1024 .f32 := m ((c : Thread nD τ).loc main_arg11)

/-- The arrays as the merge finds them. -/
def hO1 : FVec Ideal S32768x256 .bf16 := V m c main_v2
def hO2 : FVec Ideal S32768x256 .bf16 := V m c main_v4
def hO3 : FVec Ideal S32768x512 .bf16 := V m c main_v6
def hXb : FVec Ideal S32768x1024 .bf16 := V m c main_v7
def hX : FVec Ideal S32768x1024 .f32 := V m c main_v0
def hGate : FVec Ideal S1024x3072 .bf16 := V m c main_v9
def hBias : FVec Ideal S1x3072 .f32 := V m c main_v10
def hW1 : FVec Ideal S256x1024 .bf16 := V m c main_v11
def hW2 : FVec Ideal S256x1024 .bf16 := V m c main_v12
def hW3 : FVec Ideal S512x1024 .bf16 := V m c main_v13
def hOut : FVec Ideal S1024x1024 .bf16 := V m c main_v14
def hGain : FVec Ideal S1x1024 .f32 := V m c main_v15
def hShift : FVec Ideal S1x1024 .f32 := V m c main_v16

theorem hO1_apply (n : Fin 32768) (e : Fin 256) : hO1 m c (ix2 n e) = argO1 m c (ix3 ⟨n / 2048, by omega⟩ ⟨n % 2048, by omega⟩ e) := by
  unfold hO1 V argO1
  dsimp only [hostOps0]
  entry_read
  pointwise []

theorem hO2_apply (n : Fin 32768) (e : Fin 256) : hO2 m c (ix2 n e) = argO2 m c (ix3 ⟨n / 2048, by omega⟩ ⟨n % 2048, by omega⟩ e) := by
  unfold hO2 V argO2
  dsimp only [hostOps0]
  entry_read
  pointwise []

theorem hO3_apply (n : Fin 32768) (e : Fin 512) : hO3 m c (ix2 n e) = argO3 m c (ix3 ⟨n / 2048, by omega⟩ ⟨n % 2048, by omega⟩ e) := by
  unfold hO3 V argO3
  dsimp only [hostOps0]
  entry_read
  pointwise []

theorem hXb_apply (n : Fin 32768) (e : Fin 1024) : hXb m c (ix2 n e) = argX m c (ix3 ⟨n / 2048, by omega⟩ ⟨n % 2048, by omega⟩ e) := by
  unfold hXb V argX
  dsimp only [hostOps0]
  entry_read
  pointwise []

theorem hX_apply (n : Fin 32768) (e : Fin 1024) : hX m c (ix2 n e) = argX m c (ix3 ⟨n / 2048, by omega⟩ ⟨n % 2048, by omega⟩ e) := by
  unfold hX V argX
  dsimp only [hostOps0]
  entry_read
  pointwise []

theorem hGate_apply (d : Fin 1024) (e : Fin 3072) : hGate m c (ix2 d e) = argIn m c (ix2 d ⟨1956 + e, by omega⟩) := by
  unfold hGate V argIn
  dsimp only [hostOps0]
  entry_read
  pointwise []

theorem hBias_apply (e : Fin 3072) : hBias m c (ix2 0 e) = argBias m c (ix1 e) := by
  unfold hBias V argBias
  dsimp only [hostOps0]
  entry_read
  pointwise []

theorem hW1_apply (j : Fin 256) (e : Fin 1024) : hW1 m c (ix2 j e) = argW1 m c (ix2 j e) := by
  unfold hW1 V argW1
  dsimp only [hostOps0]
  entry_read
  pointwise []

theorem hW2_apply (j : Fin 256) (e : Fin 1024) : hW2 m c (ix2 j e) = argW2 m c (ix2 j e) := by
  unfold hW2 V argW2
  dsimp only [hostOps0]
  entry_read
  pointwise []

theorem hW3_apply (j : Fin 512) (e : Fin 1024) : hW3 m c (ix2 j e) = argW3 m c (ix2 j e) := by
  unfold hW3 V argW3
  dsimp only [hostOps0]
  entry_read
  pointwise []

theorem hOut_apply (j : Fin 1024) (e : Fin 1024) : hOut m c (ix2 j e) = argOut m c (ix2 j e) := by
  unfold hOut V argOut
  dsimp only [hostOps0]
  entry_read
  pointwise []

theorem hGain_apply (e : Fin 1024) : hGain m c (ix2 0 e) = argGain m c (ix1 e) := by
  unfold hGain V argGain
  dsimp only [hostOps0]
  entry_read
  pointwise []

theorem hShift_apply (e : Fin 1024) : hShift m c (ix2 0 e) = argShift m c (ix1 e) := by
  unfold hShift V argShift
  dsimp only [hostOps0]
  entry_read
  pointwise []

end Cert.Merge

end
-- ==== Proof.MergeFinal.lean ====
/-
  The first two arrays that the merge leaves, index by index: each grid point writes 512 rows, and together the points
  write everything.
-/
module

public import proofs.«01_k».proof.Proof.Gen.Kernel2Ideal.Frame
public import proofs.«01_k».proof.Proof.MergeCaseA
public import proofs.«01_k».proof.Proof.MergeCaseB
public import proofs.«01_k».proof.Proof.MergeHost

@[expose] public section

set_option maxRecDepth 16384

noncomputable section

namespace Cert.Merge

open Cert.Kernel2Ideal Cert.Kernel2Ideal.Gen Cert.MergeRow
open Idealize.ShloMosaic Idealize.ShloMosaic.TcCoe Idealize.SL.Sem

variable (m : (ℓ : Loc nD τ sig) → Buf (Elt Ideal) ℓ) (c : Dev nD)

/-- Row `n` before the norm. -/
def zRow (n : Fin 32768) (e : Fin 1024) : EReal :=
  pre (hX m c (ix2 n e)) (fun i => branch (fun d => hXb m c (ix2 n d)) (fun d => hGate m c (ix2 d ⟨i, by omega⟩)) (hBias m c (ix2 0 ⟨i, by omega⟩))
      (fun j => hO1 m c (ix2 n j)) (fun j => hW1 m c (ix2 j i))
    + branch (fun d => hXb m c (ix2 n d)) (fun d => hGate m c (ix2 d ⟨1024 + i, by omega⟩)) (hBias m c (ix2 0 ⟨1024 + i, by omega⟩))
      (fun j => hO2 m c (ix2 n j)) (fun j => hW2 m c (ix2 j i))
    + branch (fun d => hXb m c (ix2 n d)) (fun d => hGate m c (ix2 d ⟨2048 + i, by omega⟩)) (hBias m c (ix2 0 ⟨2048 + i, by omega⟩))
      (fun j => hO3 m c (ix2 n j)) (fun j => hW3 m c (ix2 j i))) (fun i => hOut m c (ix2 i e))

/-- The normed rows. -/
def outRow (n : Fin 32768) (e : Fin 1024) : EReal :=
  normRow (zRow m c n) (hGain m c (ix2 0 e)) (hShift m c (ix2 0 e)) e

/-- The two arrays that the merge leaves. -/
def final : FVec Ideal S32768x1024 .f32 := fun i => outRow m c (i 0) (i 1)
def finalB : FVec Ideal S32768x1024 .bf16 := fun i => outRow m c (i 0) (i 1)

theorem pos (t : Fin cfg0.N) : (t : ℕ) < 64 := t.2

theorem idx (t : Fin cfg0.N) : win0_0.index t = ![(t : ℕ), 0] ∧ win0_1.index t = ![(t : ℕ), 0]
    ∧ win0_2.index t = ![(t : ℕ), 0] ∧ win0_3.index t = ![(t : ℕ), 0] ∧ win0_4.index t = ![(t : ℕ), 0]
    ∧ win0_15.index t = ![(t : ℕ), 0] ∧ win0_16.index t = ![(t : ℕ), 0] :=
  (by decide +kernel : ∀ t : Fin grid0.N, win0_0.index t = ![(t : ℕ), 0] ∧ win0_1.index t = ![(t : ℕ), 0]
    ∧ win0_2.index t = ![(t : ℕ), 0] ∧ win0_3.index t = ![(t : ℕ), 0] ∧ win0_4.index t = ![(t : ℕ), 0]
    ∧ win0_15.index t = ![(t : ℕ), 0] ∧ win0_16.index t = ![(t : ℕ), 0]) t

theorem idx' (t : Fin cfg0.N) : win0_5.index t = ![0, 0] ∧ win0_6.index t = ![0, 0]
    ∧ win0_7.index t = ![0, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, win0_5.index t = ![0, 0] ∧ win0_6.index t = ![0, 0]
    ∧ win0_7.index t = ![0, 0] ∧ win0_8.index t = ![0, 0] ∧ win0_9.index t = ![0, 0]
    ∧ win0_10.index t = ![0, 0] ∧ win0_11.index t = ![0, 0] ∧ win0_12.index t = ![0, 0]) t

theorem read0 (A : FVec Ideal S32768x256 .bf16) (t : Fin cfg0.N) (r : Fin 512) (e : Fin 256) :
    View.read (Elt Ideal) ((cfg0.win 0).blk t).view A (ix2 r e) = A (ix2 ⟨512 * (t : ℕ) + r, by have := pos t; omega⟩ e) := by
  blk_ext [idx t]

theorem block0 (t : Fin cfg0.N) (r : Fin 512) (e : Fin 256) :
    iblk m c 0 t (ix2 r e) = hO1 m c (ix2 ⟨512 * (t : ℕ) + r, by have := pos t; omega⟩ e) :=
  read0 (V m c main_v2) t r e

theorem read1 (A : FVec Ideal S32768x256 .bf16) (t : Fin cfg0.N) (r : Fin 512) (e : Fin 256) :
    View.read (Elt Ideal) ((cfg0.win 1).blk t).view A (ix2 r e) = A (ix2 ⟨512 * (t : ℕ) + r, by have := pos t; omega⟩ e) := by
  blk_ext [idx t]

theorem block1 (t : Fin cfg0.N) (r : Fin 512) (e : Fin 256) :
    iblk m c 1 t (ix2 r e) = hO2 m c (ix2 ⟨512 * (t : ℕ) + r, by have := pos t; omega⟩ e) :=
  read1 (V m c main_v4) t r e

theorem read2 (A : FVec Ideal S32768x512 .bf16) (t : Fin cfg0.N) (r : Fin 512) (e : Fin 512) :
    View.read (Elt Ideal) ((cfg0.win 2).blk t).view A (ix2 r e) = A (ix2 ⟨512 * (t : ℕ) + r, by have := pos t; omega⟩ e) := by
  blk_ext [idx t]

theorem block2 (t : Fin cfg0.N) (r : Fin 512) (e : Fin 512) :
    iblk m c 2 t (ix2 r e) = hO3 m c (ix2 ⟨512 * (t : ℕ) + r, by have := pos t; omega⟩ e) :=
  read2 (V m c main_v6) t r e

theorem read3 (A : FVec Ideal S32768x1024 .bf16) (t : Fin cfg0.N) (r : Fin 512) (e : Fin 1024) :
    View.read (Elt Ideal) ((cfg0.win 3).blk t).view A (ix2 r e) = A (ix2 ⟨512 * (t : ℕ) + r, by have := pos t; omega⟩ e) := by
  blk_ext [idx t]

theorem block3 (t : Fin cfg0.N) (r : Fin 512) (e : Fin 1024) :
    iblk m c 3 t (ix2 r e) = hXb m c (ix2 ⟨512 * (t : ℕ) + r, by have := pos t; omega⟩ e) :=
  read3 (V m c main_v7) t r e

theorem read4 (A : FVec Ideal S32768x1024 .f32) (t : Fin cfg0.N) (r : Fin 512) (e : Fin 1024) :
    View.read (Elt Ideal) ((cfg0.win 4).blk t).view A (ix2 r e) = A (ix2 ⟨512 * (t : ℕ) + r, by have := pos t; omega⟩ e) := by
  blk_ext [idx t]

theorem block4 (t : Fin cfg0.N) (r : Fin 512) (e : Fin 1024) :
    iblk m c 4 t (ix2 r e) = hX m c (ix2 ⟨512 * (t : ℕ) + r, by have := pos t; omega⟩ e) :=
  read4 (V m c main_v0) t r e

theorem read5 (A : FVec Ideal S1024x3072 .bf16) (t : Fin cfg0.N) (r : Fin 1024) (e : Fin 3072) :
    View.read (Elt Ideal) ((cfg0.win 5).blk t).view A (ix2 r e) = A (ix2 r e) := by
  blk_ext [idx' t]

theorem block5 (t : Fin cfg0.N) (r : Fin 1024) (e : Fin 3072) : iblk m c 5 t (ix2 r e) = hGate m c (ix2 r e) :=
  read5 (V m c main_v9) t r e

theorem read6 (A : FVec Ideal S1x3072 .f32) (t : Fin cfg0.N) (r : Fin 1) (e : Fin 3072) :
    View.read (Elt Ideal) ((cfg0.win 6).blk t).view A (ix2 r e) = A (ix2 r e) := by
  blk_ext [idx' t]

theorem block6 (t : Fin cfg0.N) (r : Fin 1) (e : Fin 3072) : iblk m c 6 t (ix2 r e) = hBias m c (ix2 r e) :=
  read6 (V m c main_v10) t r e

theorem read7 (A : FVec Ideal S256x1024 .bf16) (t : Fin cfg0.N) (r : Fin 256) (e : Fin 1024) :
    View.read (Elt Ideal) ((cfg0.win 7).blk t).view A (ix2 r e) = A (ix2 r e) := by
  blk_ext [idx' t]

theorem block7 (t : Fin cfg0.N) (r : Fin 256) (e : Fin 1024) : iblk m c 7 t (ix2 r e) = hW1 m c (ix2 r e) :=
  read7 (V m c main_v11) t r e

theorem read8 (A : FVec Ideal S256x1024 .bf16) (t : Fin cfg0.N) (r : Fin 256) (e : Fin 1024) :
    View.read (Elt Ideal) ((cfg0.win 8).blk t).view A (ix2 r e) = A (ix2 r e) := by
  blk_ext [idx' t]

theorem block8 (t : Fin cfg0.N) (r : Fin 256) (e : Fin 1024) : iblk m c 8 t (ix2 r e) = hW2 m c (ix2 r e) :=
  read8 (V m c main_v12) t r e

theorem read9 (A : FVec Ideal S512x1024 .bf16) (t : Fin cfg0.N) (r : Fin 512) (e : Fin 1024) :
    View.read (Elt Ideal) ((cfg0.win 9).blk t).view A (ix2 r e) = A (ix2 r e) := by
  blk_ext [idx' t]

theorem block9 (t : Fin cfg0.N) (r : Fin 512) (e : Fin 1024) : iblk m c 9 t (ix2 r e) = hW3 m c (ix2 r e) :=
  read9 (V m c main_v13) t r e

theorem read10 (A : FVec Ideal S1024x1024 .bf16) (t : Fin cfg0.N) (r : Fin 1024) (e : Fin 1024) :
    View.read (Elt Ideal) ((cfg0.win 10).blk t).view A (ix2 r e) = A (ix2 r e) := by
  blk_ext [idx' t]

theorem block10 (t : Fin cfg0.N) (r : Fin 1024) (e : Fin 1024) : iblk m c 10 t (ix2 r e) = hOut m c (ix2 r e) :=
  read10 (V m c main_v14) t r e

theorem read11 (A : FVec Ideal S1x1024 .f32) (t : Fin cfg0.N) (r : Fin 1) (e : Fin 1024) :
    View.read (Elt Ideal) ((cfg0.win 11).blk t).view A (ix2 r e) = A (ix2 r e) := by
  blk_ext [idx' t]

theorem block11 (t : Fin cfg0.N) (r : Fin 1) (e : Fin 1024) : iblk m c 11 t (ix2 r e) = hGain m c (ix2 r e) :=
  read11 (V m c main_v15) t r e

theorem read12 (A : FVec Ideal S1x1024 .f32) (t : Fin cfg0.N) (r : Fin 1) (e : Fin 1024) :
    View.read (Elt Ideal) ((cfg0.win 12).blk t).view A (ix2 r e) = A (ix2 r e) := by
  blk_ext [idx' t]

theorem block12 (t : Fin cfg0.N) (r : Fin 1) (e : Fin 1024) : iblk m c 12 t (ix2 r e) = hShift m c (ix2 r e) :=
  read12 (V m c main_v16) t r e

theorem z_block (t : Fin cfg0.N) (r : Fin 512) :
    zBlock (iblk m c 0 t) (iblk m c 1 t) (iblk m c 2 t) (iblk m c 3 t) (iblk m c 4 t) (iblk m c 5 t) (iblk m c 6 t) (iblk m c 7 t) (iblk m c 8 t) (iblk m c 9 t) (iblk m c 10 t) r
      = zRow m c ⟨512 * (t : ℕ) + r, by have := pos t; omega⟩ := by
  funext e
  unfold zBlock zRow
  simp only [block0, block1, block2, block3, block4, block5, block6, block7, block8, block9, block10]

/-- What grid point `t` writes. -/
theorem block_out (t : Fin cfg0.N) (r : Fin 512) (e : Fin 1024) :
    blockVal (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r e)
      = outRow m c ⟨512 * (t : ℕ) + r, by have := pos t; omega⟩ e := by
  rw [blockVal_apply, z_block, block11, block12]
  rfl

theorem out15 (t : Fin cfg0.N) : (outsAt0 m c t.val t.isLt).1 = blockVal (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  by_cases h0 : t.val % 64 = 0
  · rw [outsAt0_A m c t h0]
    dsimp only
    unfold out0_A_15
    rw [View.read_writes_junk_eq_canon]
    exact canon_A_15 ..
  · rw [outsAt0_B m c t h0]
    dsimp only
    unfold out0_B_15
    rw [View.read_writes_junk_eq_canon]
    exact canon_B_15 ..

theorem out16 (t : Fin cfg0.N) : (outsAt0 m c t.val t.isLt).2.1 = blockValB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  by_cases h0 : t.val % 64 = 0
  · rw [outsAt0_A m c t h0]
    dsimp only
    unfold out0_A_16
    rw [View.read_writes_junk_eq_canon]
    exact canon_A_16 ..
  · rw [outsAt0_B m c t h0]
    dsimp only
    unfold out0_B_16
    rw [View.read_writes_junk_eq_canon]
    exact canon_B_16 ..

theorem emb15 (t : Fin cfg0.N) (r : Fin 512) (e : Fin 1024) : (win0_15.blk t).view.emb (ix2 r e)
      = (ix2 ⟨512 * (t : ℕ) + r, by have := pos t; omega⟩ e : S32768x1024.Idx) := by
  blk_ext [idx t]

theorem emb16 (t : Fin cfg0.N) (r : Fin 512) (e : Fin 1024) : (win0_16.blk t).view.emb (ix2 r e)
      = (ix2 ⟨512 * (t : ℕ) + r, by have := pos t; omega⟩ e : S32768x1024.Idx) := by
  blk_ext [idx t]

theorem array15 : (dats m 0 c).arrAt 15 cfg0.N = final m c := by
  refine (dats m 0 c).arrAt_eq_of_covers 15 _ (by decide +kernel) fun t hf y => ?_
  blk_simp
  rw [after0_15, out15]
  obtain ⟨r, e, rfl⟩ : ∃ (r : Fin 512) (e : Fin 1024), y = ix2 r e :=
    ⟨y 0, y 1, by funext k; fin_cases k <;> rfl⟩
  rw [emb15]
  exact block_out m c t r e

theorem array16 : (dats m 0 c).arrAt 16 cfg0.N = finalB m c := by
  refine (dats m 0 c).arrAt_eq_of_covers 16 _ (by decide +kernel) fun t hf y => ?_
  blk_simp
  rw [after0_16, out16]
  obtain ⟨r, e, rfl⟩ : ∃ (r : Fin 512) (e : Fin 1024), y = ix2 r e :=
    ⟨y 0, y 1, by funext k; fin_cases k <;> rfl⟩
  rw [emb16, blockValB_eq]
  exact block_out m c t r e

end Cert.Merge

end
-- ==== Proof.MergeReference.lean ====
/-
  The reference's merge, index by index.
-/
module

public import proofs.«01_k».proof.Proof.Gen.Reference2Ideal.Run
public import proofs.«01_k».proof.Proof.MergeRow
public import Idealize.ShloMosaic.Lib.IdealHost
public import Idealize.ShloMosaic.Lib.Pointwise

@[expose] public section

set_option maxRecDepth 16384

noncomputable section

namespace Cert.MergeRef

open Cert.Reference2Ideal Cert.Reference2Ideal.Gen Cert.MergeRow
open Idealize.ShloMosaic Idealize.ShloMosaic.TcCoe Idealize.SL.Sem Idealize.ShloMosaic.StableHlo

/-- The three gates, side by side. -/
def gates (x : FVec Ideal S16x2048x1024 .f32) (w : FVec Ideal S1024x5028 .f32) (b : FVec Ideal S3072 .f32) : FVec Ideal S16x2048x3x1024 .f32 :=
  shapeCast _ (Host.divf (broadcastInDim S16x2048x3072 ![] bcast_S_S16x2048x3072 (constant S_ .f32 0x3F800000#32)) (addf (broadcastInDim S16x2048x3072 ![] bcast_S_S16x2048x3072 (constant S_ .f32 0x3F800000#32)) (Host.exp (Host.negf (addf (extractStridedSlice S16x2048x3072 ![0, 0, 1956] (Host.dotGeneral dot_S16x2048x1024_S1024x5028_S16x2048x5028_2_0_01_1_n_n none x w) slices_S16x2048x5028_S16x2048x3072_0_0_1956) (broadcastInDim S16x2048x3072 ![0, 1, 2] bcast_S1x1x3072_S16x2048x3072_0_1_2 (broadcastInDim S1x1x3072 ![2] bcast_S3072_S1x1x3072_2 b))))))) shapeCasts_S16x2048x3072_S16x2048x3x1024

/-- The branches weighted by their gates. -/
def mixed (g : FVec Ideal S16x2048x3x1024 .f32) (o1 o2 : FVec Ideal S16x2048x256 .f32) (o3 : FVec Ideal S16x2048x512 .f32)
    (w1 w2 : FVec Ideal S256x1024 .f32) (w3 : FVec Ideal S512x1024 .f32) : FVec Ideal S16x2048x1024 .f32 :=
  addf (addf (mulf (shapeCast _ (extractStridedSlice S16x2048x1x1024 ![0, 0, 0, 0] g slices_S16x2048x3x1024_S16x2048x1x1024_0_0_0_0) shapeCasts_S16x2048x1x1024_S16x2048x1024) (Host.dotGeneral dot_S16x2048x256_S256x1024_S16x2048x1024_2_0_01_1_n_n none o1 w1))
    (mulf (shapeCast _ (extractStridedSlice S16x2048x1x1024 ![0, 0, 1, 0] g slices_S16x2048x3x1024_S16x2048x1x1024_0_0_1_0) shapeCasts_S16x2048x1x1024_S16x2048x1024) (Host.dotGeneral dot_S16x2048x256_S256x1024_S16x2048x1024_2_0_01_1_n_n none o2 w2)))
    (mulf (shapeCast _ (extractStridedSlice S16x2048x1x1024 ![0, 0, 2, 0] g slices_S16x2048x3x1024_S16x2048x1x1024_0_0_2_0) shapeCasts_S16x2048x1x1024_S16x2048x1024) (Host.dotGeneral dot_S16x2048x512_S512x1024_S16x2048x1024_2_0_01_1_n_n none o3 w3))

/-- The scaled residual and the projection of the mixed branches. -/
def sum (x mix : FVec Ideal S16x2048x1024 .f32) (w : FVec Ideal S1024x1024 .f32) : FVec Ideal S16x2048x1024 .f32 :=
  addf (mulf (broadcastInDim S16x2048x1024 ![] bcast_S_S16x2048x1024 (constant S_ .f32 0x3FB504F3#32)) x) (Host.dotGeneral dot_S16x2048x1024_S1024x1024_S16x2048x1024_2_0_01_1_n_n none mix w)

/-- The mean of each row. -/
def means (z : FVec Ideal S16x2048x1024 .f32) : FVec Ideal S16x2048x1 .f32 :=
  Host.divf (broadcastInDim S16x2048x1 ![0, 1] bcast_S16x2048_S16x2048x1_0_1 (Host.reduceAdd z (constant S_ .f32 0x00000000#32) reducesTo_S16x2048x1024_S16x2048_d2 h_S_)) (broadcastInDim S16x2048x1 ![] bcast_S_S16x2048x1 (constant S_ .f32 0x44800000#32))

/-- Each row less its mean. -/
def centred (z : FVec Ideal S16x2048x1024 .f32) : FVec Ideal S16x2048x1024 .f32 :=
  subf z (broadcastInDim S16x2048x1024 ![0, 1, 2] bcast_S16x2048x1_S16x2048x1024_0_1_2 (means z))

/-- The norm of each row. -/
def normed (z : FVec Ideal S16x2048x1024 .f32) (g b : FVec Ideal S1024 .f32) : FVec Ideal S16x2048x1024 .f32 :=
  addf (mulf (mulf (centred z) (broadcastInDim S16x2048x1024 ![0, 1, 2] bcast_S16x2048x1_S16x2048x1024_0_1_2 (Host.rsqrt (addf (means (mulf (centred z) (centred z))) (broadcastInDim S16x2048x1 ![] bcast_S_S16x2048x1 (constant S_ .f32 0x3727C5AC#32))))))
    (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 b))

/-- The rows of all sequences, one under the other. -/
def rows (y : FVec Ideal S16x2048x1024 .f32) : FVec Ideal S32768x1024 .f32 :=
  shapeCast _ y shapeCasts_S16x2048x1024_S32768x1024

section

variable (m : (ℓ : Loc nD τ sig) → Buf (Elt Ideal) ℓ) (c : Dev nD)

/-- The merge's rows before the norm. -/
def whole : FVec Ideal S16x2048x1024 .f32 :=
  sum (m ((c.tc : Thread nD τ).loc main_arg0)) (mixed (gates (m ((c.tc : Thread nD τ).loc main_arg0)) (m ((c.tc : Thread nD τ).loc main_arg4)) (m ((c.tc : Thread nD τ).loc main_arg5)))
    (m ((c.tc : Thread nD τ).loc main_arg1)) (m ((c.tc : Thread nD τ).loc main_arg2)) (m ((c.tc : Thread nD τ).loc main_arg3))
    (m ((c.tc : Thread nD τ).loc main_arg6)) (m ((c.tc : Thread nD τ).loc main_arg7)) (m ((c.tc : Thread nD τ).loc main_arg8))) (m ((c.tc : Thread nD τ).loc main_arg9))

theorem res0_eq : Value.res_main_v52 m c = rows (normed (whole m c) (m ((c.tc : Thread nD τ).loc main_arg10)) (m ((c.tc : Thread nD τ).loc main_arg11))) := rfl

theorem res1_eq : Value.res_main_v53 m c = (rows (normed (whole m c) (m ((c.tc : Thread nD τ).loc main_arg10)) (m ((c.tc : Thread nD τ).loc main_arg11))) : FVec Ideal S32768x1024 .f32) := rfl

end

theorem gates_apply (x : FVec Ideal S16x2048x1024 .f32) (w : FVec Ideal S1024x5028 .f32) (b : FVec Ideal S3072 .f32)
    (s : Fin 16) (t : Fin 2048) (i : Fin 3) (e : Fin 1024) : gates x w b (ix4 s t i e)
      = Ideal.logistic ((∑ d : Fin 1024, x (ix3 s t d) * w (ix2 d ⟨1956 + (i * 1024 + e), by omega⟩)) + b (ix1 ⟨i * 1024 + e, by omega⟩)) := by
  unfold Ideal.logistic
  pointwise [gates, Ideal.ofBits_one_f32]

theorem mixed_apply (g : FVec Ideal S16x2048x3x1024 .f32) (o1 o2 : FVec Ideal S16x2048x256 .f32) (o3 : FVec Ideal S16x2048x512 .f32)
    (w1 w2 : FVec Ideal S256x1024 .f32) (w3 : FVec Ideal S512x1024 .f32) (s : Fin 16) (t : Fin 2048) (e : Fin 1024) :
    mixed g o1 o2 o3 w1 w2 w3 (ix3 s t e) = g (ix4 s t 0 e) * (∑ j : Fin 256, o1 (ix3 s t j) * w1 (ix2 j e))
      + g (ix4 s t 1 e) * (∑ j : Fin 256, o2 (ix3 s t j) * w2 (ix2 j e))
      + g (ix4 s t 2 e) * (∑ j : Fin 512, o3 (ix3 s t j) * w3 (ix2 j e)) := by
  pointwise [mixed]

theorem sum_apply (x mix : FVec Ideal S16x2048x1024 .f32) (w : FVec Ideal S1024x1024 .f32) (s : Fin 16) (t : Fin 2048) (e : Fin 1024) :
    sum x mix w (ix3 s t e) = pre (x (ix3 s t e)) (fun j => mix (ix3 s t j)) (fun j => w (ix2 j e)) := by
  unfold pre alpha
  pointwise [sum]

theorem means_apply (z : FVec Ideal S16x2048x1024 .f32) (s : Fin 16) (t : Fin 2048) :
    means z (ix3 s t 0) = mean fun d => z (ix3 s t d) := by
  unfold mean width
  pointwise [means]

theorem centred_apply (z : FVec Ideal S16x2048x1024 .f32) (s : Fin 16) (t : Fin 2048) (e : Fin 1024) :
    centred z (ix3 s t e) = z (ix3 s t e) - mean fun d => z (ix3 s t d) := by
  pointwise [centred, means_apply]

theorem normed_apply (z : FVec Ideal S16x2048x1024 .f32) (g b : FVec Ideal S1024 .f32) (s : Fin 16) (t : Fin 2048) (e : Fin 1024) :
    normed z g b (ix3 s t e) = normRow (fun d => z (ix3 s t d)) (g (ix1 e)) (b (ix1 e)) e := by
  have h := means_apply (mulf (centred z) (centred z)) s t
  have h2 : (fun d : Fin 1024 => mulf (centred z) (centred z) (ix3 s t d)) = fun d => (z (ix3 s t d) - mean fun d => z (ix3 s t d)) * (z (ix3 s t d) - mean fun d => z (ix3 s t d)) := by
    funext d
    pointwise [centred_apply]
  rw [h2] at h
  unfold normRow eps
  pointwise [normed, centred_apply, h]
  rfl

theorem rows_apply (y : FVec Ideal S16x2048x1024 .f32) (n : Fin 32768) (e : Fin 1024) :
    rows y (ix2 n e) = y (ix3 ⟨n / 2048, by omega⟩ ⟨n % 2048, by omega⟩ e) := by
  pointwise [rows]

end Cert.MergeRef

end
-- ==== Proof.MergeEqual.lean ====
/-
  The merge leaves what the reference computes.
-/
module

public import proofs.«01_k».proof.Proof.MergeFinal
public import proofs.«01_k».proof.Proof.MergeReference

@[expose] public section

set_option maxRecDepth 16384

noncomputable section

namespace Cert.MergeRef

open Cert.Reference2Ideal Cert.Reference2Ideal.Gen Cert.MergeRow Idealize.ShloMosaic Idealize.SL.Sem

variable (x : FVec Ideal S16x2048x1024 .f32) (w : FVec Ideal S1024x5028 .f32) (b : FVec Ideal S3072 .f32)
  (s : Fin 16) (t : Fin 2048) (e : Fin 1024)

theorem gates0 : gates x w b (ix4 s t 0 e)
    = Ideal.logistic ((∑ d : Fin 1024, x (ix3 s t d) * w (ix2 d ⟨1956 + e, by omega⟩)) + b (ix1 ⟨e, by omega⟩)) := by
  have h : ((0 : Fin 3) : ℕ) * 1024 + e = e := Nat.zero_add _
  rw [gates_apply]
  simp only [h]

theorem gates1 : gates x w b (ix4 s t 1 e)
    = Ideal.logistic ((∑ d : Fin 1024, x (ix3 s t d) * w (ix2 d ⟨1956 + (1024 + e), by omega⟩)) + b (ix1 ⟨1024 + e, by omega⟩)) := by
  have h : ((1 : Fin 3) : ℕ) * 1024 + e = 1024 + e := rfl
  rw [gates_apply]
  simp only [h]

theorem gates2 : gates x w b (ix4 s t 2 e)
    = Ideal.logistic ((∑ d : Fin 1024, x (ix3 s t d) * w (ix2 d ⟨1956 + (2048 + e), by omega⟩)) + b (ix1 ⟨2048 + e, by omega⟩)) := by
  have h : ((2 : Fin 3) : ℕ) * 1024 + e = 2048 + e := rfl
  rw [gates_apply]
  simp only [h]

end Cert.MergeRef

namespace Cert.Merge

open Cert.Kernel2Ideal Cert.Kernel2Ideal.Gen Cert.MergeRow
open Idealize.ShloMosaic Idealize.ShloMosaic.TcCoe Idealize.SL.Sem

variable (m : (ℓ : Loc nD τ sig) → Buf (Elt Ideal) ℓ) (c : Dev nD)

/-- The reference's rows before the norm, of the kernel's arguments. -/
def refWhole : FVec Ideal S16x2048x1024 .f32 :=
  MergeRef.sum (argX m c) (MergeRef.mixed (MergeRef.gates (argX m c) (argIn m c) (argBias m c)) (argO1 m c) (argO2 m c) (argO3 m c)
    (argW1 m c) (argW2 m c) (argW3 m c)) (argOut m c)

theorem zRow_eq (n : Fin 32768) :
    zRow m c n = fun d => refWhole m c (ix3 ⟨n / 2048, by omega⟩ ⟨n % 2048, by omega⟩ d) := by
  funext e
  unfold refWhole zRow branch
  rw [MergeRef.sum_apply]
  simp only [MergeRef.mixed_apply, MergeRef.gates0, MergeRef.gates1, MergeRef.gates2, hX_apply, hXb_apply, hGate_apply, hBias_apply,
    hO1_apply, hO2_apply, hO3_apply, hW1_apply, hW2_apply, hW3_apply, hOut_apply]

theorem final_eq : final m c = MergeRef.rows (MergeRef.normed (refWhole m c) (argGain m c) (argShift m c)) := by
  funext i
  obtain ⟨n, e, rfl⟩ : ∃ (n : Fin 32768) (e : Fin 1024), i = ix2 n e :=
    ⟨i 0, i 1, by funext k; fin_cases k <;> rfl⟩
  rw [MergeRef.rows_apply, MergeRef.normed_apply, ← zRow_eq, ← hGain_apply, ← hShift_apply]
  rfl

end Cert.Merge

end
-- ==== Proof.ProjFinal.lean ====
/-
  The array that the projection to queries, keys and values leaves: each grid point writes 1024 rows by 768 columns, in three
  steps of 256 columns, and together the points write everything. And the reference's.
-/
module

public import proofs.«01_k».proof.Proof.Gen.Kernel3Ideal.Frame
public import proofs.«01_k».proof.Proof.Gen.Reference3Ideal.Run
public import Idealize.ShloMosaic.Lib.Pointwise
public import Idealize.ShloMosaic.Lib.IdealHost
public import Idealize.ShloMosaic.Lib.Pipeline.ValueKit
public import Idealize.ShloMosaic.Lib.Claim

@[expose] public section

set_option maxRecDepth 16384

noncomputable section

namespace Cert.Proj

open Cert.Kernel3Ideal Cert.Kernel3Ideal.Gen
open Idealize.ShloMosaic Idealize.ShloMosaic.TcCoe Idealize.SL.Sem

section

variable (x0 : FVec Ideal S1024x1024 .bf16) (x1 : FVec Ideal S1024x768 .bf16)

/-- What one grid point stores: its rows times its columns. -/
def G : FVec Ideal S1024x768 .bf16 := fun i => ∑ d : Fin 1024, x0 (ix2 (i 0) d) * x1 (ix2 d (i 1))

theorem G_of (f g : Fin 1024 → EReal) (r : Fin 1024) (e : Fin 768) (hf : ∀ d, x0 (ix2 r d) = f d) (hg : ∀ d, x1 (ix2 d e) = g d) :
    G x0 x1 (ix2 r e) = ∑ d, f d * g d := by
  show ∑ d : Fin 1024, x0 (ix2 r d) * x1 (ix2 d e) = _
  simp only [hf, hg]

theorem first (x : r0_1.shape.Idx) : k0_pay2 (F := Ideal) (View.ld x0 r0_0) (View.ld x1 r0_1) x = G x0 x1 (r0_1.emb x) := by
  obtain ⟨r, e, rfl⟩ : ∃ (r : Fin 1024) (e : Fin 256), x = ix2 r e :=
    ⟨x 0, x 1, by funext k; fin_cases k <;> rfl⟩
  have h : r0_1.emb (ix2 r e) = (ix2 r ⟨e, by omega⟩ : S1024x768.Idx) := by blk_ext []
  rw [h]
  show _ = ∑ d : Fin 1024, x0 (ix2 r d) * x1 (ix2 d ⟨e, by omega⟩)
  pointwise [k0_pay1, k0_pay2]

theorem second (x : r0_2.shape.Idx) : k0_pay3 (F := Ideal) (View.ld x0 r0_0) (View.ld x1 r0_2) x = G x0 x1 (r0_2.emb x) := by
  obtain ⟨r, e, rfl⟩ : ∃ (r : Fin 1024) (e : Fin 256), x = ix2 r e :=
    ⟨x 0, x 1, by funext k; fin_cases k <;> rfl⟩
  have h : r0_2.emb (ix2 r e) = (ix2 r ⟨256 + e, by omega⟩ : S1024x768.Idx) := by blk_ext []
  rw [h]
  show _ = ∑ d : Fin 1024, x0 (ix2 r d) * x1 (ix2 d ⟨256 + e, by omega⟩)
  pointwise [k0_pay1, k0_pay3]

theorem third (x : r0_3.shape.Idx) : k0_pay4 (F := Ideal) (View.ld x0 r0_0) (View.ld x1 r0_3) x = G x0 x1 (r0_3.emb x) := by
  obtain ⟨r, e, rfl⟩ : ∃ (r : Fin 1024) (e : Fin 256), x = ix2 r e :=
    ⟨x 0, x 1, by funext k; fin_cases k <;> rfl⟩
  have h : r0_3.emb (ix2 r e) = (ix2 r ⟨512 + e, by omega⟩ : S1024x768.Idx) := by blk_ext []
  rw [h]
  show _ = ∑ d : Fin 1024, x0 (ix2 r d) * x1 (ix2 d ⟨512 + e, by omega⟩)
  pointwise [k0_pay1, k0_pay4]

theorem out_eq (y : S1024x768.Idx) : out0_2 (F := Ideal) x0 x1 y = G x0 x1 y := by
  unfold out0_2
  refine View.canon_apply_of_pieces (Val := Elt Ideal) (e := .bf16) (G x0 x1) _ ?_ y (cover0_2 _ _ _ y)
  intro p hp x
  simp only [List.mem_cons, List.not_mem_nil, or_false] at hp
  rcases hp with rfl | rfl | rfl
  · exact third x0 x1 x
  · exact second x0 x1 x
  · exact first x0 x1 x

end

variable (m : (ℓ : Loc nD τ sig) → Buf (Elt Ideal) ℓ) (c : Dev nD)

/-- The arguments: the layer's input and the input projection. -/
def argX : FVec Ideal S16x2048x1024 .f32 := m ((c : Thread nD τ).loc main_arg0)
def argIn : FVec Ideal S1024x5028 .f32 := m ((c : Thread nD τ).loc main_arg1)

/-- The arrays as the projection finds them. -/
def hX : FVec Ideal S32768x1024 .bf16 := V m c main_v1
def hW : FVec Ideal S1024x1536 .bf16 := V m c main_v3

theorem hX_apply (n : Fin 32768) (e : Fin 1024) : hX m c (ix2 n e) = argX m c (ix3 ⟨n / 2048, by omega⟩ ⟨n % 2048, by omega⟩ e) := by
  unfold hX V argX
  dsimp only [hostOps0]
  entry_read
  pointwise []

theorem hW_apply (d : Fin 1024) (e : Fin 1536) : hW m c (ix2 d e) = argIn m c (ix2 d ⟨e, by omega⟩) := by
  unfold hW V argIn
  dsimp only [hostOps0]
  entry_read
  pointwise []

/-- The array that the projection leaves. -/
def final : FVec Ideal S32768x1536 .bf16 := fun i => ∑ d : Fin 1024, hX m c (ix2 (i 0) d) * hW m c (ix2 d (i 1))

theorem pos (t : Fin cfg0.N) : (t : ℕ) < 64 := t.2

theorem idx (t : Fin cfg0.N) : win0_0.index t = ![(t : ℕ) / 2, 0] ∧ win0_1.index t = ![0, (t : ℕ) % 2]
    ∧ win0_2.index t = ![(t : ℕ) / 2, (t : ℕ) % 2] :=
  (by decide +kernel : ∀ t : Fin grid0.N, win0_0.index t = ![(t : ℕ) / 2, 0] ∧ win0_1.index t = ![0, (t : ℕ) % 2]
    ∧ win0_2.index t = ![(t : ℕ) / 2, (t : ℕ) % 2]) t

theorem read0 (A : FVec Ideal S32768x1024 .bf16) (t : Fin cfg0.N) (r : Fin 1024) (e : Fin 1024) :
    View.read (Elt Ideal) ((cfg0.win 0).blk t).view A (ix2 r e) = A (ix2 ⟨1024 * ((t : ℕ) / 2) + r, by have := pos t; omega⟩ e) := by
  blk_ext [idx t]

theorem block0 (t : Fin cfg0.N) (r : Fin 1024) (e : Fin 1024) :
    iblk m c 0 t (ix2 r e) = hX m c (ix2 ⟨1024 * ((t : ℕ) / 2) + r, by have := pos t; omega⟩ e) :=
  read0 (V m c main_v1) t r e

theorem read1 (A : FVec Ideal S1024x1536 .bf16) (t : Fin cfg0.N) (r : Fin 1024) (e : Fin 768) :
    View.read (Elt Ideal) ((cfg0.win 1).blk t).view A (ix2 r e) = A (ix2 r ⟨768 * ((t : ℕ) % 2) + e, by omega⟩) := by
  blk_ext [idx t]

theorem block1 (t : Fin cfg0.N) (r : Fin 1024) (e : Fin 768) :
    iblk m c 1 t (ix2 r e) = hW m c (ix2 r ⟨768 * ((t : ℕ) % 2) + e, by omega⟩) :=
  read1 (V m c main_v3) t r e

/-- What grid point `t` writes. -/
theorem block_out (t : Fin cfg0.N) (r : Fin 1024) (e : Fin 768) : G (iblk m c 0 t) (iblk m c 1 t) (ix2 r e)
    = final m c (ix2 ⟨1024 * ((t : ℕ) / 2) + r, by have := pos t; omega⟩ ⟨768 * ((t : ℕ) % 2) + e, by omega⟩) := by
  exact G_of _ _ _ _ r e (fun d => block0 m c t r d) fun d => block1 m c t d e

theorem emb_eq (t : Fin cfg0.N) (r : Fin 1024) (e : Fin 768) : (win0_2.blk t).view.emb (ix2 r e)
      = (ix2 ⟨1024 * ((t : ℕ) / 2) + r, by have := pos t; omega⟩ ⟨768 * ((t : ℕ) % 2) + e, by omega⟩ : S32768x1536.Idx) := by
  blk_ext [idx t]

theorem array : (dats m 0 c).arrAt 2 cfg0.N = final m c := by
  refine (dats m 0 c).arrAt_eq_of_covers 2 _ (by decide +kernel) fun t hf y => ?_
  blk_simp
  rw [after0_2]
  obtain ⟨r, e, rfl⟩ : ∃ (r : Fin 1024) (e : Fin 768), y = ix2 r e :=
    ⟨y 0, y 1, by funext k; fin_cases k <;> rfl⟩
  rw [emb_eq, out_eq]
  exact block_out m c t r e

end Cert.Proj

namespace Cert.ProjRef

open Cert.Reference3Ideal Cert.Reference3Ideal.Gen
open Idealize.ShloMosaic Idealize.SL.Sem

/-- The reference's array. -/
def res (x : FVec Ideal S16x2048x1024 .f32) (w : FVec Ideal S1024x5028 .f32) : FVec Ideal S32768x1536 .bf16 :=
  truncf .bf16 (shapeCast _ (extractStridedSlice S16x2048x1536 ![0, 0, 0] (Host.dotGeneral dot_S16x2048x1024_S1024x5028_S16x2048x5028_2_0_01_1_n_n none x w) slices_S16x2048x5028_S16x2048x1536_0_0_0) shapeCasts_S16x2048x1536_S32768x1536) bitsLt_bf16_f32

theorem res_apply (x : FVec Ideal S16x2048x1024 .f32) (w : FVec Ideal S1024x5028 .f32) (n : Fin 32768) (e : Fin 1536) :
    res x w (ix2 n e) = ∑ d : Fin 1024, x (ix3 ⟨n / 2048, by omega⟩ ⟨n % 2048, by omega⟩ d) * w (ix2 d ⟨e, by omega⟩) := by
  pointwise [res]

end Cert.ProjRef

namespace Cert.Proj

open Cert.Kernel3Ideal Cert.Kernel3Ideal.Gen
open Idealize.ShloMosaic Idealize.ShloMosaic.TcCoe Idealize.SL.Sem

variable (m : (ℓ : Loc nD τ sig) → Buf (Elt Ideal) ℓ) (c : Dev nD)

theorem final_eq : final m c = ProjRef.res (argX m c) (argIn m c) := by
  funext i
  obtain ⟨n, e, rfl⟩ : ∃ (n : Fin 32768) (e : Fin 1536), i = ix2 n e :=
    ⟨i 0, i 1, by funext k; fin_cases k <;> rfl⟩
  rw [ProjRef.res_apply]
  show ∑ d : Fin 1024, hX m c (ix2 n d) * hW m c (ix2 d e) = _
  simp only [hX_apply, hW_apply]

end Cert.Proj

end
-- ==== Proof.CombineRow.lean ====
/-
  One row of the layer's last step: the shared expert, the eight chosen experts' outputs by their weights, and the scaled residual.
-/
module

public import proofs.«01_k».proof.Proof.MergeRow

@[expose] public section

noncomputable section

namespace Cert.CombineRow

open Idealize.ShloMosaic Cert.MergeRow

/-- A column of the shared expert's hidden layer. -/
def hiddenCol (x g u : Fin 1024 → EReal) : EReal :=
  (∑ d, x d * g d) * Ideal.logistic (∑ d, x d * g d) * ∑ d, x d * u d

/-- The row before the norm, at one column: the scaled residual, the shared expert and the chosen experts. -/
def before (x : EReal) (h w : Fin 256 → EReal) (y p : Fin 8 → EReal) : EReal :=
  alpha * x + ((∑ j, h j * w j) + ∑ k, p k * y k)

end Cert.CombineRow

end
-- ==== Proof.CombineBlock.lean ====
/-
  What one grid point of the last step computes for its block of 512 rows, index by index.
-/
module

public import proofs.«01_k».proof.Proof.Gen.Kernel4Ideal.Frame
public import proofs.«01_k».proof.Proof.CombineRow
public import Idealize.ShloMosaic.Lib.Pointwise
public import Idealize.ShloMosaic.Lib.Pipeline.ValueKit
public import Idealize.ShloMosaic.Lib.Pipeline.FrameBody

@[expose] public section

set_option maxRecDepth 16384

noncomputable section

namespace Cert.Combine

open Cert.Kernel4Ideal Cert.Kernel4Ideal.Gen Cert.MergeRow Cert.CombineRow Idealize.ShloMosaic Idealize.SL.Sem

theorem hz : (![0, 0] : Fin 2 → Nat) = fun _ => 0 := funext fun a => by fin_cases a <;> rfl

/-- The even rows of a block of pairs, and the odd ones. -/
theorem even_apply (x : FVec Ideal S1x1024x512 .bf16) (a : Fin 1) (r e : Fin 512) :
    rowsOfParity 0 S1x512x512 x bitcasts_S1x1024x512_w16_S1x512x512_w32 (ix3 a r e) = x (ix3 a ⟨2 * r, by omega⟩ e) := by
  unfold rowsOfParity
  congr 1
  funext k
  fin_cases k <;> rfl

theorem odd_apply (x : FVec Ideal S1x1024x512 .bf16) (a : Fin 1) (r e : Fin 512) :
    rowsOfParity 1 S1x512x512 x bitcasts_S1x1024x512_w16_S1x512x512_w32 (ix3 a r e) = x (ix3 a ⟨2 * r + 1, by omega⟩ e) := by
  unfold rowsOfParity
  congr 1
  funext k
  fin_cases k <;> rfl

section

variable (w : FVec Ideal S512x8 .f32) (y0 y1 y2 y3 y4 y5 y6 y7 : FVec Ideal S1x1024x512 .bf16) (r e : Fin 512)

theorem low_apply : k0_pay11 w (k0_pay7 w (k0_pay3 w y0 y1) (k0_pay5 y2) y3 y4) y5 y6 y7 (ix2 r e)
    = w (ix2 r 0) * y0 (ix3 0 ⟨2 * r, by omega⟩ e) + w (ix2 r 1) * y1 (ix3 0 ⟨2 * r, by omega⟩ e)
      + w (ix2 r 2) * y2 (ix3 0 ⟨2 * r, by omega⟩ e) + w (ix2 r 3) * y3 (ix3 0 ⟨2 * r, by omega⟩ e)
      + w (ix2 r 4) * y4 (ix3 0 ⟨2 * r, by omega⟩ e) + w (ix2 r 5) * y5 (ix3 0 ⟨2 * r, by omega⟩ e)
      + w (ix2 r 6) * y6 (ix3 0 ⟨2 * r, by omega⟩ e) + w (ix2 r 7) * y7 (ix3 0 ⟨2 * r, by omega⟩ e) := by
  pointwise [k0_pay11, k0_pay7, k0_pay3, k0_pay5, even_apply]

theorem high_apply : k0_pay9 w (k0_pay8 w (k0_pay4 w y0 y1) (k0_pay6 y2) y3 y4) y5 y6 (ix2 r e)
    = w (ix2 r 0) * y0 (ix3 0 ⟨2 * r + 1, by omega⟩ e) + w (ix2 r 1) * y1 (ix3 0 ⟨2 * r + 1, by omega⟩ e)
      + w (ix2 r 2) * y2 (ix3 0 ⟨2 * r + 1, by omega⟩ e) + w (ix2 r 3) * y3 (ix3 0 ⟨2 * r + 1, by omega⟩ e)
      + w (ix2 r 4) * y4 (ix3 0 ⟨2 * r + 1, by omega⟩ e) + w (ix2 r 5) * y5 (ix3 0 ⟨2 * r + 1, by omega⟩ e)
      + w (ix2 r 6) * y6 (ix3 0 ⟨2 * r + 1, by omega⟩ e) := by
  pointwise [k0_pay9, k0_pay8, k0_pay4, k0_pay6, odd_apply]

theorem last_apply : k0_pay10 (F := Ideal) y7 (ix2 r e) = y7 (ix3 0 ⟨2 * r + 1, by omega⟩ e) := by
  pointwise [k0_pay10, odd_apply]

end

section

variable (w : FVec Ideal S512x8 .f32) (hi last lo : FVec Ideal S512x512 .f32) (xb : FVec Ideal S512x1024 .bf16)
  (wg wu : FVec Ideal S1024x256 .bf16) (wd : FVec Ideal S256x1024 .bf16) (x : FVec Ideal S512x1024 .f32)

/-- The row before the norm. -/
def z (r : Fin 512) (e : Fin 1024) : EReal :=
  alpha * x (ix2 r e) + ((∑ j : Fin 256, hiddenCol (fun d => xb (ix2 r d)) (fun d => wg (ix2 d j)) (fun d => wu (ix2 d j)) * wd (ix2 j e))
    + if h : (e : ℕ) < 512 then lo (ix2 r ⟨e, h⟩) else hi (ix2 r ⟨e - 512, by omega⟩) + w (ix2 r 7) * last (ix2 r ⟨e - 512, by omega⟩))

theorem centred_apply (r : Fin 512) (e : Fin 1024) : k0_pay14 w hi last lo xb wg wu wd x (ix2 r e)
    = z w hi last lo xb wg wu wd x r e - mean (z w hi last lo xb wg wu wd x r) := by
  unfold mean z hiddenCol alpha width
  pointwise [k0_pay14]

theorem squares_apply (r : Fin 512) : k0_pay15 w hi last lo xb wg wu wd x (ix2 r 0)
    = ∑ d : Fin 1024, k0_pay14 w hi last lo xb wg wu wd x (ix2 r d) * k0_pay14 w hi last lo xb wg wu wd x (ix2 r d) := by
  pointwise [k0_pay15]

end

theorem scaled_apply (g b : FVec Ideal S1x1024 .f32) (v : FVec Ideal S512x1024 .f32) (q : FVec Ideal S512x1 .f32)
    (r : Fin 512) (e : Fin 1024) : k0_pay1 g b v q (ix2 r e)
      = v (ix2 r e) * Ideal.rsqrt (Ideal.div (q (ix2 r 0)) width + eps) * g (ix2 0 e) + b (ix2 0 e) := by
  unfold width eps
  pointwise [k0_pay1]

theorem gain_apply (v : FVec Ideal S1x1024 .f32) (e : Fin 1024) : k0_pay12 v (ix2 0 e) = v (ix2 0 e) := by
  pointwise [k0_pay12]

theorem shift_apply (v : FVec Ideal S1x1024 .f32) (e : Fin 1024) : k0_pay13 v (ix2 0 e) = v (ix2 0 e) := by
  pointwise [k0_pay13]

section

variable (x0 : FVec Ideal S8x1024x512 .bf16) (x1 : FVec Ideal S512x8 .f32) (x2 : FVec Ideal S512x1024 .f32)
  (x3 : FVec Ideal S512x1024 .bf16) (x4 x5 : FVec Ideal S1024x256 .bf16) (x6 : FVec Ideal S256x1024 .bf16)
  (x7 x8 : FVec Ideal S1x1024 .f32)

theorem ld0 (a : Fin 1024) (e : Fin 512) : (View.ld (Val := Elt Ideal) (e' := .bf16) x0 r0_1 : FVec Ideal S1x1024x512 .bf16) (ix3 0 a e) = x0 (ix3 0 a e) := by pointwise []
theorem ld1 (a : Fin 1024) (e : Fin 512) : (View.ld (Val := Elt Ideal) (e' := .bf16) x0 r0_2 : FVec Ideal S1x1024x512 .bf16) (ix3 0 a e) = x0 (ix3 1 a e) := by pointwise []
theorem ld2 (a : Fin 1024) (e : Fin 512) : (View.ld (Val := Elt Ideal) (e' := .bf16) x0 r0_3 : FVec Ideal S1x1024x512 .bf16) (ix3 0 a e) = x0 (ix3 2 a e) := by pointwise []
theorem ld3 (a : Fin 1024) (e : Fin 512) : (View.ld (Val := Elt Ideal) (e' := .bf16) x0 r0_4 : FVec Ideal S1x1024x512 .bf16) (ix3 0 a e) = x0 (ix3 3 a e) := by pointwise []
theorem ld4 (a : Fin 1024) (e : Fin 512) : (View.ld (Val := Elt Ideal) (e' := .bf16) x0 r0_5 : FVec Ideal S1x1024x512 .bf16) (ix3 0 a e) = x0 (ix3 4 a e) := by pointwise []
theorem ld5 (a : Fin 1024) (e : Fin 512) : (View.ld (Val := Elt Ideal) (e' := .bf16) x0 r0_6 : FVec Ideal S1x1024x512 .bf16) (ix3 0 a e) = x0 (ix3 5 a e) := by pointwise []
theorem ld6 (a : Fin 1024) (e : Fin 512) : (View.ld (Val := Elt Ideal) (e' := .bf16) x0 r0_7 : FVec Ideal S1x1024x512 .bf16) (ix3 0 a e) = x0 (ix3 6 a e) := by pointwise []
theorem ld7 (a : Fin 1024) (e : Fin 512) : (View.ld (Val := Elt Ideal) (e' := .bf16) x0 r0_8 : FVec Ideal S1x1024x512 .bf16) (ix3 0 a e) = x0 (ix3 7 a e) := by pointwise []
theorem w_whole : (View.ld (Val := Elt Ideal) (e' := .f32) x1 r0_0 : FVec Ideal S512x8 .f32) = x1 := View.ld_unit_zero (S := S512x8) (off := ![0, 0]) hz _ _
theorem x_whole : (View.ld (Val := Elt Ideal) (e' := .f32) x2 r0_9 : FVec Ideal S512x1024 .f32) = x2 := View.ld_unit_zero (S := S512x1024) (off := ![0, 0]) hz _ _
theorem xb_whole : (View.ld (Val := Elt Ideal) (e' := .bf16) x3 r0_9 : FVec Ideal S512x1024 .bf16) = x3 := View.ld_unit_zero (S := S512x1024) (off := ![0, 0]) hz _ _
theorem wg_whole : (View.ld (Val := Elt Ideal) (e' := .bf16) x4 r0_10 : FVec Ideal S1024x256 .bf16) = x4 := View.ld_unit_zero (S := S1024x256) (off := ![0, 0]) hz _ _
theorem wd_whole : (View.ld (Val := Elt Ideal) (e' := .bf16) x6 r0_11 : FVec Ideal S256x1024 .bf16) = x6 := View.ld_unit_zero (S := S256x1024) (off := ![0, 0]) hz _ _
theorem g_whole : (View.ld (Val := Elt Ideal) (e' := .f32) x7 r0_12 : FVec Ideal S1x1024 .f32) = x7 := View.ld_unit_zero (S := S1x1024) (off := ![0, 0]) hz _ _

/-- The row before the norm, of the blocks that are read. -/
def zBlock (r : Fin 512) (e : Fin 1024) : EReal :=
  before (x2 (ix2 r e)) (fun j => hiddenCol (fun d => x3 (ix2 r d)) (fun d => x4 (ix2 d j)) (fun d => x5 (ix2 d j))) (fun j => x6 (ix2 j e))
    (fun k => x0 (ix3 k ⟨2 * r + e / 512, by omega⟩ ⟨e % 512, by omega⟩)) (fun k => x1 (ix2 r k))

theorem z_of (y0 y1 y2 y3 y4 y5 y6 y7 : FVec Ideal S1x1024x512 .bf16)
    (h0 : ∀ (a : Fin 1024) (e : Fin 512), y0 (ix3 0 a e) = x0 (ix3 0 a e))
    (h1 : ∀ (a : Fin 1024) (e : Fin 512), y1 (ix3 0 a e) = x0 (ix3 1 a e))
    (h2 : ∀ (a : Fin 1024) (e : Fin 512), y2 (ix3 0 a e) = x0 (ix3 2 a e))
    (h3 : ∀ (a : Fin 1024) (e : Fin 512), y3 (ix3 0 a e) = x0 (ix3 3 a e))
    (h4 : ∀ (a : Fin 1024) (e : Fin 512), y4 (ix3 0 a e) = x0 (ix3 4 a e))
    (h5 : ∀ (a : Fin 1024) (e : Fin 512), y5 (ix3 0 a e) = x0 (ix3 5 a e))
    (h6 : ∀ (a : Fin 1024) (e : Fin 512), y6 (ix3 0 a e) = x0 (ix3 6 a e))
    (h7 : ∀ (a : Fin 1024) (e : Fin 512), y7 (ix3 0 a e) = x0 (ix3 7 a e)) (r : Fin 512) :
    z x1 (k0_pay9 x1 (k0_pay8 x1 (k0_pay4 x1 y0 y1) (k0_pay6 y2) y3 y4) y5 y6) (k0_pay10 y7)
      (k0_pay11 x1 (k0_pay7 x1 (k0_pay3 x1 y0 y1) (k0_pay5 y2) y3 y4) y5 y6 y7) x3 x4 x5 x6 x2 r
    = zBlock x0 x1 x2 x3 x4 x5 x6 r := by
  funext e
  unfold z zBlock before
  rw [Fin.sum_univ_eight]
  congr 2
  by_cases h : (e : ℕ) < 512
  · have i1 : (e : ℕ) / 512 = 0 := by omega
    have i2 : (e : ℕ) % 512 = e := by omega
    rw [dif_pos h, low_apply]
    simp only [h0, h1, h2, h3, h4, h5, h6, h7, i1, i2, Nat.add_zero]
  · have i1 : (e : ℕ) / 512 = 1 := by omega
    have i2 : (e : ℕ) % 512 = e - 512 := by omega
    rw [dif_neg h, high_apply, last_apply]
    simp only [h0, h1, h2, h3, h4, h5, h6, h7, i1, i2]

theorem z_eq (r : Fin 512) : z (View.ld (Val := Elt Ideal) (e' := .f32) x1 r0_0) (k0_pay16 x0 x1 x2 x3 x4 x5 x6 x7 x8) (k0_pay17 x0 x1 x2 x3 x4 x5 x6 x7 x8)
      (k0_pay18 x0 x1 x2 x3 x4 x5 x6 x7 x8) (View.ld (Val := Elt Ideal) (e' := .bf16) x3 r0_9) (View.ld (Val := Elt Ideal) (e' := .bf16) x4 r0_10) (View.ld (Val := Elt Ideal) (e' := .bf16) x5 r0_10) (View.ld (Val := Elt Ideal) (e' := .bf16) x6 r0_11) (View.ld (Val := Elt Ideal) (e' := .f32) x2 r0_9) r
    = zBlock x0 x1 x2 x3 x4 x5 x6 r := by
  unfold k0_pay16 k0_pay17 k0_pay18
  rw [w_whole, x_whole, xb_whole, wg_whole, wg_whole, wd_whole]
  exact z_of x0 x1 x2 x3 x4 x5 x6 _ _ _ _ _ _ _ _ (ld0 x0) (ld1 x0) (ld2 x0) (ld3 x0) (ld4 x0) (ld5 x0) (ld6 x0) (ld7 x0) r

/-- What one grid point stores. -/
theorem out_apply (r : Fin 512) (e : Fin 1024) : (out0_9 (F := Ideal) x0 x1 x2 x3 x4 x5 x6 x7 x8 : FVec Ideal S512x1024 .f32) (ix2 r e)
    = normRow (zBlock x0 x1 x2 x3 x4 x5 x6 r) (x7 (ix2 0 e)) (x8 (ix2 0 e)) e := by
  unfold out0_9
  rw [View.canon_unit_zero hz, scaled_apply]
  unfold normRow k0_pay19 k0_pay20 k0_pay21 k0_pay22
  rw [squares_apply, gain_apply, shift_apply, g_whole, g_whole]
  simp only [centred_apply, z_eq]

/-- The narrower floats of the second result. -/
theorem out_eq : (out0_10 (F := Ideal) x0 x1 x2 x3 x4 x5 x6 x7 x8 : S512x1024.Idx → EReal) = (out0_9 (F := Ideal) x0 x1 x2 x3 x4 x5 x6 x7 x8 : S512x1024.Idx → EReal) := by
  unfold out0_10 out0_9
  rw [View.canon_unit_zero hz, View.canon_unit_zero hz]
  rfl

end

end Cert.Combine

end
-- ==== Proof.CombineFinal.lean ====
/-
  The arrays that the last step is called on, index by index, and the two arrays that it leaves: each grid point writes 512
  rows, and together the points write everything.
-/
module

public import proofs.«01_k».proof.Proof.Gen.Kernel4Ideal.Frame
public import proofs.«01_k».proof.Proof.CombineBlock
public import Idealize.ShloMosaic.Lib.Pipeline.ValueKit
public import Idealize.ShloMosaic.Lib.Claim

@[expose] public section

set_option maxRecDepth 16384

noncomputable section

namespace Cert.Combine

open Cert.Kernel4Ideal Cert.Kernel4Ideal.Gen Cert.MergeRow Cert.CombineRow
open Idealize.ShloMosaic Idealize.ShloMosaic.TcCoe Idealize.SL.Sem

variable (m : (ℓ : Loc nD τ sig) → Buf (Elt Ideal) ℓ) (c : Dev nD)

/-- The arguments: the rows after the first norm, the chosen experts' outputs and weights, the second norm's gain and shift, and
    the shared expert's three projections. -/
def argX : FVec Ideal S16x2048x1024 .f32 := m ((c : Thread nD τ).loc main_arg0)
def argY : FVec Ideal S32768x8x1024 .f32 := m ((c : Thread nD τ).loc main_arg1)
def argTop : FVec Ideal S32768x8 .f32 := m ((c : Thread nD τ).loc main_arg2)
def argGain : FVec Ideal S1024 .f32 := m ((c : Thread nD τ).loc main_arg3)
def argShift : FVec Ideal S1024 .f32 := m ((c : Thread nD τ).loc main_arg4)
def argG : FVec Ideal S1024x256 .f32 := m ((c : Thread nD τ).loc main_arg5)
def argU : FVec Ideal S1024x256 .f32 := m ((c : Thread nD τ).loc main_arg6)
def argD : FVec Ideal S256x1024 .f32 := m ((c : Thread nD τ).loc main_arg7)

/-- The arrays as the last step finds them. -/
def hY : FVec Ideal S8x65536x512 .bf16 := V m c main_v3
def hTop : FVec Ideal S32768x8 .f32 := V m c main_arg2
def hX : FVec Ideal S32768x1024 .f32 := V m c main_v0
def hXb : FVec Ideal S32768x1024 .bf16 := V m c main_v4
def hG : FVec Ideal S1024x256 .bf16 := V m c main_v5
def hU : FVec Ideal S1024x256 .bf16 := V m c main_v6
def hD : FVec Ideal S256x1024 .bf16 := V m c main_v7
def hGain : FVec Ideal S1x1024 .f32 := V m c main_v8
def hShift : FVec Ideal S1x1024 .f32 := V m c main_v9

theorem hX_apply (n : Fin 32768) (e : Fin 1024) : hX m c (ix2 n e) = argX m c (ix3 ⟨n / 2048, by omega⟩ ⟨n % 2048, by omega⟩ e) := by
  unfold hX V argX
  dsimp only [hostOps0]
  entry_read
  pointwise []

theorem hXb_apply (n : Fin 32768) (e : Fin 1024) : hXb m c (ix2 n e) = argX m c (ix3 ⟨n / 2048, by omega⟩ ⟨n % 2048, by omega⟩ e) := by
  unfold hXb V argX
  dsimp only [hostOps0]
  entry_read
  pointwise []

theorem hG_apply (d : Fin 1024) (e : Fin 256) : hG m c (ix2 d e) = argG m c (ix2 d e) := by
  unfold hG V argG
  dsimp only [hostOps0]
  entry_read
  pointwise []

theorem hU_apply (d : Fin 1024) (e : Fin 256) : hU m c (ix2 d e) = argU m c (ix2 d e) := by
  unfold hU V argU
  dsimp only [hostOps0]
  entry_read
  pointwise []

theorem hD_apply (d : Fin 256) (e : Fin 1024) : hD m c (ix2 d e) = argD m c (ix2 d e) := by
  unfold hD V argD
  dsimp only [hostOps0]
  entry_read
  pointwise []

theorem hGain_apply (e : Fin 1024) : hGain m c (ix2 0 e) = argGain m c (ix1 e) := by
  unfold hGain V argGain
  dsimp only [hostOps0]
  entry_read
  pointwise []

theorem hShift_apply (e : Fin 1024) : hShift m c (ix2 0 e) = argShift m c (ix1 e) := by
  unfold hShift V argShift
  dsimp only [hostOps0]
  entry_read
  pointwise []

theorem hTop_apply (n : Fin 32768) (k : Fin 8) : hTop m c (ix2 n k) = argTop m c (ix2 n k) := by
  unfold hTop V argTop
  dsimp only [hostOps0]
  entry_read
  rfl

/-- A row of an expert's output lies in two rows of half the width. -/
theorem hY_apply (k : Fin 8) (q : Fin 65536) (e : Fin 512) :
    hY m c (ix3 k q e) = argY m c (ix3 ⟨q / 2, by omega⟩ k ⟨q % 2 * 512 + e, by omega⟩) := by
  unfold hY V argY
  dsimp only [hostOps0]
  entry_read
  pointwise []

/-- Row `n` before the norm. -/
def zRow (n : Fin 32768) (e : Fin 1024) : EReal :=
  before (hX m c (ix2 n e)) (fun j => hiddenCol (fun d => hXb m c (ix2 n d)) (fun d => hG m c (ix2 d j)) (fun d => hU m c (ix2 d j))) (fun j => hD m c (ix2 j e))
    (fun k => hY m c (ix3 k ⟨2 * n + e / 512, by omega⟩ ⟨e % 512, by omega⟩)) (fun k => hTop m c (ix2 n k))

/-- The normed rows. -/
def outRow (n : Fin 32768) (e : Fin 1024) : EReal :=
  normRow (zRow m c n) (hGain m c (ix2 0 e)) (hShift m c (ix2 0 e)) e

/-- The two arrays that the last step leaves. -/
def final : FVec Ideal S32768x1024 .f32 := fun i => outRow m c (i 0) (i 1)
def finalB : FVec Ideal S32768x1024 .bf16 := fun i => outRow m c (i 0) (i 1)

theorem pos (t : Fin cfg0.N) : (t : ℕ) < 64 := t.2

theorem idx (t : Fin cfg0.N) : win0_1.index t = ![(t : ℕ), 0] ∧ win0_2.index t = ![(t : ℕ), 0] ∧ win0_3.index t = ![(t : ℕ), 0] ∧ win0_9.index t = ![(t : ℕ), 0] ∧ win0_10.index t = ![(t : ℕ), 0] ∧ win0_0.index t = ![0, (t : ℕ), 0] :=
  (by decide +kernel : ∀ t : Fin grid0.N, win0_1.index t = ![(t : ℕ), 0] ∧ win0_2.index t = ![(t : ℕ), 0] ∧ win0_3.index t = ![(t : ℕ), 0] ∧ win0_9.index t = ![(t : ℕ), 0] ∧ win0_10.index t = ![(t : ℕ), 0] ∧ win0_0.index t = ![0, (t : ℕ), 0]) t

theorem idx' (t : Fin cfg0.N) : win0_4.index t = ![0, 0] ∧ win0_5.index t = ![0, 0] ∧ win0_6.index t = ![0, 0] ∧ win0_7.index t = ![0, 0] ∧ win0_8.index t = ![0, 0] :=
  (by decide +kernel : ∀ t : Fin grid0.N, win0_4.index t = ![0, 0] ∧ win0_5.index t = ![0, 0] ∧ win0_6.index t = ![0, 0] ∧ win0_7.index t = ![0, 0] ∧ win0_8.index t = ![0, 0]) t

theorem read1 (A : FVec Ideal S32768x8 .f32) (t : Fin cfg0.N) (r : Fin 512) (e : Fin 8) :
    View.read (Elt Ideal) ((cfg0.win 1).blk t).view A (ix2 r e) = A (ix2 ⟨512 * (t : ℕ) + r, by have := pos t; omega⟩ e) := by
  blk_ext [idx t]

theorem block1 (t : Fin cfg0.N) (r : Fin 512) (e : Fin 8) : iblk m c 1 t (ix2 r e) = hTop m c (ix2 ⟨512 * (t : ℕ) + r, by have := pos t; omega⟩ e) :=
  read1 (V m c main_arg2) t r e

theorem read2 (A : FVec Ideal S32768x1024 .f32) (t : Fin cfg0.N) (r : Fin 512) (e : Fin 1024) :
    View.read (Elt Ideal) ((cfg0.win 2).blk t).view A (ix2 r e) = A (ix2 ⟨512 * (t : ℕ) + r, by have := pos t; omega⟩ e) := by
  blk_ext [idx t]

theorem block2 (t : Fin cfg0.N) (r : Fin 512) (e : Fin 1024) : iblk m c 2 t (ix2 r e) = hX m c (ix2 ⟨512 * (t : ℕ) + r, by have := pos t; omega⟩ e) :=
  read2 (V m c main_v0) t r e

theorem read3 (A : FVec Ideal S32768x1024 .bf16) (t : Fin cfg0.N) (r : Fin 512) (e : Fin 1024) :
    View.read (Elt Ideal) ((cfg0.win 3).blk t).view A (ix2 r e) = A (ix2 ⟨512 * (t : ℕ) + r, by have := pos t; omega⟩ e) := by
  blk_ext [idx t]

theorem block3 (t : Fin cfg0.N) (r : Fin 512) (e : Fin 1024) : iblk m c 3 t (ix2 r e) = hXb m c (ix2 ⟨512 * (t : ℕ) + r, by have := pos t; omega⟩ e) :=
  read3 (V m c main_v4) t r e

theorem read4 (A : FVec Ideal S1024x256 .bf16) (t : Fin cfg0.N) (r : Fin 1024) (e : Fin 256) :
    View.read (Elt Ideal) ((cfg0.win 4).blk t).view A (ix2 r e) = A (ix2 r e) := by
  blk_ext [idx' t]

theorem block4 (t : Fin cfg0.N) (r : Fin 1024) (e : Fin 256) : iblk m c 4 t (ix2 r e) = hG m c (ix2 r e) :=
  read4 (V m c main_v5) t r e

theorem read5 (A : FVec Ideal S1024x256 .bf16) (t : Fin cfg0.N) (r : Fin 1024) (e : Fin 256) :
    View.read (Elt Ideal) ((cfg0.win 5).blk t).view A (ix2 r e) = A (ix2 r e) := by
  blk_ext [idx' t]

theorem block5 (t : Fin cfg0.N) (r : Fin 1024) (e : Fin 256) : iblk m c 5 t (ix2 r e) = hU m c (ix2 r e) :=
  read5 (V m c main_v6) t r e

theorem read6 (A : FVec Ideal S256x1024 .bf16) (t : Fin cfg0.N) (r : Fin 256) (e : Fin 1024) :
    View.read (Elt Ideal) ((cfg0.win 6).blk t).view A (ix2 r e) = A (ix2 r e) := by
  blk_ext [idx' t]

theorem block6 (t : Fin cfg0.N) (r : Fin 256) (e : Fin 1024) : iblk m c 6 t (ix2 r e) = hD m c (ix2 r e) :=
  read6 (V m c main_v7) t r e

theorem read7 (A : FVec Ideal S1x1024 .f32) (t : Fin cfg0.N) (r : Fin 1) (e : Fin 1024) :
    View.read (Elt Ideal) ((cfg0.win 7).blk t).view A (ix2 r e) = A (ix2 r e) := by
  blk_ext [idx' t]

theorem block7 (t : Fin cfg0.N) (r : Fin 1) (e : Fin 1024) : iblk m c 7 t (ix2 r e) = hGain m c (ix2 r e) :=
  read7 (V m c main_v8) t r e

theorem read8 (A : FVec Ideal S1x1024 .f32) (t : Fin cfg0.N) (r : Fin 1) (e : Fin 1024) :
    View.read (Elt Ideal) ((cfg0.win 8).blk t).view A (ix2 r e) = A (ix2 r e) := by
  blk_ext [idx' t]

theorem block8 (t : Fin cfg0.N) (r : Fin 1) (e : Fin 1024) : iblk m c 8 t (ix2 r e) = hShift m c (ix2 r e) :=
  read8 (V m c main_v9) t r e

theorem read0 (A : FVec Ideal S8x65536x512 .bf16) (t : Fin cfg0.N) (k : Fin 8) (q : Fin 1024) (e : Fin 512) :
    View.read (Elt Ideal) ((cfg0.win 0).blk t).view A (ix3 k q e) = A (ix3 k ⟨1024 * (t : ℕ) + q, by have := pos t; omega⟩ e) := by
  blk_ext [idx t]

theorem block0 (t : Fin cfg0.N) (k : Fin 8) (q : Fin 1024) (e : Fin 512) : iblk m c 0 t (ix3 k q e) = hY m c (ix3 k ⟨1024 * (t : ℕ) + q, by have := pos t; omega⟩ e) :=
  read0 (V m c main_v3) t k q e

theorem z_block (t : Fin cfg0.N) (r : Fin 512) :
    zBlock (iblk m c 0 t) (iblk m c 1 t) (iblk m c 2 t) (iblk m c 3 t) (iblk m c 4 t) (iblk m c 5 t) (iblk m c 6 t) r
      = zRow m c ⟨512 * (t : ℕ) + r, by have := pos t; omega⟩ := by
  funext e
  have h : 1024 * (t : ℕ) + (2 * r + e / 512) = 2 * (512 * (t : ℕ) + r) + e / 512 := by omega
  unfold zBlock zRow
  simp only [block0, block1, block2, block3, block4, block5, block6, h]

/-- What grid point `t` writes. -/
theorem block_out (t : Fin cfg0.N) (r : Fin 512) (e : Fin 1024) :
    (out0_9 (F := Ideal) (iblk m c 0 t) (iblk m c 1 t) (iblk m c 2 t) (iblk m c 3 t) (iblk m c 4 t) (iblk m c 5 t) (iblk m c 6 t) (iblk m c 7 t) (iblk m c 8 t) : FVec Ideal S512x1024 .f32) (ix2 r e)
      = outRow m c ⟨512 * (t : ℕ) + r, by have := pos t; omega⟩ e := by
  rw [out_apply, z_block, block7, block8]
  rfl

theorem emb9 (t : Fin cfg0.N) (r : Fin 512) (e : Fin 1024) : (win0_9.blk t).view.emb (ix2 r e)
      = (ix2 ⟨512 * (t : ℕ) + r, by have := pos t; omega⟩ e : S32768x1024.Idx) := by
  blk_ext [idx t]

theorem array9 : (dats m 0 c).arrAt 9 cfg0.N = final m c := by
  refine (dats m 0 c).arrAt_eq_of_covers 9 _ (by decide +kernel) fun t hf y => ?_
  blk_simp
  rw [after0_9]
  obtain ⟨r, e, rfl⟩ : ∃ (r : Fin 512) (e : Fin 1024), y = ix2 r e :=
    ⟨y 0, y 1, by funext k; fin_cases k <;> rfl⟩
  rw [emb9]
  exact block_out m c t r e

theorem emb10 (t : Fin cfg0.N) (r : Fin 512) (e : Fin 1024) : (win0_10.blk t).view.emb (ix2 r e)
      = (ix2 ⟨512 * (t : ℕ) + r, by have := pos t; omega⟩ e : S32768x1024.Idx) := by
  blk_ext [idx t]

theorem array10 : (dats m 0 c).arrAt 10 cfg0.N = finalB m c := by
  refine (dats m 0 c).arrAt_eq_of_covers 10 _ (by decide +kernel) fun t hf y => ?_
  blk_simp
  rw [after0_10]
  obtain ⟨r, e, rfl⟩ : ∃ (r : Fin 512) (e : Fin 1024), y = ix2 r e :=
    ⟨y 0, y 1, by funext k; fin_cases k <;> rfl⟩
  rw [emb10]
  exact (congrFun (out_eq (iblk m c 0 t) (iblk m c 1 t) (iblk m c 2 t) (iblk m c 3 t) (iblk m c 4 t) (iblk m c 5 t) (iblk m c 6 t) (iblk m c 7 t) (iblk m c 8 t)) (ix2 r e)).trans (block_out m c t r e)

end Cert.Combine

end
-- ==== Proof.CombineReference.lean ====
/-
  The reference's last step, index by index.
-/
module

public import proofs.«01_k».proof.Proof.Gen.Reference4Ideal.Run
public import proofs.«01_k».proof.Proof.CombineRow
public import Idealize.ShloMosaic.Lib.IdealHost
public import Idealize.ShloMosaic.Lib.Pointwise

@[expose] public section

set_option maxRecDepth 16384

noncomputable section

namespace Cert.CombineRef

open Cert.Reference4Ideal Cert.Reference4Ideal.Gen Cert.MergeRow Cert.CombineRow
open Idealize.ShloMosaic Idealize.ShloMosaic.TcCoe Idealize.SL.Sem Idealize.ShloMosaic.StableHlo

/-- A product with the rows of all sequences, one under the other. -/
def lin (x : FVec Ideal S16x2048x1024 .f32) (w : FVec Ideal S1024x256 .f32) : FVec Ideal S32768x256 .f32 :=
  Host.dotGeneral dot_S32768x1024_S1024x256_S32768x256_1_0_0_1_n_n none (shapeCast _ x shapeCasts_S16x2048x1024_S32768x1024) w

/-- The shared expert's hidden layer. -/
def act (g u : FVec Ideal S32768x256 .f32) : FVec Ideal S32768x256 .f32 :=
  mulf (mulf g (Host.divf (broadcastInDim S32768x256 ![] bcast_S_S32768x256 (constant S_ .f32 0x3F800000#32)) (addf (broadcastInDim S32768x256 ![] bcast_S_S32768x256 (constant S_ .f32 0x3F800000#32)) (Host.exp (Host.negf g))))) u

/-- The chosen experts' outputs, weighted and added up. -/
def routed (y : FVec Ideal S32768x8x1024 .f32) (p : FVec Ideal S32768x8 .f32) : FVec Ideal S32768x1024 .f32 :=
  Host.reduceAdd (mulf y (broadcastInDim S32768x8x1024 ![0, 1, 2] bcast_S32768x8x1_S32768x8x1024_0_1_2 (broadcastInDim S32768x8x1 ![0, 1] bcast_S32768x8_S32768x8x1_0_1 p))) (constant S_ .f32 0x00000000#32) reducesTo_S32768x8x1024_S32768x1024_d1 h_S_

/-- The scaled residual, the shared expert and the chosen experts. -/
def sum (x : FVec Ideal S16x2048x1024 .f32) (h : FVec Ideal S32768x256 .f32) (w : FVec Ideal S256x1024 .f32) (q : FVec Ideal S32768x1024 .f32) : FVec Ideal S16x2048x1024 .f32 :=
  addf (mulf (broadcastInDim S16x2048x1024 ![] bcast_S_S16x2048x1024 (constant S_ .f32 0x3FB504F3#32)) x) (shapeCast _ (addf (Host.dotGeneral dot_S32768x256_S256x1024_S32768x1024_1_0_0_1_n_n none h w) q) shapeCasts_S32768x1024_S16x2048x1024)

/-- The mean of each row. -/
def means (z : FVec Ideal S16x2048x1024 .f32) : FVec Ideal S16x2048x1 .f32 :=
  Host.divf (broadcastInDim S16x2048x1 ![0, 1] bcast_S16x2048_S16x2048x1_0_1 (Host.reduceAdd z (constant S_ .f32 0x00000000#32) reducesTo_S16x2048x1024_S16x2048_d2 h_S_)) (broadcastInDim S16x2048x1 ![] bcast_S_S16x2048x1 (constant S_ .f32 0x44800000#32))

/-- Each row less its mean. -/
def centred (z : FVec Ideal S16x2048x1024 .f32) : FVec Ideal S16x2048x1024 .f32 :=
  subf z (broadcastInDim S16x2048x1024 ![0, 1, 2] bcast_S16x2048x1_S16x2048x1024_0_1_2 (means z))

/-- The norm of each row. -/
def normed (z : FVec Ideal S16x2048x1024 .f32) (g b : FVec Ideal S1024 .f32) : FVec Ideal S16x2048x1024 .f32 :=
  addf (mulf (mulf (centred z) (broadcastInDim S16x2048x1024 ![0, 1, 2] bcast_S16x2048x1_S16x2048x1024_0_1_2 (Host.rsqrt (addf (means (mulf (centred z) (centred z))) (broadcastInDim S16x2048x1 ![] bcast_S_S16x2048x1 (constant S_ .f32 0x3727C5AC#32))))))
    (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 b))

/-- The rows of all sequences, one under the other. -/
def rows (y : FVec Ideal S16x2048x1024 .f32) : FVec Ideal S32768x1024 .f32 :=
  shapeCast _ y shapeCasts_S16x2048x1024_S32768x1024

section

variable (m : (ℓ : Loc nD τ sig) → Buf (Elt Ideal) ℓ) (c : Dev nD)

/-- The rows before the norm. -/
def whole : FVec Ideal S16x2048x1024 .f32 :=
  sum (m ((c.tc : Thread nD τ).loc main_arg0)) (act (lin (m ((c.tc : Thread nD τ).loc main_arg0)) (m ((c.tc : Thread nD τ).loc main_arg5))) (lin (m ((c.tc : Thread nD τ).loc main_arg0)) (m ((c.tc : Thread nD τ).loc main_arg6))))
    (m ((c.tc : Thread nD τ).loc main_arg7)) (routed (m ((c.tc : Thread nD τ).loc main_arg1)) (m ((c.tc : Thread nD τ).loc main_arg2)))

theorem res0_eq : Value.res_main_v37 m c = rows (normed (whole m c) (m ((c.tc : Thread nD τ).loc main_arg3)) (m ((c.tc : Thread nD τ).loc main_arg4))) := rfl

theorem res1_eq : Value.res_main_v38 m c = (rows (normed (whole m c) (m ((c.tc : Thread nD τ).loc main_arg3)) (m ((c.tc : Thread nD τ).loc main_arg4))) : FVec Ideal S32768x1024 .f32) := rfl

end

theorem lin_apply (x : FVec Ideal S16x2048x1024 .f32) (w : FVec Ideal S1024x256 .f32) (n : Fin 32768) (j : Fin 256) :
    lin x w (ix2 n j) = ∑ d : Fin 1024, x (ix3 ⟨n / 2048, by omega⟩ ⟨n % 2048, by omega⟩ d) * w (ix2 d j) := by
  pointwise [lin]

theorem act_apply (g u : FVec Ideal S32768x256 .f32) (n : Fin 32768) (j : Fin 256) :
    act g u (ix2 n j) = g (ix2 n j) * Ideal.logistic (g (ix2 n j)) * u (ix2 n j) := by
  unfold Ideal.logistic
  pointwise [act, Ideal.ofBits_one_f32]

theorem routed_apply (y : FVec Ideal S32768x8x1024 .f32) (p : FVec Ideal S32768x8 .f32) (n : Fin 32768) (e : Fin 1024) :
    routed y p (ix2 n e) = ∑ k : Fin 8, p (ix2 n k) * y (ix3 n k e) := by
  have h : routed y p (ix2 n e) = ∑ k : Fin 8, y (ix3 n k e) * p (ix2 n k) := by pointwise [routed]
  rw [h]
  exact Finset.sum_congr rfl fun k _ => mul_comm _ _

theorem sum_apply (x : FVec Ideal S16x2048x1024 .f32) (h : FVec Ideal S32768x256 .f32) (w : FVec Ideal S256x1024 .f32) (q : FVec Ideal S32768x1024 .f32)
    (s : Fin 16) (t : Fin 2048) (e : Fin 1024) : sum x h w q (ix3 s t e)
      = alpha * x (ix3 s t e) + ((∑ j : Fin 256, h (ix2 ⟨s * 2048 + t, by omega⟩ j) * w (ix2 j e)) + q (ix2 ⟨s * 2048 + t, by omega⟩ e)) := by
  unfold alpha
  pointwise [sum]

theorem means_apply (z : FVec Ideal S16x2048x1024 .f32) (s : Fin 16) (t : Fin 2048) :
    means z (ix3 s t 0) = mean fun d => z (ix3 s t d) := by
  unfold mean width
  pointwise [means]

theorem centred_apply (z : FVec Ideal S16x2048x1024 .f32) (s : Fin 16) (t : Fin 2048) (e : Fin 1024) :
    centred z (ix3 s t e) = z (ix3 s t e) - mean fun d => z (ix3 s t d) := by
  pointwise [centred, means_apply]

theorem normed_apply (z : FVec Ideal S16x2048x1024 .f32) (g b : FVec Ideal S1024 .f32) (s : Fin 16) (t : Fin 2048) (e : Fin 1024) :
    normed z g b (ix3 s t e) = normRow (fun d => z (ix3 s t d)) (g (ix1 e)) (b (ix1 e)) e := by
  have h := means_apply (mulf (centred z) (centred z)) s t
  have h2 : (fun d : Fin 1024 => mulf (centred z) (centred z) (ix3 s t d)) = fun d => (z (ix3 s t d) - mean fun d => z (ix3 s t d)) * (z (ix3 s t d) - mean fun d => z (ix3 s t d)) := by
    funext d
    pointwise [centred_apply]
  rw [h2] at h
  unfold normRow eps
  pointwise [normed, centred_apply, h]
  rfl

theorem rows_apply (y : FVec Ideal S16x2048x1024 .f32) (n : Fin 32768) (e : Fin 1024) :
    rows y (ix2 n e) = y (ix3 ⟨n / 2048, by omega⟩ ⟨n % 2048, by omega⟩ e) := by
  pointwise [rows]

end Cert.CombineRef

end
-- ==== Proof.CombineEqual.lean ====
/-
  The last step leaves what the reference computes.
-/
module

public import proofs.«01_k».proof.Proof.CombineFinal
public import proofs.«01_k».proof.Proof.CombineReference

@[expose] public section

set_option maxRecDepth 16384

noncomputable section

namespace Cert.Combine

open Cert.Kernel4Ideal Cert.Kernel4Ideal.Gen Cert.MergeRow Cert.CombineRow
open Idealize.ShloMosaic Idealize.ShloMosaic.TcCoe Idealize.SL.Sem

variable (m : (ℓ : Loc nD τ sig) → Buf (Elt Ideal) ℓ) (c : Dev nD)

/-- The reference's rows before the norm, of the kernel's arguments. -/
def refWhole : FVec Ideal S16x2048x1024 .f32 :=
  CombineRef.sum (argX m c) (CombineRef.act (CombineRef.lin (argX m c) (argG m c)) (CombineRef.lin (argX m c) (argU m c))) (argD m c)
    (CombineRef.routed (argY m c) (argTop m c))

theorem zRow_eq (n : Fin 32768) :
    zRow m c n = fun d => refWhole m c (ix3 ⟨n / 2048, by omega⟩ ⟨n % 2048, by omega⟩ d) := by
  funext e
  have h : (n : ℕ) / 2048 * 2048 + n % 2048 = n := by omega
  have h1 : (2 * (n : ℕ) + e / 512) / 2 = n := by omega
  have h2 : (2 * (n : ℕ) + e / 512) % 2 * 512 + e % 512 = e := by omega
  unfold refWhole zRow hiddenCol before
  rw [CombineRef.sum_apply]
  simp only [CombineRef.act_apply, CombineRef.lin_apply, CombineRef.routed_apply, hX_apply, hXb_apply, hG_apply, hU_apply, hD_apply,
    hY_apply, hTop_apply, h, h1, h2]

theorem final_eq : final m c = CombineRef.rows (CombineRef.normed (refWhole m c) (argGain m c) (argShift m c)) := by
  funext i
  obtain ⟨n, e, rfl⟩ : ∃ (n : Fin 32768) (e : Fin 1024), i = ix2 n e :=
    ⟨i 0, i 1, by funext k; fin_cases k <;> rfl⟩
  rw [CombineRef.rows_apply, CombineRef.normed_apply, ← zRow_eq, ← hGain_apply, ← hShift_apply]
  rfl

end Cert.Combine

end
-- ==== Proof.PrepPre.lean ====
/-
  The precondition of the projections read back: the rows, the input projection, the queries' gain and the queries' up projection are
  real numbers.
-/
module

public import proofs.«01_k».proof.Pre_finite_rows
public import proofs.«01_k».proof.Proof.Pre

@[expose] public section

noncomputable section

namespace Cert.PrepPre

open Cert.Pre_finite_rows Idealize.ShloMosaic

theorem facts : Cert.Pre_finite_rows.Facts where
  bcast_S_S16x2048x1024 := by decide
  reducesTo_S16x2048x1024_S_d0_1_2 := by decide
  h_S_ := by decide
  bcast_S_S1024x5028 := by decide
  reducesTo_S1024x5028_S_d0_1 := by decide
  bcast_S_S256 := by decide
  reducesTo_S256_S_d0 := by decide
  bcast_S_S256x768 := by decide
  reducesTo_S256x768_S_d0_1 := by decide

theorem real [Facts] (x : FVec Ideal S16x2048x1024 .f32) (w : FVec Ideal S1024x5028 .f32) (g : FVec Ideal S256 .f32)
    (u : FVec Ideal S256x768 .f32) (g' : FVec Ideal S128 .f32) (u' : FVec Ideal S128x1024 .f32) (b : FVec Ideal S4 .f32)
    (h : fn x w g u g' u' b = fun _ => 1#1) :
    (∀ i, ∃ r : ℝ, x i = r) ∧ (∀ i, ∃ r : ℝ, w i = r) ∧ (∀ i, ∃ r : ℝ, g i = r) ∧ (∀ i, ∃ r : ℝ, u i = r) := by
  haveI := MlaPre.facts
  have e := congrFun h ix0
  unfold fn fn_part1 at e
  obtain ⟨e, e3⟩ := IntOp.andi_eq_one.1 e
  obtain ⟨e, e2⟩ := IntOp.andi_eq_one.1 e
  obtain ⟨e0, e1⟩ := IntOp.andi_eq_one.1 e
  exact ⟨MlaPre.finite_all _ _ _ _ _ e0, MlaPre.finite_all _ _ _ _ _ e1, MlaPre.finite_all _ _ _ _ _ e2, MlaPre.finite_all _ _ _ _ _ e3⟩

end Cert.PrepPre

end
-- ==== Proof.PrepRow.lean ====
/-
  One row of the projections with rotary embedding: a latent normed by its root mean square.
-/
module

public import Idealize.ShloMosaic.Lib.Pointwise
public import Idealize.ShloMosaic.Lib.IdealHost

@[expose] public section

noncomputable section

namespace Cert.PrepRow

open Idealize.ShloMosaic

/-- What is added to the mean square. -/
def eps : EReal := Ideal.ofBits FTy.f32 0x358637BD#32

/-- A row over its root mean square, times a gain. -/
def normed {n : ℕ} (count : EReal) (l g : Fin n → EReal) (i : Fin n) : EReal :=
  l i * Ideal.rsqrt (Ideal.div (∑ j, l j * l j) count + eps) * g i

/-- The angle of position `t` in the pair of rotary columns `j` and `j + 16`. -/
def angle (t j : ℕ) : EReal :=
  (FloatOps.sitofp FTy.f32 (BitVec.ofNat 32 t) : Ideal .f32) * Ideal.pow (Ideal.ofBits FTy.f32 0x461C4000#32)
    (Ideal.div (-(FloatOps.sitofp FTy.f32 (BitVec.ofNat 32 j) : Ideal .f32)) (Ideal.ofBits FTy.f32 0x41800000#32))

/-- The logarithm of the sigmoid, as both programs spell it. -/
def logSigmoid (z : EReal) : EReal := -(max (-z) 0 + Ideal.log1p (Ideal.exp (-(FloatOps.absf (-z : Ideal .f32) : Ideal .f32))))

end Cert.PrepRow

end
-- ==== Proof.PrepBlock.lean ====
/-
  What one grid point of the projections with rotary embedding stores: 512 rows of queries, keys, values and forget gates.
-/
module

public import proofs.«01_k».proof.Proof.Gen.Kernel5Ideal.Frame
public import proofs.«01_k».proof.Proof.PrepRow

@[expose] public section

set_option maxRecDepth 16384

noncomputable section

namespace Cert.Prep

open Cert.Kernel5Ideal Cert.Kernel5Ideal.Gen Cert.PrepRow
open Idealize.ShloMosaic Idealize.ShloMosaic.TcCoe Idealize.SL.Sem

theorem hz : (![0, 0] : Fin 2 → Nat) = fun _ => 0 := by funext i; fin_cases i <;> rfl

/-- One in the first 64 of 128 columns, zero after. -/
def plain (i : Fin 128) : EReal := if (i : ℕ) < 64 then 1 else 0

section

variable (x : FVec Ideal S512x1024 .bf16) (w : FVec Ideal S1024x768 .bf16)

theorem small_apply (r : Fin 512) (e : Fin 768) : (k0_pay2 (F := Ideal) x w (ix2 r e) : EReal) = ∑ d : Fin 1024, x (ix2 r d) * w (ix2 d e) := by
  pointwise [k0_pay2]

theorem ropeA_apply (r : Fin 512) (e : Fin 128) : (k0_pay3 (F := Ideal) x w (ix2 r e) : EReal) = ∑ d : Fin 1024, x (ix2 r d) * w (ix2 d ⟨384 + e, by omega⟩) := by
  pointwise [k0_pay2, k0_pay3]

theorem ropeB_apply (r : Fin 512) (e : Fin 128) : (k0_pay4 (F := Ideal) x w (ix2 r e) : EReal) = ∑ d : Fin 1024, x (ix2 r d) * w (ix2 d ⟨512 + e, by omega⟩) := by
  pointwise [k0_pay2, k0_pay4]

theorem query_apply (g : FVec Ideal S1x256 .f32) (r : Fin 512) (e : Fin 256) : (k0_pay6 (F := Ideal) x w g (ix2 r e) : EReal)
    = normed (Ideal.ofBits FTy.f32 0x43800000#32) (fun e : Fin 256 => ∑ d : Fin 1024, x (ix2 r d) * w (ix2 d ⟨e, by omega⟩)) (fun e => g (ix2 0 e)) e := by
  unfold normed eps
  pointwise [k0_pay2, k0_pay6]

theorem key_apply (g : FVec Ideal S1x128 .f32) (r : Fin 512) (e : Fin 128) : (k0_pay7 (F := Ideal) x w g (ix2 r e) : EReal)
    = normed (Ideal.ofBits FTy.f32 0x43000000#32) (fun e : Fin 128 => ∑ d : Fin 1024, x (ix2 r d) * w (ix2 d ⟨256 + e, by omega⟩)) (fun e => g (ix2 0 e)) e := by
  unfold normed eps
  pointwise [k0_pay2, k0_pay7]

end

/-- Eight equal pieces of 128 columns side by side. -/
theorem eighth (f : Fin 128 → EReal) (e : Fin 1024) :
    (if h : (e : ℕ) < 128 then f ⟨e, h⟩
      else if h : (e : ℕ) - 128 < 128 then f ⟨e - 128, h⟩
      else if h : (e : ℕ) - 128 - 128 < 128 then f ⟨e - 128 - 128, h⟩
      else if h : (e : ℕ) - 128 - 128 - 128 < 128 then f ⟨e - 128 - 128 - 128, h⟩
      else if h : (e : ℕ) - 128 - 128 - 128 - 128 < 128 then f ⟨e - 128 - 128 - 128 - 128, h⟩
      else if h : (e : ℕ) - 128 - 128 - 128 - 128 - 128 < 128 then f ⟨e - 128 - 128 - 128 - 128 - 128, h⟩
      else if h : (e : ℕ) - 128 - 128 - 128 - 128 - 128 - 128 < 128 then f ⟨e - 128 - 128 - 128 - 128 - 128 - 128, h⟩
      else f ⟨e - 128 - 128 - 128 - 128 - 128 - 128 - 128, by omega⟩) = f ⟨e % 128, by omega⟩ := by
  split_ifs <;> exact congrArg f (Fin.ext (by simp only; omega))

theorem plain_word (i : Fin 128) : (FloatOps.sitofp FTy.f32 (BitVec.setWidth 32 (IntOp.cmpi CmpIPredicate.slt (BitVec.ofNat 32 (i : ℕ)) 64#32)) : Ideal .f32)
    = plain i := by
  have h : ∀ i : Fin 128, (BitVec.setWidth 32 (IntOp.cmpi CmpIPredicate.slt (BitVec.ofNat 32 (i : ℕ)) 64#32)).toInt = if (i : ℕ) < 64 then 1 else 0 := by
    decide +kernel
  show (((BitVec.toInt (BitVec.setWidth 32 (IntOp.cmpi CmpIPredicate.slt (BitVec.ofNat 32 (i : ℕ)) 64#32)) : ℤ) : ℝ) : EReal) = _
  rw [h i]
  unfold plain
  split_ifs <;> norm_num

theorem gate_apply (z : FVec Ideal S512x128 .f32) (b : FVec Ideal S1x128 .f32) (r : Fin 512) (e : Fin 128) :
    (k0_pay1 (F := Ideal) z b (ix2 r e) : EReal) = logSigmoid (z (ix2 r e) + b (ix2 0 e)) := by
  pointwise [k0_pay1]
  rw [if_neg (not_not.2 rfl)]
  simp only [zero_sub]
  rfl

theorem forget_apply (x : FVec Ideal S512x1024 .bf16) (w : FVec Ideal S1024x768 .bf16) (r : Fin 512) (e : Fin 128) :
    (k0_pay5 (F := Ideal) x w (ix2 r e) : EReal) = ∑ d : Fin 1024, x (ix2 r d) * w (ix2 d ⟨640 + e, by omega⟩) := by
  pointwise [k0_pay2, k0_pay5]

theorem outV_apply (k : FVec Ideal S512x128 .bf16) (w : FVec Ideal S128x512 .bf16) (r : Fin 512) (e : Fin 512) :
    k0_pay12 k w (ix2 r e) = ∑ d : Fin 128, k (ix2 r d) * w (ix2 d e) := by
  pointwise [k0_pay12]

theorem outK_apply (a b : FVec Ideal S512x128 .f32) (k : FVec Ideal S512x128 .bf16) (co si : FVec Ideal S512x128 .f32)
    (w : FVec Ideal S128x1024 .bf16) (r : Fin 512) (e : Fin 1024) :
    k0_pay11 a b k (k0_pay8 co) si w (ix2 r e) = (∑ d : Fin 128, k (ix2 r d) * w (ix2 d e))
      + (a (ix2 r ⟨e % 128, by omega⟩) * co (ix2 r ⟨e % 128, by omega⟩) + b (ix2 r ⟨e % 128, by omega⟩) * si (ix2 r ⟨e % 128, by omega⟩)) := by
  pointwise [k0_pay11, k0_pay8, k0_pay9]
  refine congrArg _ ?_
  exact eighth (fun i => a (ix2 r i) * co (ix2 r i) + b (ix2 r i) * si (ix2 r i)) e

theorem outQ_apply (q : FVec Ideal S512x256 .bf16) (co si : FVec Ideal S512x128 .f32)
    (wa wb : FVec Ideal S256x1024 .bf16) (r : Fin 512) (e : Fin 1024) :
    k0_pay10 q (k0_pay8 co) si wa wb (ix2 r e)
      = (∑ d : Fin 256, q (ix2 r d) * wa (ix2 d e)) * (co (ix2 r ⟨e % 128, by omega⟩) + plain ⟨e % 128, by omega⟩)
        + (∑ d : Fin 256, q (ix2 r d) * wb (ix2 d e)) * si (ix2 r ⟨e % 128, by omega⟩) := by
  pointwise [k0_pay10, k0_pay8, k0_pay9]
  refine congrArg₂ (· + ·) (congrArg _ ?_) (congrArg _ ?_)
  · rw [← plain_word]
    exact eighth (fun i => co (ix2 r i) + ((FloatOps.sitofp FTy.f32 (BitVec.setWidth 32 (IntOp.cmpi CmpIPredicate.slt (BitVec.ofNat 32 (i : ℕ)) 64#32)) : Ideal .f32))) e
  · exact eighth (fun i => si (ix2 r i)) e

section

variable (x0 : FVec Ideal S512x1024 .bf16) (x1 : FVec Ideal S1024x768 .bf16) (x2 : FVec Ideal S1x256 .f32) (x3 : FVec Ideal S1x128 .f32)
  (x4 x5 : FVec Ideal S256x1024 .bf16) (x6 : FVec Ideal S128x1024 .bf16) (x7 : FVec Ideal S128x512 .bf16) (x8 x9 : FVec Ideal S512x128 .f32)
  (x10 : FVec Ideal S1x128 .f32)

theorem whole0 : (View.ld (Val := Elt Ideal) (e' := .bf16) x0 r0_0 : FVec Ideal S512x1024 .bf16) = x0 := View.ld_unit_zero (S := S512x1024) (off := ![0, 0]) hz _ _
theorem whole1 : (View.ld (Val := Elt Ideal) (e' := .bf16) x1 r0_1 : FVec Ideal S1024x768 .bf16) = x1 := View.ld_unit_zero (S := S1024x768) (off := ![0, 0]) hz _ _
theorem whole2 : (View.ld (Val := Elt Ideal) (e' := .f32) x2 r0_2 : FVec Ideal S1x256 .f32) = x2 := View.ld_unit_zero (S := S1x256) (off := ![0, 0]) hz _ _
theorem whole3 : (View.ld (Val := Elt Ideal) (e' := .f32) x3 r0_3 : FVec Ideal S1x128 .f32) = x3 := View.ld_unit_zero (S := S1x128) (off := ![0, 0]) hz _ _
theorem whole8 : (View.ld (Val := Elt Ideal) (e' := .f32) x8 r0_4 : FVec Ideal S512x128 .f32) = x8 := View.ld_unit_zero (S := S512x128) (off := ![0, 0]) hz _ _
theorem whole4 : (View.ld (Val := Elt Ideal) (e' := .bf16) x4 r0_5 : FVec Ideal S256x1024 .bf16) = x4 := View.ld_unit_zero (S := S256x1024) (off := ![0, 0]) hz _ _
theorem whole6 : (View.ld (Val := Elt Ideal) (e' := .bf16) x6 r0_6 : FVec Ideal S128x1024 .bf16) = x6 := View.ld_unit_zero (S := S128x1024) (off := ![0, 0]) hz _ _
theorem whole7 : (View.ld (Val := Elt Ideal) (e' := .bf16) x7 r0_7 : FVec Ideal S128x512 .bf16) = x7 := View.ld_unit_zero (S := S128x512) (off := ![0, 0]) hz _ _

/-- The latents of a block's rows, normed. -/
def latQ (r : Fin 512) : Fin 256 → EReal :=
  normed (Ideal.ofBits FTy.f32 0x43800000#32) (fun e : Fin 256 => ∑ d : Fin 1024, x0 (ix2 r d) * x1 (ix2 d ⟨e, by omega⟩)) (fun e => x2 (ix2 0 e))
def latK (r : Fin 512) : Fin 128 → EReal :=
  normed (Ideal.ofBits FTy.f32 0x43000000#32) (fun e : Fin 128 => ∑ d : Fin 1024, x0 (ix2 r d) * x1 (ix2 d ⟨256 + e, by omega⟩)) (fun e => x3 (ix2 0 e))

theorem q_out (r : Fin 512) (e : Fin 1024) : (out0_11 (F := Ideal) x0 x1 x2 x3 x4 x5 x6 x7 x8 x9 x10 : FVec Ideal S512x1024 .bf16) (ix2 r e)
    = (∑ d : Fin 256, latQ x0 x1 x2 r d * x4 (ix2 d e)) * (x8 (ix2 r ⟨e % 128, by omega⟩) + plain ⟨e % 128, by omega⟩)
        + (∑ d : Fin 256, latQ x0 x1 x2 r d * x5 (ix2 d e)) * x9 (ix2 r ⟨e % 128, by omega⟩) := by
  unfold out0_11 k0_pay14
  rw [View.canon_unit_zero hz, whole0, whole1, whole2, whole8, whole8, whole4, whole4, outQ_apply]
  simp only [query_apply]
  rfl

theorem k_out (r : Fin 512) (e : Fin 1024) : (out0_12 (F := Ideal) x0 x1 x2 x3 x4 x5 x6 x7 x8 x9 x10 : FVec Ideal S512x1024 .bf16) (ix2 r e)
    = (∑ d : Fin 128, latK x0 x1 x3 r d * x6 (ix2 d e))
      + ((∑ d : Fin 1024, x0 (ix2 r d) * x1 (ix2 d ⟨384 + e % 128, by omega⟩)) * x8 (ix2 r ⟨e % 128, by omega⟩)
        + (∑ d : Fin 1024, x0 (ix2 r d) * x1 (ix2 d ⟨512 + e % 128, by omega⟩)) * x9 (ix2 r ⟨e % 128, by omega⟩)) := by
  unfold out0_12 k0_pay14 k0_pay13
  rw [View.canon_unit_zero hz, whole0, whole1, whole3, whole8, whole8, whole6, outK_apply]
  simp only [key_apply, ropeA_apply, ropeB_apply]
  rfl

theorem v_out (r : Fin 512) (e : Fin 512) : (out0_13 (F := Ideal) x0 x1 x2 x3 x4 x5 x6 x7 x8 x9 x10 : FVec Ideal S512x512 .bf16) (ix2 r e)
    = ∑ d : Fin 128, latK x0 x1 x3 r d * x7 (ix2 d e) := by
  unfold out0_13 k0_pay13
  rw [View.canon_unit_zero hz, whole0, whole1, whole3, whole7, outV_apply]
  simp only [key_apply]
  rfl

theorem f_out (r : Fin 512) (e : Fin 128) : (out0_14 (F := Ideal) x0 x1 x2 x3 x4 x5 x6 x7 x8 x9 x10 : FVec Ideal S512x128 .f32) (ix2 r e)
    = logSigmoid ((∑ d : Fin 1024, x0 (ix2 r d) * x1 (ix2 d ⟨640 + e, by omega⟩)) + x10 (ix2 0 e)) := by
  unfold out0_14
  rw [View.canon_unit_zero hz, whole0, whole1, whole3, gate_apply, forget_apply]

end

end Cert.Prep

end
-- ==== Proof.PrepHost.lean ====
/-
  The arrays that the projections with rotary embedding are called on, index by index.
-/
module

public import proofs.«01_k».proof.Proof.Gen.Kernel5Ideal.Frame
public import proofs.«01_k».proof.Proof.PrepRow
public import Idealize.ShloMosaic.Lib.StableHlo.ReadAt
public import Idealize.ShloMosaic.Lib.Pipeline.ValueKit
public import Idealize.ShloMosaic.Lib.Claim

@[expose] public section

set_option maxRecDepth 16384

noncomputable section

namespace Cert.Prep

open Cert.Kernel5Ideal Cert.Kernel5Ideal.Gen Cert.PrepRow
open Idealize.ShloMosaic Idealize.ShloMosaic.TcCoe Idealize.SL.Sem

variable (m : (ℓ : Loc nD τ sig) → Buf (Elt Ideal) ℓ) (c : Dev nD)

/-- The arguments: the rows, the input projection, the latents' gains and their up projections. -/
def argX : FVec Ideal S16x2048x1024 .f32 := m ((c : Thread nD τ).loc main_arg0)
def argIn : FVec Ideal S1024x5028 .f32 := m ((c : Thread nD τ).loc main_arg1)
def argGq : FVec Ideal S256 .f32 := m ((c : Thread nD τ).loc main_arg2)
def argUq : FVec Ideal S256x768 .f32 := m ((c : Thread nD τ).loc main_arg3)
def argGk : FVec Ideal S128 .f32 := m ((c : Thread nD τ).loc main_arg4)
def argUk : FVec Ideal S128x1024 .f32 := m ((c : Thread nD τ).loc main_arg5)
def argB : FVec Ideal S4 .f32 := m ((c : Thread nD τ).loc main_arg6)

/-- The arrays as the call finds them. -/
def hX : FVec Ideal S32768x1024 .bf16 := V m c main_v66
def hW : FVec Ideal S1024x768 .bf16 := V m c main_v67
def hGq : FVec Ideal S1x256 .f32 := V m c main_v68
def hGk : FVec Ideal S1x128 .f32 := V m c main_v69
def hQa : FVec Ideal S256x1024 .bf16 := V m c main_v70
def hQb : FVec Ideal S256x1024 .bf16 := V m c main_v71
def hK : FVec Ideal S128x1024 .bf16 := V m c main_v72
def hV : FVec Ideal S128x512 .bf16 := V m c main_v73
def hBf : FVec Ideal S1x128 .f32 := V m c main_v39
def hCos : FVec Ideal S2048x128 .f32 := V m c main_v61
def hSin : FVec Ideal S2048x128 .f32 := V m c main_v64

theorem zero_word : (FloatOps.sitofp FTy.f32 0#32 : Ideal .f32) = (0 : EReal) := by
  show (((BitVec.toInt 0#32 : ℤ) : ℝ) : EReal) = 0
  norm_num

theorem hX_apply (n : Fin 32768) (e : Fin 1024) : hX m c (ix2 n e) = argX m c (ix3 ⟨n / 2048, by omega⟩ ⟨n % 2048, by omega⟩ e) := by
  unfold hX V argX
  dsimp only [hostOps0]
  entry_read
  pointwise []

theorem hGq_apply (e : Fin 256) : hGq m c (ix2 0 e) = argGq m c (ix1 e) := by
  unfold hGq V argGq
  dsimp only [hostOps0]
  entry_read
  pointwise []

theorem hGk_apply (e : Fin 128) : hGk m c (ix2 0 e) = argGk m c (ix1 e) := by
  unfold hGk V argGk
  dsimp only [hostOps0]
  entry_read
  pointwise []

theorem hV_apply (d : Fin 128) (e : Fin 512) : hV m c (ix2 d e) = argUk m c (ix2 d ⟨128 * (e / 64) + 64 + e % 64, by omega⟩) := by
  unfold hV V
  after_reads_at
  exact congrArg (fun j => argUk m c (ix2 d j)) (Fin.ext (by first | omega | (simp only; omega)))

theorem hK_low (d : Fin 128) (e : Fin 1024) (h : (e : ℕ) % 128 < 64) : hK m c (ix2 d e) = argUk m c (ix2 d e) := by
  unfold hK V
  after_reads_at
  after_reads_at
  rw [dif_pos h]
  exact congrArg (fun j => argUk m c (ix2 d j)) (Fin.ext (by first | omega | (simp only; omega)))

theorem hK_high (d : Fin 128) (e : Fin 1024) (h : 64 ≤ (e : ℕ) % 128) : hK m c (ix2 d e) = 0 := by
  unfold hK V
  after_reads_at
  after_reads_at
  rw [dif_neg (by omega)]

theorem hQa_low (d : Fin 256) (e : Fin 1024) (h : (e : ℕ) % 128 < 96) :
    hQa m c (ix2 d e) = argUq m c (ix2 d ⟨96 * (e / 128) + e % 128, by omega⟩) := by
  unfold hQa V
  after_reads_at
  after_reads_at
  by_cases h1 : (e : ℕ) % 128 < 64
  · rw [dif_pos h1]
    exact congrArg (fun j => argUq m c (ix2 d j)) (Fin.ext (by first | omega | (simp only; omega)))
  · rw [dif_neg h1, dif_pos (by omega)]
    exact congrArg (fun j => argUq m c (ix2 d j)) (Fin.ext (by first | omega | (simp only; omega)))

theorem hQa_high (d : Fin 256) (e : Fin 1024) (h : 96 ≤ (e : ℕ) % 128) : hQa m c (ix2 d e) = 0 := by
  unfold hQa V
  after_reads_at
  after_reads_at
  rw [dif_neg (by omega), dif_neg (by omega)]

theorem hQb_low (d : Fin 256) (e : Fin 1024) (h : (e : ℕ) % 128 < 64) : hQb m c (ix2 d e) = 0 := by
  unfold hQb V
  after_reads_at
  after_reads_at
  rw [dif_pos h]

theorem hQb_first (d : Fin 256) (e : Fin 1024) (h1 : 64 ≤ (e : ℕ) % 128) (h2 : (e : ℕ) % 128 < 80) :
    hQb m c (ix2 d e) = -argUq m c (ix2 d ⟨96 * (e / 128) + (e % 128 + 16), by omega⟩) := by
  unfold hQb V
  after_reads_at
  after_reads_at
  rw [dif_neg (by omega), dif_pos (by omega), dif_pos (by omega)]
  exact congrArg (fun j => -argUq m c (ix2 d j)) (Fin.ext (by first | omega | (simp only; omega)))

theorem hQb_second (d : Fin 256) (e : Fin 1024) (h1 : 80 ≤ (e : ℕ) % 128) (h2 : (e : ℕ) % 128 < 96) :
    hQb m c (ix2 d e) = argUq m c (ix2 d ⟨96 * (e / 128) + (e % 128 - 16), by omega⟩) := by
  unfold hQb V
  after_reads_at
  after_reads_at
  rw [dif_neg (by omega), dif_pos (by omega), dif_neg (by omega)]
  exact congrArg (fun j => argUq m c (ix2 d j)) (Fin.ext (by first | omega | (simp only; omega)))

theorem hQb_high (d : Fin 256) (e : Fin 1024) (h : 96 ≤ (e : ℕ) % 128) : hQb m c (ix2 d e) = 0 := by
  unfold hQb V
  after_reads_at
  after_reads_at
  rw [dif_neg (by omega), dif_neg (by omega)]

theorem hCos_out (t : Fin 2048) (e : Fin 128) (h : (e : ℕ) < 64 ∨ 96 ≤ (e : ℕ)) : hCos m c (ix2 t e) = 0 := by
  unfold hCos V
  after_reads_at
  after_reads_at
  split_ifs <;> first | omega | rfl

theorem hCos_in (t : Fin 2048) (e : Fin 128) (h1 : 64 ≤ (e : ℕ)) (h2 : (e : ℕ) < 96) :
    hCos m c (ix2 t e) = Ideal.cos (angle t (e % 16)) := by
  unfold hCos V
  after_reads_at
  after_reads_at
  rw [dif_neg (by omega), dif_pos (by omega)]
  split_ifs
  · have i : (e : ℕ) - 64 = e % 16 := by omega
    rw [i]
    rfl
  · have i : (e : ℕ) - 64 - 16 = e % 16 := by omega
    rw [i]
    rfl

theorem hSin_out (t : Fin 2048) (e : Fin 128) (h : (e : ℕ) < 64 ∨ 96 ≤ (e : ℕ)) : hSin m c (ix2 t e) = 0 := by
  unfold hSin V
  after_reads_at
  after_reads_at
  split_ifs <;> first | omega | rfl

theorem hSin_in (t : Fin 2048) (e : Fin 128) (h1 : 64 ≤ (e : ℕ)) (h2 : (e : ℕ) < 96) :
    hSin m c (ix2 t e) = Ideal.sin (angle t (e % 16)) := by
  unfold hSin V
  after_reads_at
  after_reads_at
  rw [dif_neg (by omega), dif_pos (by omega)]
  split_ifs
  · have i : (e : ℕ) - 64 = e % 16 := by omega
    rw [i]
    rfl
  · have i : (e : ℕ) - 64 - 16 = e % 16 := by omega
    rw [i]
    rfl

theorem hW_query (d : Fin 1024) (e : Fin 256) : hW m c (ix2 d ⟨e, by omega⟩) = argIn m c (ix2 d ⟨1540 + e, by omega⟩) := by
  unfold hW V
  after_reads_at
  after_reads_at
  exact congrArg (fun j => argIn m c (ix2 d j)) (Fin.ext (by first | omega | (simp only; omega)))

theorem hW_key (d : Fin 1024) (e : Fin 128) : hW m c (ix2 d ⟨256 + e, by omega⟩) = argIn m c (ix2 d ⟨1796 + e, by omega⟩) := by
  unfold hW V
  after_reads_at
  after_reads_at
  exact congrArg (fun j => argIn m c (ix2 d j)) (Fin.ext (by first | omega | (simp only; omega)))

theorem hW_a (d : Fin 1024) (e : Fin 128) (h1 : 64 ≤ (e : ℕ)) (h2 : (e : ℕ) < 96) : hW m c (ix2 d ⟨384 + e, by omega⟩) = argIn m c (ix2 d ⟨1860 + e, by omega⟩) := by
  unfold hW V
  after_reads_at
  rw [dif_neg (by omega), dif_neg (by omega), dif_neg (by omega), dif_pos (by omega)]
  after_reads_at
  exact congrArg (fun j => argIn m c (ix2 d j)) (Fin.ext (by first | omega | (simp only; omega)))

theorem hW_a_low (d : Fin 1024) (e : Fin 128) (h : (e : ℕ) < 64) : hW m c (ix2 d ⟨384 + e, by omega⟩) = 0 := by
  unfold hW V
  after_reads_at
  rw [dif_neg (by omega), dif_neg (by omega), dif_pos (by omega)]
  after_reads_at

theorem hW_a_high (d : Fin 1024) (e : Fin 128) (h : 96 ≤ (e : ℕ)) : hW m c (ix2 d ⟨384 + e, by omega⟩) = 0 := by
  unfold hW V
  after_reads_at
  rw [dif_neg (by omega), dif_neg (by omega), dif_neg (by omega), dif_neg (by omega), dif_pos (by omega)]
  after_reads_at

theorem hW_b_first (d : Fin 1024) (e : Fin 128) (h1 : 64 ≤ (e : ℕ)) (h2 : (e : ℕ) < 80) : hW m c (ix2 d ⟨512 + e, by omega⟩) = -argIn m c (ix2 d ⟨1876 + e, by omega⟩) := by
  unfold hW V
  after_reads_at
  rw [dif_neg (by omega), dif_neg (by omega), dif_neg (by omega), dif_neg (by omega), dif_neg (by omega), dif_neg (by omega), dif_pos (by omega)]
  after_reads_at
  rw [dif_pos (by omega)]
  exact congrArg (fun j => -argIn m c (ix2 d j)) (Fin.ext (by first | omega | (simp only; omega)))

theorem hW_b_second (d : Fin 1024) (e : Fin 128) (h1 : 80 ≤ (e : ℕ)) (h2 : (e : ℕ) < 96) : hW m c (ix2 d ⟨512 + e, by omega⟩) = argIn m c (ix2 d ⟨1844 + e, by omega⟩) := by
  unfold hW V
  after_reads_at
  rw [dif_neg (by omega), dif_neg (by omega), dif_neg (by omega), dif_neg (by omega), dif_neg (by omega), dif_neg (by omega), dif_pos (by omega)]
  after_reads_at
  rw [dif_neg (by omega)]
  exact congrArg (fun j => argIn m c (ix2 d j)) (Fin.ext (by first | omega | (simp only; omega)))

theorem hW_gate (d : Fin 1024) (e : Fin 128) (h : (e : ℕ) < 4) : hW m c (ix2 d ⟨640 + e, by omega⟩) = argIn m c (ix2 d ⟨1536 + e, by omega⟩) := by
  unfold hW V
  after_reads_at
  rw [dif_neg (by omega), dif_neg (by omega), dif_neg (by omega), dif_neg (by omega), dif_neg (by omega), dif_neg (by omega), dif_neg (by omega), dif_neg (by omega), dif_pos (by omega)]
  after_reads_at
  exact congrArg (fun j => argIn m c (ix2 d j)) (Fin.ext (by first | omega | (simp only; omega)))

theorem hW_gate_high (d : Fin 1024) (e : Fin 128) (h : 4 ≤ (e : ℕ)) : hW m c (ix2 d ⟨640 + e, by omega⟩) = 0 := by
  unfold hW V
  after_reads_at
  rw [dif_neg (by omega), dif_neg (by omega), dif_neg (by omega), dif_neg (by omega), dif_neg (by omega), dif_neg (by omega), dif_neg (by omega), dif_neg (by omega), dif_neg (by omega)]
  after_reads_at

theorem hBf_low (e : Fin 128) (h : (e : ℕ) < 4) : hBf m c (ix2 0 e) = argB m c (ix1 ⟨e, h⟩) := by
  unfold hBf V
  after_reads_at
  rw [dif_pos (by omega)]
  rfl

theorem hBf_high (e : Fin 128) (h : 4 ≤ (e : ℕ)) : hBf m c (ix2 0 e) = 0 := by
  unfold hBf V
  after_reads_at
  rw [dif_neg (by omega)]
  after_reads_at

end Cert.Prep

end
-- ==== Proof.PrepFinal.lean ====
/-
  The four arrays that the projections with rotary embedding leave: each grid point writes 512 rows, and together the points
  write everything.
-/
module

public import proofs.«01_k».proof.Proof.PrepBlock
public import proofs.«01_k».proof.Proof.PrepHost

@[expose] public section

set_option maxRecDepth 16384

noncomputable section

namespace Cert.Prep

open Cert.Kernel5Ideal Cert.Kernel5Ideal.Gen Cert.PrepRow
open Idealize.ShloMosaic Idealize.ShloMosaic.TcCoe Idealize.SL.Sem

variable (m : (ℓ : Loc nD τ sig) → Buf (Elt Ideal) ℓ) (c : Dev nD)

/-- The latents of row `n`, normed. -/
def rowQ (n : Fin 32768) : Fin 256 → EReal :=
  normed (Ideal.ofBits FTy.f32 0x43800000#32) (fun e : Fin 256 => ∑ d : Fin 1024, hX m c (ix2 n d) * hW m c (ix2 d ⟨e, by omega⟩)) (fun e => hGq m c (ix2 0 e))
def rowK (n : Fin 32768) : Fin 128 → EReal :=
  normed (Ideal.ofBits FTy.f32 0x43000000#32) (fun e : Fin 128 => ∑ d : Fin 1024, hX m c (ix2 n d) * hW m c (ix2 d ⟨256 + e, by omega⟩)) (fun e => hGk m c (ix2 0 e))

/-- Row `n`'s queries, keys, values and forget gates. -/
def outQ (n : Fin 32768) (e : Fin 1024) : EReal :=
  (∑ d : Fin 256, rowQ m c n d * hQa m c (ix2 d e)) * (hCos m c (ix2 ⟨n % 2048, by omega⟩ ⟨e % 128, by omega⟩) + plain ⟨e % 128, by omega⟩)
    + (∑ d : Fin 256, rowQ m c n d * hQb m c (ix2 d e)) * hSin m c (ix2 ⟨n % 2048, by omega⟩ ⟨e % 128, by omega⟩)
def outK (n : Fin 32768) (e : Fin 1024) : EReal :=
  (∑ d : Fin 128, rowK m c n d * hK m c (ix2 d e))
    + ((∑ d : Fin 1024, hX m c (ix2 n d) * hW m c (ix2 d ⟨384 + e % 128, by omega⟩)) * hCos m c (ix2 ⟨n % 2048, by omega⟩ ⟨e % 128, by omega⟩)
      + (∑ d : Fin 1024, hX m c (ix2 n d) * hW m c (ix2 d ⟨512 + e % 128, by omega⟩)) * hSin m c (ix2 ⟨n % 2048, by omega⟩ ⟨e % 128, by omega⟩))
def outV (n : Fin 32768) (e : Fin 512) : EReal := ∑ d : Fin 128, rowK m c n d * hV m c (ix2 d e)
def outF (n : Fin 32768) (e : Fin 128) : EReal :=
  logSigmoid ((∑ d : Fin 1024, hX m c (ix2 n d) * hW m c (ix2 d ⟨640 + e, by omega⟩)) + hBf m c (ix2 0 e))

/-- The four arrays. -/
def finalQ : FVec Ideal S32768x1024 .bf16 := fun i => outQ m c (i 0) (i 1)
def finalK : FVec Ideal S32768x1024 .bf16 := fun i => outK m c (i 0) (i 1)
def finalV : FVec Ideal S32768x512 .bf16 := fun i => outV m c (i 0) (i 1)
def finalF : FVec Ideal S32768x128 .f32 := fun i => outF m c (i 0) (i 1)

theorem pos (t : Fin cfg0.N) : (t : ℕ) < 64 := t.2

theorem idx (t : Fin cfg0.N) : win0_0.index t = ![(t : ℕ), 0] ∧ win0_11.index t = ![(t : ℕ), 0] ∧ win0_12.index t = ![(t : ℕ), 0] ∧ win0_13.index t = ![(t : ℕ), 0] ∧ win0_8.index t = ![(t : ℕ) % 4, 0] ∧ win0_9.index t = ![(t : ℕ) % 4, 0] :=
  (by decide +kernel : ∀ t : Fin grid0.N, win0_0.index t = ![(t : ℕ), 0] ∧ win0_11.index t = ![(t : ℕ), 0] ∧ win0_12.index t = ![(t : ℕ), 0] ∧ win0_13.index t = ![(t : ℕ), 0] ∧ win0_8.index t = ![(t : ℕ) % 4, 0] ∧ win0_9.index t = ![(t : ℕ) % 4, 0]) t

theorem idx' (t : Fin cfg0.N) : win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0]) t

theorem read0 (A : FVec Ideal S32768x1024 .bf16) (t : Fin cfg0.N) (r : Fin 512) (e : Fin 1024) :
    View.read (Elt Ideal) ((cfg0.win 0).blk t).view A (ix2 r e) = A (ix2 ⟨512 * (t : ℕ) + r, by have := pos t; omega⟩ e) := by
  blk_ext [idx t]

theorem block0 (t : Fin cfg0.N) (r : Fin 512) (e : Fin 1024) : iblk m c 0 t (ix2 r e) = hX m c (ix2 ⟨512 * (t : ℕ) + r, by have := pos t; omega⟩ e) :=
  read0 (V m c main_v66) t r e

theorem read1 (A : FVec Ideal S1024x768 .bf16) (t : Fin cfg0.N) (r : Fin 1024) (e : Fin 768) :
    View.read (Elt Ideal) ((cfg0.win 1).blk t).view A (ix2 r e) = A (ix2 r e) := by
  blk_ext [idx' t]

theorem block1 (t : Fin cfg0.N) (r : Fin 1024) (e : Fin 768) : iblk m c 1 t (ix2 r e) = hW m c (ix2 r e) :=
  read1 (V m c main_v67) t r e

theorem read2 (A : FVec Ideal S1x256 .f32) (t : Fin cfg0.N) (r : Fin 1) (e : Fin 256) :
    View.read (Elt Ideal) ((cfg0.win 2).blk t).view A (ix2 r e) = A (ix2 r e) := by
  blk_ext [idx' t]

theorem block2 (t : Fin cfg0.N) (r : Fin 1) (e : Fin 256) : iblk m c 2 t (ix2 r e) = hGq m c (ix2 r e) :=
  read2 (V m c main_v68) t r e

theorem read3 (A : FVec Ideal S1x128 .f32) (t : Fin cfg0.N) (r : Fin 1) (e : Fin 128) :
    View.read (Elt Ideal) ((cfg0.win 3).blk t).view A (ix2 r e) = A (ix2 r e) := by
  blk_ext [idx' t]

theorem block3 (t : Fin cfg0.N) (r : Fin 1) (e : Fin 128) : iblk m c 3 t (ix2 r e) = hGk m c (ix2 r e) :=
  read3 (V m c main_v69) t r e

theorem read4 (A : FVec Ideal S256x1024 .bf16) (t : Fin cfg0.N) (r : Fin 256) (e : Fin 1024) :
    View.read (Elt Ideal) ((cfg0.win 4).blk t).view A (ix2 r e) = A (ix2 r e) := by
  blk_ext [idx' t]

theorem block4 (t : Fin cfg0.N) (r : Fin 256) (e : Fin 1024) : iblk m c 4 t (ix2 r e) = hQa m c (ix2 r e) :=
  read4 (V m c main_v70) t r e

theorem read5 (A : FVec Ideal S256x1024 .bf16) (t : Fin cfg0.N) (r : Fin 256) (e : Fin 1024) :
    View.read (Elt Ideal) ((cfg0.win 5).blk t).view A (ix2 r e) = A (ix2 r e) := by
  blk_ext [idx' t]

theorem block5 (t : Fin cfg0.N) (r : Fin 256) (e : Fin 1024) : iblk m c 5 t (ix2 r e) = hQb m c (ix2 r e) :=
  read5 (V m c main_v71) t r e

theorem read6 (A : FVec Ideal S128x1024 .bf16) (t : Fin cfg0.N) (r : Fin 128) (e : Fin 1024) :
    View.read (Elt Ideal) ((cfg0.win 6).blk t).view A (ix2 r e) = A (ix2 r e) := by
  blk_ext [idx' t]

theorem block6 (t : Fin cfg0.N) (r : Fin 128) (e : Fin 1024) : iblk m c 6 t (ix2 r e) = hK m c (ix2 r e) :=
  read6 (V m c main_v72) t r e

theorem read7 (A : FVec Ideal S128x512 .bf16) (t : Fin cfg0.N) (r : Fin 128) (e : Fin 512) :
    View.read (Elt Ideal) ((cfg0.win 7).blk t).view A (ix2 r e) = A (ix2 r e) := by
  blk_ext [idx' t]

theorem block7 (t : Fin cfg0.N) (r : Fin 128) (e : Fin 512) : iblk m c 7 t (ix2 r e) = hV m c (ix2 r e) :=
  read7 (V m c main_v73) t r e

theorem read8 (A : FVec Ideal S2048x128 .f32) (t : Fin cfg0.N) (r : Fin 512) (e : Fin 128) :
    View.read (Elt Ideal) ((cfg0.win 8).blk t).view A (ix2 r e) = A (ix2 ⟨512 * ((t : ℕ) % 4) + r, by omega⟩ e) := by
  blk_ext [idx t]

theorem block8 (t : Fin cfg0.N) (r : Fin 512) (e : Fin 128) : iblk m c 8 t (ix2 r e) = hCos m c (ix2 ⟨512 * ((t : ℕ) % 4) + r, by omega⟩ e) :=
  read8 (V m c main_v61) t r e

theorem read9 (A : FVec Ideal S2048x128 .f32) (t : Fin cfg0.N) (r : Fin 512) (e : Fin 128) :
    View.read (Elt Ideal) ((cfg0.win 9).blk t).view A (ix2 r e) = A (ix2 ⟨512 * ((t : ℕ) % 4) + r, by omega⟩ e) := by
  blk_ext [idx t]

theorem block9 (t : Fin cfg0.N) (r : Fin 512) (e : Fin 128) : iblk m c 9 t (ix2 r e) = hSin m c (ix2 ⟨512 * ((t : ℕ) % 4) + r, by omega⟩ e) :=
  read9 (V m c main_v64) t r e

theorem rowQ_block (t : Fin cfg0.N) (r : Fin 512) :
    latQ (iblk m c 0 t) (iblk m c 1 t) (iblk m c 2 t) r = rowQ m c ⟨512 * (t : ℕ) + r, by have := pos t; omega⟩ := by
  unfold latQ rowQ
  simp only [block0, block1, block2]

theorem rowK_block (t : Fin cfg0.N) (r : Fin 512) :
    latK (iblk m c 0 t) (iblk m c 1 t) (iblk m c 3 t) r = rowK m c ⟨512 * (t : ℕ) + r, by have := pos t; omega⟩ := by
  unfold latK rowK
  simp only [block0, block1, block3]

theorem turn (t : Fin cfg0.N) (r : Fin 512) : 512 * ((t : ℕ) % 4) + r = (512 * (t : ℕ) + r) % 2048 := by omega

theorem block_outQ (t : Fin cfg0.N) (r : Fin 512) (e : Fin 1024) :
    (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S512x1024 .bf16) (ix2 r e)
      = outQ m c ⟨512 * (t : ℕ) + r, by have := pos t; omega⟩ e := by
  rw [q_out]
  unfold outQ
  simp only [rowQ_block, block4, block5, block8, block9, turn]

theorem emb11 (t : Fin cfg0.N) (r : Fin 512) (e : Fin 1024) : (win0_11.blk t).view.emb (ix2 r e)
      = (ix2 ⟨512 * (t : ℕ) + r, by have := pos t; omega⟩ e : S32768x1024.Idx) := by
  blk_ext [idx t]

theorem arrayQ : (dats m 0 c).arrAt 11 cfg0.N = finalQ m c := by
  refine (dats m 0 c).arrAt_eq_of_covers 11 _ (by decide +kernel) fun t hf y => ?_
  blk_simp
  rw [after0_11]
  obtain ⟨r, e, rfl⟩ : ∃ (r : Fin 512) (e : Fin 1024), y = ix2 r e :=
    ⟨y 0, y 1, by funext k; fin_cases k <;> rfl⟩
  rw [emb11]
  exact block_outQ m c t r e

theorem block_outK (t : Fin cfg0.N) (r : Fin 512) (e : Fin 1024) :
    (out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S512x1024 .bf16) (ix2 r e)
      = outK m c ⟨512 * (t : ℕ) + r, by have := pos t; omega⟩ e := by
  rw [k_out]
  unfold outK
  simp only [rowK_block, block0, block1, block6, block8, block9, turn]

theorem emb12 (t : Fin cfg0.N) (r : Fin 512) (e : Fin 1024) : (win0_12.blk t).view.emb (ix2 r e)
      = (ix2 ⟨512 * (t : ℕ) + r, by have := pos t; omega⟩ e : S32768x1024.Idx) := by
  blk_ext [idx t]

theorem arrayK : (dats m 0 c).arrAt 12 cfg0.N = finalK m c := by
  refine (dats m 0 c).arrAt_eq_of_covers 12 _ (by decide +kernel) fun t hf y => ?_
  blk_simp
  rw [after0_12]
  obtain ⟨r, e, rfl⟩ : ∃ (r : Fin 512) (e : Fin 1024), y = ix2 r e :=
    ⟨y 0, y 1, by funext k; fin_cases k <;> rfl⟩
  rw [emb12]
  exact block_outK m c t r e

theorem block_outV (t : Fin cfg0.N) (r : Fin 512) (e : Fin 512) :
    (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S512x512 .bf16) (ix2 r e)
      = outV m c ⟨512 * (t : ℕ) + r, by have := pos t; omega⟩ e := by
  rw [v_out]
  unfold outV
  simp only [rowK_block, block7]

theorem emb13 (t : Fin cfg0.N) (r : Fin 512) (e : Fin 512) : (win0_13.blk t).view.emb (ix2 r e)
      = (ix2 ⟨512 * (t : ℕ) + r, by have := pos t; omega⟩ e : S32768x512.Idx) := by
  blk_ext [idx t]

theorem arrayV : (dats m 0 c).arrAt 13 cfg0.N = finalV m c := by
  refine (dats m 0 c).arrAt_eq_of_covers 13 _ (by decide +kernel) fun t hf y => ?_
  blk_simp
  rw [after0_13]
  obtain ⟨r, e, rfl⟩ : ∃ (r : Fin 512) (e : Fin 512), y = ix2 r e :=
    ⟨y 0, y 1, by funext k; fin_cases k <;> rfl⟩
  rw [emb13]
  exact block_outV m c t r e

theorem idxF (t : Fin cfg0.N) : win0_14.index t = ![(t : ℕ), 0] ∧ win0_10.index t = ![0, 0] :=
  (by decide +kernel : ∀ t : Fin grid0.N, win0_14.index t = ![(t : ℕ), 0] ∧ win0_10.index t = ![0, 0]) t

theorem read10 (A : FVec Ideal S1x128 .f32) (t : Fin cfg0.N) (r : Fin 1) (e : Fin 128) :
    View.read (Elt Ideal) ((cfg0.win 10).blk t).view A (ix2 r e) = A (ix2 r e) := by
  blk_ext [idxF t]

theorem block10 (t : Fin cfg0.N) (r : Fin 1) (e : Fin 128) : iblk m c 10 t (ix2 r e) = hBf m c (ix2 r e) :=
  read10 (V m c main_v39) t r e

theorem block_outF (t : Fin cfg0.N) (r : Fin 512) (e : Fin 128) :
    (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) : FVec Ideal S512x128 .f32) (ix2 r e)
      = outF m c ⟨512 * (t : ℕ) + r, by have := pos t; omega⟩ e := by
  rw [f_out]
  unfold outF
  simp only [block0, block1, block10]

theorem emb14 (t : Fin cfg0.N) (r : Fin 512) (e : Fin 128) : (win0_14.blk t).view.emb (ix2 r e)
      = (ix2 ⟨512 * (t : ℕ) + r, by have := pos t; omega⟩ e : S32768x128.Idx) := by
  blk_ext [idxF t]

theorem arrayF : (dats m 0 c).arrAt 14 cfg0.N = finalF m c := by
  refine (dats m 0 c).arrAt_eq_of_covers 14 _ (by decide +kernel) fun t hf y => ?_
  blk_simp
  rw [after0_14]
  obtain ⟨r, e, rfl⟩ : ∃ (r : Fin 512) (e : Fin 128), y = ix2 r e :=
    ⟨y 0, y 1, by funext k; fin_cases k <;> rfl⟩
  rw [emb14]
  exact block_outF m c t r e

end Cert.Prep

end
-- ==== Proof.PrepReal.lean ====
/-
  Real rows have real normed latents, and a sum of real products changes sign with one factor.
-/
module

public import proofs.«01_k».proof.Proof.PrepRow
public import proofs.«01_k».proof.Proof.Softmax

@[expose] public section

noncomputable section

namespace Cert.PrepRow

open Idealize.ShloMosaic

theorem eps_real : ∃ z : ℝ, 0 < z ∧ eps = (z : EReal) := by
  refine ⟨_, ?_, by simp [eps, Ideal.ofBits, Ideal.ieee]; rw [← EReal.coe_mul]⟩
  norm_num

theorem count_real : Ideal.ofBits FTy.f32 0x43800000#32 = ((256 : ℝ) : EReal) := by
  simp [Ideal.ofBits, Ideal.ieee]
  rw [← EReal.coe_mul]
  norm_num

theorem real_mul {a b : EReal} (ha : ∃ r : ℝ, a = r) (hb : ∃ r : ℝ, b = r) : ∃ r : ℝ, a * b = r := by
  obtain ⟨a, rfl⟩ := ha
  obtain ⟨b, rfl⟩ := hb
  exact ⟨a * b, (EReal.coe_mul a b).symm⟩

theorem real_sum {n : ℕ} (f : Fin n → EReal) (hf : ∀ i, ∃ r : ℝ, f i = r) : ∃ r : ℝ, ∑ i, f i = r := by
  choose a ha using hf
  exact ⟨∑ i, a i, by simp only [ha, Softmax.sum_coe]⟩

theorem sum_neg {n : ℕ} (f u : Fin n → EReal) (hf : ∀ i, ∃ r : ℝ, f i = r) (hu : ∀ i, ∃ r : ℝ, u i = r) :
    ∑ i, f i * -u i = -∑ i, f i * u i := by
  choose a ha using hf
  choose b hb using hu
  simp only [ha, hb, ← EReal.coe_neg, ← EReal.coe_mul, Softmax.sum_coe, mul_neg, Finset.sum_neg_distrib]

theorem normed_real (l g : Fin 256 → EReal) (hl : ∀ i, ∃ r : ℝ, l i = r) (hg : ∀ i, ∃ r : ℝ, g i = r) (i : Fin 256) :
    ∃ r : ℝ, normed (Ideal.ofBits FTy.f32 0x43800000#32) l g i = r := by
  unfold normed
  refine real_mul (real_mul (hl i) ?_) (hg i)
  choose a ha using hl
  obtain ⟨z, hz, he⟩ := eps_real
  have hs : 0 ≤ ∑ j, a j * a j := Finset.sum_nonneg fun j _ => mul_self_nonneg _
  have hp : 0 < (∑ j, a j * a j) * (256 : ℝ)⁻¹ + z := by positivity
  have hd : Ideal.div (((∑ j, a j * a j : ℝ)) : EReal) ((256 : ℝ) : EReal) = (((∑ j, a j * a j) * (256 : ℝ)⁻¹ : ℝ) : EReal) := by
    unfold Ideal.div
    rw [if_neg (by norm_cast), EReal.coe_mul, EReal.coe_inv]
  rw [count_real, he]
  simp only [ha, ← EReal.coe_mul, Softmax.sum_coe]
  rw [hd, ← EReal.coe_add, Ideal.rsqrt_coe, if_neg (not_lt.2 hp.le), if_neg hp.ne']
  exact ⟨_, rfl⟩

end Cert.PrepRow

end
-- ==== Proof.PrepReference.lean ====
/-
  The reference's projections with rotary embedding, index by index.
-/
module

public import proofs.«01_k».proof.Proof.Gen.Reference5Ideal.Run
public import proofs.«01_k».proof.Proof.PrepRow

@[expose] public section

set_option maxRecDepth 16384

noncomputable section

namespace Cert.PrepRef

open Cert.Reference5Ideal Cert.Reference5Ideal.Gen Cert.PrepRow
open Idealize.ShloMosaic Idealize.ShloMosaic.TcCoe Idealize.SL.Sem Idealize.ShloMosaic.StableHlo

section

variable (x : FVec Ideal S16x2048x1024 .f32) (w : FVec Ideal S1024x5028 .f32)

/-- The rows times one column of the input projection. -/
def col (n : Fin 32768) (j : Fin 5028) : EReal :=
  ∑ d : Fin 1024, x (ix3 ⟨n / 2048, by omega⟩ ⟨n % 2048, by omega⟩ d) * w (ix2 d j)

/-- The latents, normed, and one column of their up projections. -/
def latQ (g : FVec Ideal S256 .f32) (n : Fin 32768) : Fin 256 → EReal :=
  normed (Ideal.ofBits FTy.f32 0x43800000#32) (fun e : Fin 256 => col x w n ⟨1540 + e, by omega⟩) (fun e => g (ix1 e))
def latK (g : FVec Ideal S128 .f32) (n : Fin 32768) : Fin 128 → EReal :=
  normed (Ideal.ofBits FTy.f32 0x43000000#32) (fun e : Fin 128 => col x w n ⟨1796 + e, by omega⟩) (fun e => g (ix1 e))
def colQ (g : FVec Ideal S256 .f32) (u : FVec Ideal S256x768 .f32) (n : Fin 32768) (j : Fin 768) : EReal :=
  ∑ d : Fin 256, latQ x w g n d * u (ix2 d j)
def colK (g : FVec Ideal S128 .f32) (u : FVec Ideal S128x1024 .f32) (n : Fin 32768) (j : Fin 1024) : EReal :=
  ∑ d : Fin 128, latK x w g n d * u (ix2 d j)

/-- The three results. -/
def resQ (g : FVec Ideal S256 .f32) (u : FVec Ideal S256x768 .f32) (n : Fin 32768) (e : Fin 1024) : EReal :=
  if h : (e : ℕ) % 128 < 64 then colQ x w g u n ⟨e / 128 * 96 + e % 128, by omega⟩
  else if h1 : (e : ℕ) % 128 - 64 < 32 then
    (if h2 : (e : ℕ) % 128 - 64 < 16 then
      colQ x w g u n ⟨e / 128 * 96 + (64 + (e % 128 - 64)), by omega⟩ * Ideal.cos (angle (n % 2048) (e % 128 - 64))
        - colQ x w g u n ⟨e / 128 * 96 + (64 + (16 + (e % 128 - 64))), by omega⟩ * Ideal.sin (angle (n % 2048) (e % 128 - 64))
    else
      colQ x w g u n ⟨e / 128 * 96 + (64 + (e % 128 - 64 - 16)), by omega⟩ * Ideal.sin (angle (n % 2048) (e % 128 - 64 - 16))
        + colQ x w g u n ⟨e / 128 * 96 + (64 + (16 + (e % 128 - 64 - 16))), by omega⟩ * Ideal.cos (angle (n % 2048) (e % 128 - 64 - 16)))
  else 0

def resK (g : FVec Ideal S128 .f32) (u : FVec Ideal S128x1024 .f32) (n : Fin 32768) (e : Fin 1024) : EReal :=
  if h : (e : ℕ) % 128 < 64 then colK x w g u n e
  else if h1 : (e : ℕ) % 128 - 64 < 32 then
    (if h2 : (e : ℕ) % 128 - 64 < 16 then
      col x w n ⟨1924 + (e % 128 - 64), by omega⟩ * Ideal.cos (angle (n % 2048) (e % 128 - 64))
        - col x w n ⟨1924 + (16 + (e % 128 - 64)), by omega⟩ * Ideal.sin (angle (n % 2048) (e % 128 - 64))
    else
      col x w n ⟨1924 + (e % 128 - 64 - 16), by omega⟩ * Ideal.sin (angle (n % 2048) (e % 128 - 64 - 16))
        + col x w n ⟨1924 + (16 + (e % 128 - 64 - 16)), by omega⟩ * Ideal.cos (angle (n % 2048) (e % 128 - 64 - 16)))
  else 0

def resV (g : FVec Ideal S128 .f32) (u : FVec Ideal S128x1024 .f32) (n : Fin 32768) (e : Fin 512) : EReal :=
  colK x w g u n ⟨e / 64 * 128 + (64 + e % 64), by omega⟩

end

variable (m : (ℓ : Loc nD τ sig) → Buf (Elt Ideal) ℓ) (c : Dev nD)

theorem q_apply (n : Fin 32768) (e : Fin 1024) : (Value.res_main_v109 (F := Ideal) m c : FVec Ideal S32768x1024 .bf16) (ix2 n e)
    = resQ (m ((c.tc : Thread nD τ).loc main_arg0)) (m ((c.tc : Thread nD τ).loc main_arg1)) (m ((c.tc : Thread nD τ).loc main_arg2))
      (m ((c.tc : Thread nD τ).loc main_arg3)) n e := by
  unfold Value.res_main_v109
  pointwise []
  rfl

theorem k_apply (n : Fin 32768) (e : Fin 1024) : (Value.res_main_v113 (F := Ideal) m c : FVec Ideal S32768x1024 .bf16) (ix2 n e)
    = resK (m ((c.tc : Thread nD τ).loc main_arg0)) (m ((c.tc : Thread nD τ).loc main_arg1)) (m ((c.tc : Thread nD τ).loc main_arg4))
      (m ((c.tc : Thread nD τ).loc main_arg5)) n e := by
  unfold Value.res_main_v113
  pointwise []
  rfl

/-- The values, as the reference computes them. -/
def vals (x : FVec Ideal S16x2048x1024 .f32) (w : FVec Ideal S1024x5028 .f32) (g : FVec Ideal S128 .f32) (u : FVec Ideal S128x1024 .f32) :
    FVec Ideal S32768x512 .bf16 :=
  truncf .bf16 (shapeCast _ (transpose S16x2048x8x64 [0, 2, 1, 3] (extractStridedSlice S16x8x2048x64 ![0, 0, 0, 64] (transpose S16x8x2048x128 [0, 2, 1, 3] (shapeCast _ (Host.dotGeneral dot_S16x2048x128_S128x1024_S16x2048x1024_2_0_01_1_n_n none (mulf (mulf (extractStridedSlice S16x2048x128 ![0, 0, 1796] (Host.dotGeneral dot_S16x2048x1024_S1024x5028_S16x2048x5028_2_0_01_1_n_n none x w) slices_S16x2048x5028_S16x2048x128_0_0_1796) (broadcastInDim S16x2048x128 ![0, 1, 2] bcast_S16x2048x1_S16x2048x128_0_1_2 (Host.rsqrt (addf (Host.divf (broadcastInDim S16x2048x1 ![0, 1] bcast_S16x2048_S16x2048x1_0_1 (Host.reduceAdd (mulf (extractStridedSlice S16x2048x128 ![0, 0, 1796] (Host.dotGeneral dot_S16x2048x1024_S1024x5028_S16x2048x5028_2_0_01_1_n_n none x w) slices_S16x2048x5028_S16x2048x128_0_0_1796) (extractStridedSlice S16x2048x128 ![0, 0, 1796] (Host.dotGeneral dot_S16x2048x1024_S1024x5028_S16x2048x5028_2_0_01_1_n_n none x w) slices_S16x2048x5028_S16x2048x128_0_0_1796)) (constant S_ .f32 0x00000000#32) reducesTo_S16x2048x128_S16x2048_d2 h_S_)) (broadcastInDim S16x2048x1 ![] bcast_S_S16x2048x1 (constant S_ .f32 0x43000000#32))) (broadcastInDim S16x2048x1 ![] bcast_S_S16x2048x1 (constant S_ .f32 0x358637BD#32)))))) (broadcastInDim S16x2048x128 ![0, 1, 2] bcast_S1x1x128_S16x2048x128_0_1_2 (broadcastInDim S1x1x128 ![2] bcast_S128_S1x1x128_2 g))) u) shapeCasts_S16x2048x1024_S16x2048x8x128) transposes_S16x2048x8x128_S16x8x2048x128_0_2_1_3) slices_S16x8x2048x128_S16x8x2048x64_0_0_0_64) transposes_S16x8x2048x64_S16x2048x8x64_0_2_1_3) shapeCasts_S16x2048x8x64_S32768x512) bitsLt_bf16_f32

theorem v_apply (x : FVec Ideal S16x2048x1024 .f32) (w : FVec Ideal S1024x5028 .f32) (g : FVec Ideal S128 .f32) (u : FVec Ideal S128x1024 .f32)
    (n : Fin 32768) (e : Fin 512) : vals x w g u (ix2 n e) = resV x w g u n e := by
  unfold vals
  pointwise []
  rfl

/-- The gates, as the reference computes them. -/
def gates (x : FVec Ideal S16x2048x1024 .f32) (w : FVec Ideal S1024x5028 .f32) (b : FVec Ideal S4 .f32) : FVec Ideal S32768x128 .f32 :=
  shapeCast _ (Host.negf (select (cmpf .une (subf (Host.negf (concatenate S16x2048x128 2 [⟨S16x2048x4, (addf (extractStridedSlice S16x2048x4 ![0, 0, 1536] (Host.dotGeneral dot_S16x2048x1024_S1024x5028_S16x2048x5028_2_0_01_1_n_n none x w) slices_S16x2048x5028_S16x2048x4_0_0_1536) (broadcastInDim S16x2048x4 ![0, 1, 2] bcast_S1x1x4_S16x2048x4_0_1_2 (broadcastInDim S1x1x4 ![2] bcast_S4_S1x1x4_2 b)))⟩, ⟨S16x2048x124, (broadcastInDim S16x2048x124 ![] bcast_S_S16x2048x124 (constant S_ .f32 0x00000000#32))⟩] concatenates_S16x2048x4_S16x2048x124_S16x2048x128_d2)) (broadcastInDim S16x2048x128 ![] bcast_S_S16x2048x128 (constant S_ .f32 0x00000000#32))) (subf (Host.negf (concatenate S16x2048x128 2 [⟨S16x2048x4, (addf (extractStridedSlice S16x2048x4 ![0, 0, 1536] (Host.dotGeneral dot_S16x2048x1024_S1024x5028_S16x2048x5028_2_0_01_1_n_n none x w) slices_S16x2048x5028_S16x2048x4_0_0_1536) (broadcastInDim S16x2048x4 ![0, 1, 2] bcast_S1x1x4_S16x2048x4_0_1_2 (broadcastInDim S1x1x4 ![2] bcast_S4_S1x1x4_2 b)))⟩, ⟨S16x2048x124, (broadcastInDim S16x2048x124 ![] bcast_S_S16x2048x124 (constant S_ .f32 0x00000000#32))⟩] concatenates_S16x2048x4_S16x2048x124_S16x2048x128_d2)) (broadcastInDim S16x2048x128 ![] bcast_S_S16x2048x128 (constant S_ .f32 0x00000000#32)))) (addf (Host.negf (concatenate S16x2048x128 2 [⟨S16x2048x4, (addf (extractStridedSlice S16x2048x4 ![0, 0, 1536] (Host.dotGeneral dot_S16x2048x1024_S1024x5028_S16x2048x5028_2_0_01_1_n_n none x w) slices_S16x2048x5028_S16x2048x4_0_0_1536) (broadcastInDim S16x2048x4 ![0, 1, 2] bcast_S1x1x4_S16x2048x4_0_1_2 (broadcastInDim S1x1x4 ![2] bcast_S4_S1x1x4_2 b)))⟩, ⟨S16x2048x124, (broadcastInDim S16x2048x124 ![] bcast_S_S16x2048x124 (constant S_ .f32 0x00000000#32))⟩] concatenates_S16x2048x4_S16x2048x124_S16x2048x128_d2)) (broadcastInDim S16x2048x128 ![] bcast_S_S16x2048x128 (constant S_ .f32 0x00000000#32))) (addf (maximumf (Host.negf (concatenate S16x2048x128 2 [⟨S16x2048x4, (addf (extractStridedSlice S16x2048x4 ![0, 0, 1536] (Host.dotGeneral dot_S16x2048x1024_S1024x5028_S16x2048x5028_2_0_01_1_n_n none x w) slices_S16x2048x5028_S16x2048x4_0_0_1536) (broadcastInDim S16x2048x4 ![0, 1, 2] bcast_S1x1x4_S16x2048x4_0_1_2 (broadcastInDim S1x1x4 ![2] bcast_S4_S1x1x4_2 b)))⟩, ⟨S16x2048x124, (broadcastInDim S16x2048x124 ![] bcast_S_S16x2048x124 (constant S_ .f32 0x00000000#32))⟩] concatenates_S16x2048x4_S16x2048x124_S16x2048x128_d2)) (broadcastInDim S16x2048x128 ![] bcast_S_S16x2048x128 (constant S_ .f32 0x00000000#32))) (Host.log1p (Host.exp (Host.negf (Host.absf (subf (Host.negf (concatenate S16x2048x128 2 [⟨S16x2048x4, (addf (extractStridedSlice S16x2048x4 ![0, 0, 1536] (Host.dotGeneral dot_S16x2048x1024_S1024x5028_S16x2048x5028_2_0_01_1_n_n none x w) slices_S16x2048x5028_S16x2048x4_0_0_1536) (broadcastInDim S16x2048x4 ![0, 1, 2] bcast_S1x1x4_S16x2048x4_0_1_2 (broadcastInDim S1x1x4 ![2] bcast_S4_S1x1x4_2 b)))⟩, ⟨S16x2048x124, (broadcastInDim S16x2048x124 ![] bcast_S_S16x2048x124 (constant S_ .f32 0x00000000#32))⟩] concatenates_S16x2048x4_S16x2048x124_S16x2048x128_d2)) (broadcastInDim S16x2048x128 ![] bcast_S_S16x2048x128 (constant S_ .f32 0x00000000#32)))))))))) shapeCasts_S16x2048x128_S32768x128

/-- The gates' logits, padded to 128 columns by zeros. -/
def logit (x : FVec Ideal S16x2048x1024 .f32) (w : FVec Ideal S1024x5028 .f32) (b : FVec Ideal S4 .f32) (n : Fin 32768) (e : Fin 128) : EReal :=
  if h : (e : ℕ) < 4 then col x w n ⟨1536 + e, by omega⟩ + b (ix1 ⟨e, h⟩) else 0

theorem gates_apply (x : FVec Ideal S16x2048x1024 .f32) (w : FVec Ideal S1024x5028 .f32) (b : FVec Ideal S4 .f32) (n : Fin 32768) (e : Fin 128) :
    (gates x w b (ix2 n e) : EReal) = logSigmoid (logit x w b n e) := by
  unfold gates
  pointwise []
  rw [if_neg (not_not.2 rfl)]
  rfl

end Cert.PrepRef

end
-- ==== Proof.PrepEqual.lean ====
/-
  The kernel's queries, keys, values and forget gates are the reference's: at an unrotated column the tables are zero, at a rotated one the two
  products of the kernel are the two terms of the rotation, and at a padded column everything is zero.
-/
module

public import proofs.«01_k».proof.Proof.PrepFinal
public import proofs.«01_k».proof.Proof.PrepReal
public import proofs.«01_k».proof.Proof.PrepReference

@[expose] public section

set_option maxRecDepth 16384

noncomputable section

namespace Cert.Prep

open Cert.Kernel5Ideal Cert.Kernel5Ideal.Gen Cert.PrepRow
open Idealize.ShloMosaic Idealize.ShloMosaic.TcCoe Idealize.SL.Sem

variable (m : (ℓ : Loc nD τ sig) → Buf (Elt Ideal) ℓ) (c : Dev nD)

theorem rowQ_eq (n : Fin 32768) : rowQ m c n = PrepRef.latQ (argX m c) (argIn m c) (argGq m c) n := by
  unfold rowQ PrepRef.latQ PrepRef.col
  simp only [hX_apply, hW_query, hGq_apply]

theorem rowK_eq (n : Fin 32768) : rowK m c n = PrepRef.latK (argX m c) (argIn m c) (argGk m c) n := by
  unfold rowK PrepRef.latK PrepRef.col
  simp only [hX_apply, hW_key, hGk_apply]

theorem outV_eq (n : Fin 32768) (e : Fin 512) : outV m c n e = PrepRef.resV (argX m c) (argIn m c) (argGk m c) (argUk m c) n e := by
  unfold outV PrepRef.resV PrepRef.colK
  rw [rowK_eq]
  refine Finset.sum_congr rfl fun d _ => ?_
  rw [hV_apply]
  exact congrArg (fun j => PrepRef.latK (argX m c) (argIn m c) (argGk m c) n d * argUk m c (ix2 d j)) (Fin.ext (by first | omega | (simp only; omega)))

theorem outF_eq (n : Fin 32768) (e : Fin 128) : outF m c n e = logSigmoid (PrepRef.logit (argX m c) (argIn m c) (argB m c) n e) := by
  unfold outF PrepRef.logit PrepRef.col
  refine congrArg logSigmoid ?_
  by_cases h : (e : ℕ) < 4
  · rw [dif_pos h, hBf_low m c e h]
    simp only [hX_apply, hW_gate m c _ e h]
  · rw [dif_neg h, hBf_high m c e (by omega), add_zero]
    exact Finset.sum_eq_zero fun d _ => by rw [hW_gate_high m c d e (by omega), mul_zero]

variable (hx : ∀ i, ∃ r : ℝ, argX m c i = r) (hw : ∀ i, ∃ r : ℝ, argIn m c i = r)
  (hg : ∀ i, ∃ r : ℝ, argGq m c i = r) (hu : ∀ i, ∃ r : ℝ, argUq m c i = r)

include hx hw

theorem latQ_real (hg : ∀ i, ∃ r : ℝ, argGq m c i = r) (n : Fin 32768) (d : Fin 256) : ∃ r : ℝ, PrepRef.latQ (argX m c) (argIn m c) (argGq m c) n d = r :=
  normed_real _ _ (fun _ => real_sum _ fun _ => real_mul (hx _) (hw _)) (fun _ => hg _) d

include hg hu

theorem outQ_eq (n : Fin 32768) (e : Fin 1024) : outQ m c n e = PrepRef.resQ (argX m c) (argIn m c) (argGq m c) (argUq m c) n e := by
  unfold outQ PrepRef.resQ
  rw [rowQ_eq]
  have hl := latQ_real m c hx hw hg n
  by_cases h : (e : ℕ) % 128 < 64
  · rw [dif_pos h, hCos_out m c _ _ (by first | omega | (simp only; omega)), hSin_out m c _ _ (by first | omega | (simp only; omega)), plain, if_pos h,
      zero_add, mul_one, mul_zero, add_zero]
    refine Finset.sum_congr rfl fun d _ => ?_
    rw [hQa_low m c _ _ (by omega)]
    exact congrArg (fun j => PrepRef.latQ (argX m c) (argIn m c) (argGq m c) n d * argUq m c (ix2 d j)) (Fin.ext (by first | omega | (simp only; omega)))
  · rw [dif_neg h]
    by_cases h1 : (e : ℕ) % 128 - 64 < 32
    · have ha : ∑ d, PrepRef.latQ (argX m c) (argIn m c) (argGq m c) n d * hQa m c (ix2 d e)
          = PrepRef.colQ (argX m c) (argIn m c) (argGq m c) (argUq m c) n ⟨96 * (e / 128) + e % 128, by omega⟩ :=
        Finset.sum_congr rfl fun d _ => by rw [hQa_low m c _ _ (by omega)]
      rw [dif_pos h1, ha, hCos_in m c _ _ (by first | omega | (simp only; omega)) (by first | omega | (simp only; omega)),
        hSin_in m c _ _ (by first | omega | (simp only; omega)) (by first | omega | (simp only; omega)), plain, if_neg h, add_zero]
      by_cases h2 : (e : ℕ) % 128 - 64 < 16
      · have hb : ∑ d, PrepRef.latQ (argX m c) (argIn m c) (argGq m c) n d * hQb m c (ix2 d e)
            = -PrepRef.colQ (argX m c) (argIn m c) (argGq m c) (argUq m c) n ⟨96 * (e / 128) + (e % 128 + 16), by omega⟩ := by
          unfold PrepRef.colQ
          rw [← sum_neg _ _ hl (fun d => hu _)]
          exact Finset.sum_congr rfl fun d _ => by rw [hQb_first m c _ _ (by omega) (by omega)]
        rw [dif_pos h2, hb, neg_mul, ← sub_eq_add_neg]
        have i1 : (⟨96 * (e / 128) + e % 128, by omega⟩ : Fin 768) = ⟨e / 128 * 96 + (64 + (e % 128 - 64)), by omega⟩ := Fin.ext (by simp only; omega)
        have i2 : (⟨96 * (e / 128) + (e % 128 + 16), by omega⟩ : Fin 768) = ⟨e / 128 * 96 + (64 + (16 + (e % 128 - 64))), by omega⟩ := Fin.ext (by simp only; omega)
        have i3 : (e : ℕ) % 128 % 16 = e % 128 - 64 := by omega
        rw [i1, i2]
        simp only [i3]
      · have hb : ∑ d, PrepRef.latQ (argX m c) (argIn m c) (argGq m c) n d * hQb m c (ix2 d e)
            = PrepRef.colQ (argX m c) (argIn m c) (argGq m c) (argUq m c) n ⟨96 * (e / 128) + (e % 128 - 16), by omega⟩ :=
          Finset.sum_congr rfl fun d _ => by rw [hQb_second m c _ _ (by omega) (by omega)]
        rw [dif_neg h2, hb, add_comm]
        have i1 : (⟨96 * (e / 128) + e % 128, by omega⟩ : Fin 768) = ⟨e / 128 * 96 + (64 + (16 + (e % 128 - 64 - 16))), by omega⟩ := Fin.ext (by simp only; omega)
        have i2 : (⟨96 * (e / 128) + (e % 128 - 16), by omega⟩ : Fin 768) = ⟨e / 128 * 96 + (64 + (e % 128 - 64 - 16)), by omega⟩ := Fin.ext (by simp only; omega)
        have i3 : (e : ℕ) % 128 % 16 = e % 128 - 64 - 16 := by omega
        rw [i1, i2]
        simp only [i3]
    · rw [dif_neg h1, hCos_out m c _ _ (by first | omega | (simp only; omega)), hSin_out m c _ _ (by first | omega | (simp only; omega)), plain, if_neg h,
        add_zero, mul_zero, mul_zero, add_zero]

omit hg hu

theorem outK_eq (n : Fin 32768) (e : Fin 1024) : outK m c n e = PrepRef.resK (argX m c) (argIn m c) (argGk m c) (argUk m c) n e := by
  unfold outK PrepRef.resK
  rw [rowK_eq]
  by_cases h : (e : ℕ) % 128 < 64
  · rw [dif_pos h, hCos_out m c _ _ (by first | omega | (simp only; omega)), hSin_out m c _ _ (by first | omega | (simp only; omega)),
      mul_zero, mul_zero, add_zero, add_zero]
    exact Finset.sum_congr rfl fun d _ => by rw [hK_low m c _ _ h]
  · have h0 : ∑ d, PrepRef.latK (argX m c) (argIn m c) (argGk m c) n d * hK m c (ix2 d e) = 0 :=
      Finset.sum_eq_zero fun d _ => by rw [hK_high m c _ _ (by omega), mul_zero]
    rw [dif_neg h, h0, zero_add]
    by_cases h1 : (e : ℕ) % 128 - 64 < 32
    · have ha : ∑ d, hX m c (ix2 n d) * hW m c (ix2 d ⟨384 + e % 128, by omega⟩)
          = PrepRef.col (argX m c) (argIn m c) n ⟨1860 + e % 128, by omega⟩ :=
        Finset.sum_congr rfl fun d _ => by
          rw [hX_apply, hW_a m c d ⟨e % 128, by omega⟩ (by first | omega | (simp only; omega)) (by first | omega | (simp only; omega))]
      rw [dif_pos h1, ha, hCos_in m c _ _ (by first | omega | (simp only; omega)) (by first | omega | (simp only; omega)),
        hSin_in m c _ _ (by first | omega | (simp only; omega)) (by first | omega | (simp only; omega))]
      by_cases h2 : (e : ℕ) % 128 - 64 < 16
      · have hb : ∑ d, hX m c (ix2 n d) * hW m c (ix2 d ⟨512 + e % 128, by omega⟩)
            = -PrepRef.col (argX m c) (argIn m c) n ⟨1876 + e % 128, by omega⟩ := by
          unfold PrepRef.col
          rw [← sum_neg _ _ (fun d => hx _) (fun d => hw _)]
          exact Finset.sum_congr rfl fun d _ => by
            rw [hX_apply, hW_b_first m c d ⟨e % 128, by omega⟩ (by first | omega | (simp only; omega)) (by first | omega | (simp only; omega))]
        rw [dif_pos h2, hb, neg_mul, ← sub_eq_add_neg]
        have i1 : (⟨1860 + e % 128, by omega⟩ : Fin 5028) = ⟨1924 + (e % 128 - 64), by omega⟩ := Fin.ext (by simp only; omega)
        have i2 : (⟨1876 + e % 128, by omega⟩ : Fin 5028) = ⟨1924 + (16 + (e % 128 - 64)), by omega⟩ := Fin.ext (by simp only; omega)
        have i3 : (e : ℕ) % 128 % 16 = e % 128 - 64 := by omega
        rw [i1, i2]
        simp only [i3]
      · have hb : ∑ d, hX m c (ix2 n d) * hW m c (ix2 d ⟨512 + e % 128, by omega⟩)
            = PrepRef.col (argX m c) (argIn m c) n ⟨1844 + e % 128, by omega⟩ :=
          Finset.sum_congr rfl fun d _ => by
            rw [hX_apply, hW_b_second m c d ⟨e % 128, by omega⟩ (by first | omega | (simp only; omega)) (by first | omega | (simp only; omega))]
        rw [dif_neg h2, hb, add_comm]
        have i1 : (⟨1860 + e % 128, by omega⟩ : Fin 5028) = ⟨1924 + (16 + (e % 128 - 64 - 16)), by omega⟩ := Fin.ext (by simp only; omega)
        have i2 : (⟨1844 + e % 128, by omega⟩ : Fin 5028) = ⟨1924 + (e % 128 - 64 - 16), by omega⟩ := Fin.ext (by simp only; omega)
        have i3 : (e : ℕ) % 128 % 16 = e % 128 - 64 - 16 := by omega
        rw [i1, i2]
        simp only [i3]
    · rw [dif_neg h1, hCos_out m c _ _ (by first | omega | (simp only; omega)), hSin_out m c _ _ (by first | omega | (simp only; omega)),
        mul_zero, mul_zero, add_zero]

end Cert.Prep

end
-- ==== Proof.lean ====
/-
  The proof of the certificate's claims: the attention kernel, its idealization and the reference run and leave their
  arguments; and at exact arithmetic the attention kernel leaves what the reference leaves, when the queries and the keys
  are real numbers. The same, at any arguments, of the merge (its normed
  rows, and their rounded copy), of the projection to queries, keys and values, and of the last step; and of the projections
  with rotary embedding, when the rows, the input projection and the queries' gain and up projection are real numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equal
public import proofs.«01_k».proof.Proof.Pre
public import proofs.«01_k».proof.Proof.MergeEqual
public import proofs.«01_k».proof.Proof.ProjFinal
public import proofs.«01_k».proof.Proof.CombineEqual
public import proofs.«01_k».proof.Proof.PrepPre
public import proofs.«01_k».proof.Proof.PrepEqual
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Reference3Ideal.Run
public import proofs.«01_k».proof.Proof.Gen.Reference4Ideal.Run
public import Idealize.ShloMosaic.Lib.Bf16PairInverse
public import Idealize.ShloMosaic.Lib.Claim
public import Idealize.ShloMosaic.Lib.Quiescent
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments, and has no counter that could be other than zero. -/
theorem reference_quiescent (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c => (h c).2, sem_eq_zero_of_no_sems rfl r.2⟩) (Cert.ReferenceIdeal.Value.run m g)

/-- The two results. -/
theorem algebraic : algebraic_KernelIdeal_ReferenceIdeal_pre_finite (hPre_finite := MlaPre.facts) := by
  intro m g m' g' hpre hagree
  refine ⟨fun c => Mla.final m c, ?_, ?_⟩
  · exact (θ_run _ _ _).mono (fun r h c => ⟨(h c).1.trans (Mla.array m c), (h c).2⟩) (Cert.KernelIdeal.Value.run_blocks m g)
  · refine (θ_run _ _ _).mono (fun r h c => ⟨(h c).1.trans ?_, (h c).2⟩) (Cert.ReferenceIdeal.Value.run m' g')
    obtain ⟨h0, h1, h2, h3, h4⟩ := hagree c
    obtain ⟨r0, r1, r2, r3⟩ := @MlaPre.real MlaPre.facts _ _ _ _ _ (hpre c)
    rw [MlaRef.res_eq, h0, h1, h2, h3, h4]
    exact (Mla.final_eq m c r0 r1 r2 r3).symm

/-- The merge's reference runs, leaves its arguments, and has no counter that could be other than zero. -/
theorem merge_reference_quiescent (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal)))
      ⟨m, fun _ => 0, g⟩ (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
        ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
        ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
        ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
        ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
        ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
        ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
        ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
        ∧ r.2.sem = fun _ => 0) :=
  (θ_run _ _ _).mono (fun r h => ⟨fun c => (h c).2.2, sem_eq_zero_of_no_sems rfl r.2⟩) (Cert.Reference2Ideal.Value.run m g)

/-- The merge's two results. -/
theorem merge_algebraic : algebraic_Kernel2Ideal_Reference2Ideal := by
  intro m g m' g' _ hagree
  refine ⟨fun c => Merge.final m c, fun c => Merge.finalB m c, ?_, ?_⟩
  · exact (θ_run _ _ _).mono (fun r h c => ⟨(h c).1.trans (Merge.array15 m c), (h c).2.1.trans (Merge.array16 m c),
      (h c).2.2.2.2.2.2.2⟩) (Cert.Kernel2Ideal.Value.run_blocks m g)
  · have key : ∀ c, MergeRef.rows (MergeRef.normed (MergeRef.whole m' c) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)))
        = Merge.final m c := fun c => by
      obtain ⟨h0, h1, h2, h3, h4, h5, h6, h7, h8, h9, h10, h11, h12, h13⟩ := hagree c
      unfold MergeRef.whole
      rw [h0, h1, h2, h3, h4, h5, h6, h7, h8, h9, h10, h11]
      exact (Merge.final_eq m c).symm
    exact (θ_run _ _ _).mono (fun r h c => ⟨(h c).1.trans ((MergeRef.res0_eq m' c).trans (key c)),
      (h c).2.1.trans ((MergeRef.res1_eq m' c).trans (key c)), (h c).2.2⟩) (Cert.Reference2Ideal.Value.run m' g')

/-- The projection's reference runs, leaves its arguments, and has no counter that could be other than zero. -/
theorem proj_reference_quiescent (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal)))
      ⟨m, fun _ => 0, g⟩ (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
        ∧ r.2.sem = fun _ => 0) :=
  (θ_run _ _ _).mono (fun r h => ⟨fun c => (h c).2, sem_eq_zero_of_no_sems rfl r.2⟩) (Cert.Reference3Ideal.Value.run m g)

/-- The projection's result. -/
theorem proj_algebraic : algebraic_Kernel3Ideal_Reference3Ideal := by
  intro m g m' g' _ hagree
  refine ⟨fun c => Proj.final m c, ?_, ?_⟩
  · exact (θ_run _ _ _).mono (fun r h c => ⟨(h c).1.trans (Proj.array m c), (h c).2⟩) (Cert.Kernel3Ideal.Value.run_blocks m g)
  · refine (θ_run _ _ _).mono (fun r h c => ⟨(h c).1.trans ?_, (h c).2⟩) (Cert.Reference3Ideal.Value.run m' g')
    obtain ⟨h0, h1⟩ := hagree c
    rw [h0, h1]
    exact (Proj.final_eq m c).symm

/-- The last step's reference runs, leaves its arguments, and has no counter that could be other than zero. -/
theorem combine_reference_quiescent (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal)))
      ⟨m, fun _ => 0, g⟩ (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
        ∧ r.2.sem = fun _ => 0) :=
  (θ_run _ _ _).mono (fun r h => ⟨fun c => (h c).2.2, sem_eq_zero_of_no_sems rfl r.2⟩) (Cert.Reference4Ideal.Value.run m g)

/-- The last step's two results. -/
theorem combine_algebraic : algebraic_Kernel4Ideal_Reference4Ideal := by
  intro m g m' g' _ hagree
  refine ⟨fun c => Combine.final m c, fun c => Combine.finalB m c, ?_, ?_⟩
  · exact (θ_run _ _ _).mono (fun r h c => ⟨(h c).1.trans (Combine.array9 m c), (h c).2.1.trans (Combine.array10 m c),
      (h c).2.2⟩) (Cert.Kernel4Ideal.Value.run_blocks m g)
  · have key : ∀ c, CombineRef.rows (CombineRef.normed (CombineRef.whole m' c) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)))
        = Combine.final m c := fun c => by
      obtain ⟨h0, h1, h2, h3, h4, h5, h6, h7⟩ := hagree c
      unfold CombineRef.whole
      rw [h0, h1, h2, h3, h4, h5, h6, h7]
      exact (Combine.final_eq m c).symm
    exact (θ_run _ _ _).mono (fun r h c => ⟨(h c).1.trans ((CombineRef.res0_eq m' c).trans (key c)),
      (h c).2.1.trans ((CombineRef.res1_eq m' c).trans (key c)), (h c).2.2⟩) (Cert.Reference4Ideal.Value.run m' g')

/-- The projections' reference runs, leaves its arguments, and has no counter that could be other than zero. -/
theorem prep_reference_quiescent (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal)))
      ⟨m, fun _ => 0, g⟩ (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
        ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
        ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
        ∧ r.2.sem = fun _ => 0) :=
  (θ_run _ _ _).mono (fun r h => ⟨fun c => (h c).2.2.2.2, sem_eq_zero_of_no_sems rfl r.2⟩) (Cert.Reference5Ideal.Value.run m g)

/-- The queries, the keys, the values and the forget gates. -/
theorem prep_algebraic : algebraic_Kernel5Ideal_Reference5Ideal_pre_finite_rows (hPre_finite_rows := PrepPre.facts) := by
  intro m g m' g' hpre hagree
  refine ⟨fun c => Prep.finalQ m c, fun c => Prep.finalK m c, fun c => Prep.finalV m c, fun c => Prep.finalF m c, ?_, ?_⟩
  · exact (θ_run _ _ _).mono (fun r h c => ⟨(h c).1.trans (Prep.arrayQ m c), (h c).2.1.trans (Prep.arrayK m c),
      (h c).2.2.1.trans (Prep.arrayV m c), (h c).2.2.2.1.trans (Prep.arrayF m c), (h c).2.2.2.2⟩) (Cert.Kernel5Ideal.Value.run_blocks m g)
  · have key : ∀ c, Cert.Reference5Ideal.Value.res_main_v109 (F := Ideal) m' c = Prep.finalQ m c
        ∧ Cert.Reference5Ideal.Value.res_main_v113 (F := Ideal) m' c = Prep.finalK m c
        ∧ PrepRef.vals (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) = Prep.finalV m c
        ∧ PrepRef.gates (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg6)) = Prep.finalF m c := fun c => by
      obtain ⟨h0, h1, h2, h3, h4, h5, h6⟩ := hagree c
      obtain ⟨r0, r1, r2, r3⟩ := @PrepPre.real PrepPre.facts _ _ _ _ _ _ _ (hpre c)
      refine ⟨funext fun i => ?_, funext fun i => ?_, funext fun i => ?_, funext fun i => ?_⟩
      · obtain ⟨n, e, rfl⟩ : ∃ n e, i = ix2 n e := ⟨i 0, i 1, by funext k; fin_cases k <;> rfl⟩
        refine (PrepRef.q_apply m' c n e).trans ?_
        rw [h0, h1, h2, h3]
        exact (Prep.outQ_eq m c r0 r1 r2 r3 n e).symm
      · obtain ⟨n, e, rfl⟩ : ∃ n e, i = ix2 n e := ⟨i 0, i 1, by funext k; fin_cases k <;> rfl⟩
        refine (PrepRef.k_apply m' c n e).trans ?_
        rw [h0, h1, h4, h5]
        exact (Prep.outK_eq m c r0 r1 n e).symm
      · obtain ⟨n, e, rfl⟩ : ∃ n e, i = ix2 n e := ⟨i 0, i 1, by funext k; fin_cases k <;> rfl⟩
        refine (PrepRef.v_apply _ _ _ _ n e).trans ?_
        rw [h0, h1, h4, h5]
        exact (Prep.outV_eq m c n e).symm
      · obtain ⟨n, e, rfl⟩ : ∃ n e, i = ix2 n e := ⟨i 0, i 1, by funext k; fin_cases k <;> rfl⟩
        refine (PrepRef.gates_apply _ _ _ n e).trans ?_
        rw [h0, h1, h6]
        exact (Prep.outF_eq m c n e).symm
    exact (θ_run _ _ _).mono (fun r h c => ⟨(h c).1.trans (key c).1, (h c).2.1.trans (key c).2.1,
      (h c).2.2.1.trans (key c).2.2.1, (h c).2.2.2.1.trans (key c).2.2.2,
      (h c).2.2.2.2⟩) (Cert.Reference5Ideal.Value.run m' g')

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, MlaPre.facts, PrepPre.facts,
    fun m g _ => Cert.Kernel.Gen.frame m g,
    fun m g _ => Cert.KernelIdeal.Gen.frame m g,
    fun m g _ => Cert.KernelIdeal.Gen.frame m g,
    fun m g _ => reference_quiescent m g,
    fun m g _ => reference_quiescent m g,
    fun m g _ => Cert.Kernel2.Gen.frame m g,
    fun m g _ => Cert.Kernel2Ideal.Gen.frame m g,
    fun m g _ => merge_reference_quiescent m g,
    fun m g _ => Cert.Kernel3.Gen.frame m g,
    fun m g _ => Cert.Kernel3Ideal.Gen.frame m g,
    fun m g _ => proj_reference_quiescent m g,
    fun m g _ => Cert.Kernel4.Gen.frame m g,
    fun m g _ => Cert.Kernel4Ideal.Gen.frame m g,
    fun m g _ => combine_reference_quiescent m g,
    fun m g _ => Cert.Kernel5.Gen.frame m g,
    fun m g _ => Cert.Kernel5Ideal.Gen.frame m g,
    fun m g _ => Cert.Kernel5Ideal.Gen.frame m g,
    fun m g _ => prep_reference_quiescent m g,
    fun m g _ => prep_reference_quiescent m g,
    trivial,
    algebraic,
    ⟨IdealRules.bf16_pair.bufferStatement _ _, IdealRules.bf16_pair.bufferStatement _ _, IdealRules.bf16_pair.statement _ _, IdealRules.bf16_pack.statement _⟩,
    merge_algebraic,
    trivial,
    proj_algebraic,
    ⟨IdealRules.bf16_pair.statement _ _, IdealRules.bf16_pair.statement _ _⟩,
    combine_algebraic,
    trivial,
    prep_algebraic⟩

end Cert.Proof

end
